-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "neg_log2_e" .f32 0xBFB8AA3B#32 ((-((Real.log 2)⁻¹) : ℝ) : EReal)
  ∧ IdealRules.named_const.Statement Cert.KernelIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x8192 : Shape := ⟨3, ![2, 16384, 8192]⟩
abbrev S2x16384x64 : Shape := ⟨3, ![2, 16384, 64]⟩
abbrev S2x16384x16 : Shape := ⟨3, ![2, 16384, 16]⟩
abbrev S2x16384 : Shape := ⟨2, ![2, 16384]⟩
abbrev S8192x16 : Shape := ⟨2, ![8192, 16]⟩
abbrev S8192 : Shape := ⟨1, ![8192]⟩
abbrev S4x8x2x128x16 : Shape := ⟨5, ![4, 8, 2, 128, 16]⟩
abbrev S4x2x16x8x128 : Shape := ⟨5, ![4, 2, 16, 8, 128]⟩
abbrev S128x1x256 : Shape := ⟨3, ![128, 1, 256]⟩
abbrev S1x8192 : Shape := ⟨2, ![1, 8192]⟩
abbrev S2x4x2x16x8x128 : Shape := ⟨6, ![2, 4, 2, 16, 8, 128]⟩
abbrev S1x256x2048 : Shape := ⟨3, ![1, 256, 2048]⟩
abbrev S1x256x64 : Shape := ⟨3, ![1, 256, 64]⟩
abbrev S1x256x16 : Shape := ⟨3, ![1, 256, 16]⟩
abbrev S1x1x256 : Shape := ⟨3, ![1, 1, 256]⟩
abbrev S1x2048 : Shape := ⟨2, ![1, 2048]⟩
abbrev S1x4x2x16x8x128 : Shape := ⟨6, ![1, 4, 2, 16, 8, 128]⟩
abbrev S16x256x128 : Shape := ⟨3, ![16, 256, 128]⟩
abbrev S2x2080x128 : Shape := ⟨3, ![2, 2080, 128]⟩
abbrev S1x1x128 : Shape := ⟨3, ![1, 1, 128]⟩
abbrev S1x128 : Shape := ⟨2, ![1, 128]⟩
abbrev S128x128 : Shape := ⟨2, ![128, 128]⟩
abbrev S1x128x16 : Shape := ⟨3, ![1, 128, 16]⟩
abbrev S128x16 : Shape := ⟨2, ![128, 16]⟩
abbrev S128x1 : Shape := ⟨2, ![128, 1]⟩
abbrev S1x128x128 : Shape := ⟨3, ![1, 128, 128]⟩
abbrev S32x64 : Shape := ⟨2, ![32, 64]⟩
abbrev S1x32x64 : Shape := ⟨3, ![1, 32, 64]⟩
abbrev S32x128 : Shape := ⟨2, ![32, 128]⟩
abbrev S1x32x128 : Shape := ⟨3, ![1, 32, 128]⟩
abbrev S32x1 : Shape := ⟨2, ![32, 1]⟩
abbrev S1x1x1x8x128 : Shape := ⟨5, ![1, 1, 1, 8, 128]⟩
abbrev S8x128 : Shape := ⟨2, ![8, 128]⟩
abbrev S1x1x1x1x8x128 : Shape := ⟨6, ![1, 1, 1, 1, 8, 128]⟩
abbrev S1x2080x128 : Shape := ⟨3, ![1, 2080, 128]⟩
abbrev S2080x128 : Shape := ⟨2, ![2080, 128]⟩
abbrev S2x4x8x2x128x16 : Shape := ⟨6, ![2, 4, 8, 2, 128, 16]⟩
abbrev S2x8192x16 : Shape := ⟨3, ![2, 8192, 16]⟩

abbrev nBuf : Space → Nat
  | .hbm => 22
  | .vmem => 33
  | .smem => 0
  | _ => 0

abbrev bufTy : (tb : Table) → Fin (tcTables nBuf tb) → BufTy
  | .hbm, ⟨0, _⟩ => ⟨S2x16384x8192, .fp8e4m3⟩
  | .hbm, ⟨1, _⟩ => ⟨S2x16384x64, .f32⟩
  | .hbm, ⟨2, _⟩ => ⟨S2x16384x8192, .fp8e4m3⟩
  | .hbm, ⟨3, _⟩ => ⟨S2x16384x64, .f32⟩
  | .hbm, ⟨4, _⟩ => ⟨S2x16384x16, .fp8e4m3⟩
  | .hbm, ⟨5, _⟩ => ⟨S2x16384, .f32⟩
  | .hbm, ⟨6, _⟩ => ⟨S2x16384x16, .fp8e4m3⟩
  | .hbm, ⟨7, _⟩ => ⟨S2x16384, .f32⟩
  | .hbm, ⟨8, _⟩ => ⟨S2x16384x8192, .bf16⟩
  | .hbm, ⟨9, _⟩ => ⟨S8192x16, .f32⟩
  | .hbm, ⟨10, _⟩ => ⟨S8192, .f32⟩
  | .hbm, ⟨11, _⟩ => ⟨S8192, .f32⟩
  | .hbm, ⟨12, _⟩ => ⟨S4x8x2x128x16, .f32⟩
  | .hbm, ⟨13, _⟩ => ⟨S4x2x16x8x128, .f32⟩
  | .hbm, ⟨14, _⟩ => ⟨S128x1x256, .f32⟩
  | .hbm, ⟨15, _⟩ => ⟨S128x1x256, .f32⟩
  | .hbm, ⟨16, _⟩ => ⟨S1x8192, .f32⟩
  | .hbm, ⟨17, _⟩ => ⟨S1x8192, .f32⟩
  | .hbm, ⟨18, _⟩ => ⟨S2x16384x8192, .bf16⟩
  | .hbm, ⟨19, _⟩ => ⟨S2x4x2x16x8x128, .f32⟩
  | .hbm, ⟨20, _⟩ => ⟨S2x4x8x2x128x16, .f32⟩
  | .hbm, ⟨21, _⟩ => ⟨S2x8192x16, .f32⟩
  | .local _ .vmem, ⟨0, _⟩ => ⟨S1x256x2048, .fp8e4m3⟩
  | .local _ .vmem, ⟨1, _⟩ => ⟨S1x256x2048, .fp8e4m3⟩
  | .local _ .vmem, ⟨2, _⟩ => ⟨S1x256x64, .f32⟩
  | .local _ .vmem, ⟨3, _⟩ => ⟨S1x256x64, .f32⟩
  | .local _ .vmem, ⟨4, _⟩ => ⟨S1x256x2048, .fp8e4m3⟩
  | .local _ .vmem, ⟨5, _⟩ => ⟨S1x256x2048, .fp8e4m3⟩
  | .local _ .vmem, ⟨6, _⟩ => ⟨S1x256x64, .f32⟩
  | .local _ .vmem, ⟨7, _⟩ => ⟨S1x256x64, .f32⟩
  | .local _ .vmem, ⟨8, _⟩ => ⟨S1x256x16, .fp8e4m3⟩
  | .local _ .vmem, ⟨9, _⟩ => ⟨S1x256x16, .fp8e4m3⟩
  | .local _ .vmem, ⟨10, _⟩ => ⟨S1x1x256, .f32⟩
  | .local _ .vmem, ⟨11, _⟩ => ⟨S1x1x256, .f32⟩
  | .local _ .vmem, ⟨12, _⟩ => ⟨S1x256x16, .fp8e4m3⟩
  | .local _ .vmem, ⟨13, _⟩ => ⟨S1x256x16, .fp8e4m3⟩
  | .local _ .vmem, ⟨14, _⟩ => ⟨S1x1x256, .f32⟩
  | .local _ .vmem, ⟨15, _⟩ => ⟨S1x1x256, .f32⟩
  | .local _ .vmem, ⟨16, _⟩ => ⟨S1x256x2048, .bf16⟩
  | .local _ .vmem, ⟨17, _⟩ => ⟨S1x256x2048, .bf16⟩
  | .local _ .vmem, ⟨18, _⟩ => ⟨S4x2x16x8x128, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x256x2048, .bf16⟩
  | .local _ .vmem, ⟨24, _⟩ => ⟨S1x256x2048, .bf16⟩
  | .local _ .vmem, ⟨25, _⟩ => ⟨S1x4x2x16x8x128, .f32⟩
  | .local _ .vmem, ⟨26, _⟩ => ⟨S1x4x2x16x8x128, .f32⟩
  | .local _ .vmem, ⟨27, _⟩ => ⟨S4x2x16x8x128, .f32⟩
  | .local _ .vmem, ⟨28, _⟩ => ⟨S16x256x128, .f32⟩
  | .local _ .vmem, ⟨29, _⟩ => ⟨S16x256x128, .f32⟩
  | .local _ .vmem, ⟨30, _⟩ => ⟨S2x2080x128, .f32⟩
  | .local _ .vmem, ⟨31, _⟩ => ⟨S2x2080x128, .f32⟩
  | .local _ .vmem, ⟨32, _⟩ => ⟨S2x2080x128, .f32⟩
  | _, _ => ⟨S2x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![2, 64, 4], ![false, false, false]⟩

@[reducible] def k0_t1_loop : Scf.Loop 32 :=
  let c0_i32_4 : BitVec 32 := 0#32
  let c8_i32 : BitVec 32 := 8#32
  let v8 : BitVec 32 := Scalar.addi c0_i32_4 c8_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  v334
def k0_off1 (k0_t1 : Fin k0_t1_loop.trips) : Fin 3 → Nat :=
  let c0_456 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v349 : Index := Scalar.indexCast v335
  let c0_457 : Index := 0#32
  ![0, v349.toNat, 0]
def k0_off2 (k0_t1 : Fin k0_t1_loop.trips) : Fin 3 → Nat :=
  let c0_460 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v359 : Index := Scalar.indexCast v335
  let c0_461 : Index := 0#32
  ![0, v359.toNat, 0]
def k0_off3 (k0_t1 : Fin k0_t1_loop.trips) (c0_i32_472 : BitVec 32) : Fin 3 → Nat :=
  let c0_473 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v397 : BitVec 32 := Scalar.addi c0_i32_472 v335
  let v398 : Index := Scalar.indexCast v397
  let c0_474 : Index := 0#32
  ![0, v398.toNat, 0]
def k0_off4 (k0_t1 : Fin k0_t1_loop.trips) : Fin 3 → Nat :=
  let c0_477 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v407 : Index := Scalar.indexCast v335
  let c128 : Index := 128#32
  ![0, v407.toNat, 128]
def k0_off5 (k0_t1 : Fin k0_t1_loop.trips) (c0_i32_488 : BitVec 32) : Fin 3 → Nat :=
  let c1_489 : Index := 1#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v445 : BitVec 32 := Scalar.addi c0_i32_488 v335
  let v446 : Index := Scalar.indexCast v445
  let c0_490 : Index := 0#32
  ![1, v446.toNat, 0]
def k0_off6 (k0_t1 : Fin k0_t1_loop.trips) : Fin 3 → Nat :=
  let c0_493 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v455 : Index := Scalar.indexCast v335
  let c256 : Index := 256#32
  ![0, v455.toNat, 256]
def k0_off7 (k0_t1 : Fin k0_t1_loop.trips) : Fin 3 → Nat :=
  let c0_508 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v503 : Index := Scalar.indexCast v335
  let c384 : Index := 384#32
  ![0, v503.toNat, 384]
def k0_off8 (k0_t1 : Fin k0_t1_loop.trips) : Fin 3 → Nat :=
  let c0_524 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v551 : Index := Scalar.indexCast v335
  let c512 : Index := 512#32
  ![0, v551.toNat, 512]
def k0_off9 (k0_t1 : Fin k0_t1_loop.trips) : Fin 3 → Nat :=
  let c0_539 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v599 : Index := Scalar.indexCast v335
  let c640 : Index := 640#32
  ![0, v599.toNat, 640]
def k0_off10 (k0_t1 : Fin k0_t1_loop.trips) : Fin 3 → Nat :=
  let c0_555 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v647 : Index := Scalar.indexCast v335
  let c768 : Index := 768#32
  ![0, v647.toNat, 768]
def k0_off11 (k0_t1 : Fin k0_t1_loop.trips) : Fin 3 → Nat :=
  let c0_570 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v695 : Index := Scalar.indexCast v335
  let c896 : Index := 896#32
  ![0, v695.toNat, 896]
def k0_off12 (k0_t1 : Fin k0_t1_loop.trips) : Fin 3 → Nat :=
  let c0_586 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v743 : Index := Scalar.indexCast v335
  let c1024 : Index := 1024#32
  ![0, v743.toNat, 1024]
def k0_off13 (k0_t1 : Fin k0_t1_loop.trips) : Fin 3 → Nat :=
  let c0_601 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v791 : Index := Scalar.indexCast v335
  let c1152 : Index := 1152#32
  ![0, v791.toNat, 1152]
def k0_off14 (k0_t1 : Fin k0_t1_loop.trips) : Fin 3 → Nat :=
  let c0_617 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v839 : Index := Scalar.indexCast v335
  let c1280 : Index := 1280#32
  ![0, v839.toNat, 1280]
def k0_off15 (k0_t1 : Fin k0_t1_loop.trips) : Fin 3 → Nat :=
  let c0_632 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v887 : Index := Scalar.indexCast v335
  let c1408 : Index := 1408#32
  ![0, v887.toNat, 1408]
def k0_off16 (k0_t1 : Fin k0_t1_loop.trips) : Fin 3 → Nat :=
  let c0_648 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v935 : Index := Scalar.indexCast v335
  let c1536 : Index := 1536#32
  ![0, v935.toNat, 1536]
def k0_off17 (k0_t1 : Fin k0_t1_loop.trips) : Fin 3 → Nat :=
  let c0_663 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v983 : Index := Scalar.indexCast v335
  let c1664 : Index := 1664#32
  ![0, v983.toNat, 1664]
def k0_off18 (k0_t1 : Fin k0_t1_loop.trips) : Fin 3 → Nat :=
  let c0_679 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v1031 : Index := Scalar.indexCast v335
  let c1792 : Index := 1792#32
  ![0, v1031.toNat, 1792]
def k0_off19 (k0_t1 : Fin k0_t1_loop.trips) : Fin 3 → Nat :=
  let c0_694 : Index := 0#32
  let c0_i32_4 : BitVec 32 := 0#32
  let c1_i32 : BitVec 32 := 1#32
  let arg23 : BitVec 32 := Scf.iv c0_i32_4 c1_i32 k0_t1
  let c32_i32_449 : BitVec 32 := 32#32
  let v334 : BitVec 32 := Scalar.muli arg23 c32_i32_449
  let v335 : BitVec 32 := v334
  let v1079 : Index := Scalar.indexCast v335
  let c1920 : Index := 1920#32
  ![0, v1079.toNat, 1920]
def k0_off20 (i : grid0.Coords) : Fin 5 → Nat :=
  let arg2 : BitVec 32 := BitVec.ofNat 32 (i 2).val
  let v9 : Index := Scalar.indexCast arg2
  let c0 : Index := 0#32
  let c0_6 : Index := 0#32
  let c0_7 : Index := 0#32
  let c0_8 : Index := 0#32
  ![v9.toNat, 0, 0, 0, 0]
def k0_off21 (i : grid0.Coords) : Fin 5 → Nat :=
  let arg2 : BitVec 32 := BitVec.ofNat 32 (i 2).val
  let v12 : Index := Scalar.indexCast arg2
  let c0_9 : Index := 0#32
  let c1 : Index := 1#32
  let c0_10 : Index := 0#32
  let c0_11 : Index := 0#32
  ![v12.toNat, 0, 1, 0, 0]
def k0_off22 (i : grid0.Coords) : Fin 5 → Nat :=
  let arg2 : BitVec 32 := BitVec.ofNat 32 (i 2).val
  let v15 : Index := Scalar.indexCast arg2
  let c0_12 : Index := 0#32
  let c2 : Index := 2#32
  let c0_13 : Index := 0#32
  let c0_14 : Index := 0#32
  ![v15.toNat, 0, 2, 0, 0]
def k0_off23 (i : grid0.Coords) : Fin 5 → Nat :=
  let arg2 : BitVec 32 := BitVec.ofNat 32 (i 2).val
  let v18 : Index := Scalar.indexCast arg2
  let c0_15 : Index := 0#32
  let c3 : Index := 3#32
  let c0_16 : Index := 0#32
  let c0_17 : Index := 0#32
  ![v18.toNat, 0, 3, 0, 0]
def k0_off24 (i : grid0.Coords) : Fin 5 → Nat :=
  let arg2 : BitVec 32 := BitVec.ofNat 32 (i 2).val
  let v21 : Index := Scalar.indexCast arg2
  let c0_18 : Index := 0#32
  let c4 : Index := 4#32
  let c0_19 : Index := 0#32
  let c0_20 : Index := 0#32
  ![v21.toNat, 0, 4, 0, 0]
def k0_off25 (i : grid0.Coords) : Fin 5 → Nat :=
  let arg2 : BitVec 32 := BitVec.ofNat 32 (i 2).val
  let v24 : Index := Scalar.indexCast arg2
  let c0_21 : Index := 0#32
  let c5 : Index := 5#32
  let c0_22 : Index := 0#32
  let c0_23 : Index := 0#32
  ![v24.toNat, 0, 5, 0, 0]
def k0_off26 (i : grid0.Coords) : Fin 5 → Nat :=
  let arg2 : BitVec 32 := BitVec.ofNat 32 (i 2).val
  let v27 : Index := Scalar.indexCast arg2
  let c0_24 : Index := 0#32
  let c6 : Index := 6#32
  let c0_25 : Index := 0#32
  let c0_26 : Index := 0#32
  ![v27.toNat, 0, 6, 0, 0]
def k0_off27 (i : grid0.Coords) : Fin 5 → Nat :=
  let arg2 : BitVec 32 := BitVec.ofNat 32 (i 2).val
  let v30 : Index := Scalar.indexCast arg2
  let c0_27 : Index := 0#32
  let c7 : Index := 7#32
  let c0_28 : Index := 0#32
  let c0_29 : Index := 0#32
  ![v30.toNat, 0, 7, 0, 0]
def k0_off28 (i : grid0.Coords) : Fin 5 → Nat :=
  let arg2 : BitVec 32 := BitVec.ofNat 32 (i 2).val
  let v33 : Index := Scalar.indexCast arg2
  let c0_30 : Index := 0#32
  let c8 : Index := 8#32
  let c0_31 : Index := 0#32
  let c0_32 : Index := 0#32
  ![v33.toNat, 0, 8, 0, 0]
def k0_off29 (i : grid0.Coords) : Fin 5 → Nat :=
  let arg2 : BitVec 32 := BitVec.ofNat 32 (i 2).val
  let v36 : Index := Scalar.indexCast arg2
  let c0_33 : Index := 0#32
  let c9 : Index := 9#32
  let c0_34 : Index := 0#32
  let c0_35 : Index := 0#32
  ![v36.toNat, 0, 9, 0, 0]
def k0_off30 (i : grid0.Coords) : Fin 5 → Nat :=
  let arg2 : BitVec 32 := BitVec.ofNat 32 (i 2).val
  let v39 : Index := Scalar.indexCast arg2
  let c0_36 : Index := 0#32
  let c10 : Index := 10#32
  let c0_37 : Index := 0#32
  let c0_38 : Index := 0#32
  ![v39.toNat, 0, 10, 0, 0]
def k0_off31 (i : grid0.Coords) : Fin 5 → Nat :=
  let arg2 : BitVec 32 := BitVec.ofNat 32 (i 2).val
  let v42 : Index := Scalar.indexCast arg2
  let c0_39 : Index := 0#32
  let c11 : Index := 11#32
  let c0_40 : Index := 0#32
  let c0_41 : Index := 0#32
  ![v42.toNat, 0, 11, 0, 0]
def k0_off32 (i : grid0.Coords) : Fin 5 → Nat :=
  let arg2 : BitVec 32 := BitVec.ofNat 32 (i 2).val
  let v45 : Index := Scalar.indexCast arg2
  let c0_42 : Index := 0#32
  let c12 : Index := 12#32
  let c0_43 : Index := 0#32
  let c0_44 : Index := 0#32
  ![v45.toNat, 0, 12, 0, 0]
def k0_off33 (i : grid0.Coords) : Fin 5 → Nat :=
  let arg2 : BitVec 32 := BitVec.ofNat 32 (i 2).val
  let v48 : Index := Scalar.indexCast arg2
  let c0_45 : Index := 0#32
  let c13 : Index := 13#32
  let c0_46 : Index := 0#32
  let c0_47 : Index := 0#32
  ![v48.toNat, 0, 13, 0, 0]
def k0_off34 (i : grid0.Coords) : Fin 5 → Nat :=
  let arg2 : BitVec 32 := BitVec.ofNat 32 (i 2).val
  let v51 : Index := Scalar.indexCast arg2
  let c0_48 : Index := 0#32
  let c14 : Index := 14#32
  let c0_49 : Index := 0#32
  let c0_50 : Index := 0#32
  ![v51.toNat, 0, 14, 0, 0]
def k0_off35 (i : grid0.Coords) : Fin 5 → Nat :=
  let arg2 : BitVec 32 := BitVec.ofNat 32 (i 2).val
  let v54 : Index := Scalar.indexCast arg2
  let c0_51 : Index := 0#32
  let c15 : Index := 15#32
  let c0_52 : Index := 0#32
  let c0_53 : Index := 0#32
  ![v54.toNat, 0, 15, 0, 0]
def k0_off36 (i : grid0.Coords) : Fin 6 → Nat :=
  let c0_54 : Index := 0#32
  let arg2 : BitVec 32 := BitVec.ofNat 32 (i 2).val
  let v57 : Index := Scalar.indexCast arg2
  let c0_55 : Index := 0#32
  let c0_56 : Index := 0#32
  let c0_57 : Index := 0#32
  let c0_58 : Index := 0#32
  ![0, v57.toNat, 0, 0, 0, 0]
def k0_off37 (i : grid0.Coords) : Fin 6 → Nat :=
  let c0_59 : Index := 0#32
  let arg2 : BitVec 32 := BitVec.ofNat 32 (i 2).val
  let v60 : Index := Scalar.indexCast arg2
  let c0_60 : Index := 0#32
  let c1_61 : Index := 1#32
  let c0_62 : Index := 0#32
  let c0_63 : Index := 0#32
  ![0, v60.toNat, 0, 1, 0, 0]
def k0_off38 (i : grid0.Coords) : Fin 6 → Nat :=
  let c0_64 : Index := 0#32
  let arg2 : BitVec 32 := BitVec.ofNat 32 (i 2).val
  let v63 : Index := Scalar.indexCast arg2
  let c0_65 : Index := 0#32
  let c2_66 : Index := 2#32
  let c0_67 : Index := 0#32
  let c0_68 : Index := 0#32
  ![0, v63.toNat, 0, 2, 0, 0]
def k0_off39 (i : grid0.Coords) : Fin 6 → Nat :=
  let c0_69 : Index := 0#32
  let arg2 : BitVec 32 := BitVec.ofNat 32 (i 2).val
  let v66 : Index := Scalar.indexCast arg2
  let c0_70 : Index := 0#32
  let c3_71 : Index := 3#32
  let c0_72 : Index := 0#32
  let c0_73 : Index := 0#32
  ![0, v66.toNat, 0, 3, 0, 0]
def k0_off40 (i : grid0.Coords) : Fin 6 → Nat :=
  let c0_74 : Index := 0#32
  let arg2 : BitVec 32 := BitVec.ofNat 32 (i 2).val
  let v69 : Index := Scalar.indexCast arg2
  let c0_75 : Index := 0#32
  let c4_76 : Index := 4#32
  let c0_77 : Index := 0#32
  let c0_78 : Index := 0#32
  ![0, v69.toNat, 0, 4, 0, 0]
def k0_off41 (i : grid0.Coords) : Fin 6 → Nat :=
  let c0_79 : Index := 0#32
  let arg2 : BitVec 32 := BitVec.ofNat 32 (i 2).val
  let v72 : Index := Scalar.indexCast arg2
  let c0_80 : Index := 0#32
  let c5_81 : Index := 5#32
  let c0_82 : Index := 0#32
  let c0_83 : Index := 0#32
  ![0, v72.toNat, 0, 5, 0, 0]
def k0_off42 (i : grid0.Coords) : Fin 6 → Nat :=
  let c0_84 : Index := 0#32
  let arg2 : BitVec 32 := BitVec.ofNat 32 (i 2).val
  let v75 : Index := Scalar.indexCast arg2
  let c0_85 : Index := 0#32
  let c6_86 : Index := 6#32
  let c0_87 : Index := 0#32
  let c0_88 : Index := 0#32
  ![0, v75.toNat, 0, 6, 0, 0]
def k0_off43 (i : grid0.Coords) : Fin 6 → Nat :=
  let c0_89 : Index := 0#32
  let arg2 : BitVec 32 := BitVec.ofNat 32 (i 2).val
  let v78 : Index := Scalar.indexCast arg2
  let c0_90 : Index := 0#32
  let c7_91 : Index := 7#32
  let c0_92 : Index := 0#32
  let c0_93 : Index := 0#32
  ![0, v78.toNat, 0, 7, 0, 0]
def k0_off44 (i : grid0.Coords) : Fin 6 → Nat :=
  let c0_94 : Index := 0#32
  let arg2 : BitVec 32 := BitVec.ofNat 32 (i 2).val
  let v81 : Index := Scalar.indexCast arg2
  let c0_95 : Index := 0#32
  let c8_96 : Index := 8#32
  let c0_97 : Index := 0#32
  let c0_98 : Index := 0#32
  ![0, v81.toNat, 0, 8, 0, 0]
def k0_off45 (i : grid0.Coords) : Fin 6 → Nat :=
  let c0_99 : Index := 0#32
  let arg2 : BitVec 32 := BitVec.ofNat 32 (i 2).val
  let v84 : Index := Scalar.indexCast arg2
  let c0_100 : Index := 0#32
  let c9_101 : Index := 9#32
  let c0_102 : Index := 0#32
  let c0_103 : Index := 0#32
  ![0, v84.toNat, 0, 9, 0, 0]
def k0_off46 (i : grid0.Coords) : Fin 6 → Nat :=
  let c0_104 : Index := 0#32
  let arg2 : BitVec 32 := BitVec.ofNat 32 (i 2).val
  let v87 : Index := Scalar.indexCast arg2
  let c0_105 : Index := 0#32
  let c10_106 : Index := 10#32
  let c0_107 : Index := 0#32
  let c0_108 : Index := 0#32
  ![0, v87.toNat, 0, 10, 0, 0]
def k0_off47 (i : grid0.Coords) : Fin 6 → Nat :=
  let c0_109 : Index := 0#32
  let arg2 : BitVec 32 := BitVec.ofNat 32 (i 2).val
  let v90 : Index := Scalar.indexCast arg2
  let c0_110 : Index := 0#32
  let c11_111 : Index := 11#32
  let c0_112 : Index := 0#32
  let c0_113 : Index := 0#32
  ![0, v90.toNat, 0, 11, 0, 0]
def k0_off48 (i : grid0.Coords) : Fin 6 → Nat :=
  let c0_114 : Index := 0#32
  let arg2 : BitVec 32 := BitVec.ofNat 32 (i 2).val
  let v93 : Index := Scalar.indexCast arg2
  let c0_115 : Index := 0#32
  let c12_116 : Index := 12#32
  let c0_117 : Index := 0#32
  let c0_118 : Index := 0#32
  ![0, v93.toNat, 0, 12, 0, 0]
def k0_off49 (i : grid0.Coords) : Fin 6 → Nat :=
  let c0_119 : Index := 0#32
  let arg2 : BitVec 32 := BitVec.ofNat 32 (i 2).val
  let v96 : Index := Scalar.indexCast arg2
  let c0_120 : Index := 0#32
  let c13_121 : Index := 13#32
  let c0_122 : Index := 0#32
  let c0_123 : Index := 0#32
  ![0, v96.toNat, 0, 13, 0, 0]
def k0_off50 (i : grid0.Coords) : Fin 6 → Nat :=
  let c0_124 : Index := 0#32
  let arg2 : BitVec 32 := BitVec.ofNat 32 (i 2).val
  let v99 : Index := Scalar.indexCast arg2
  let c0_125 : Index := 0#32
  let c14_126 : Index := 14#32
  let c0_127 : Index := 0#32
  let c0_128 : Index := 0#32
  ![0, v99.toNat, 0, 14, 0, 0]
def k0_off51 (i : grid0.Coords) : Fin 6 → Nat :=
  let c0_129 : Index := 0#32
  let arg2 : BitVec 32 := BitVec.ofNat 32 (i 2).val
  let v102 : Index := Scalar.indexCast arg2
  let c0_130 : Index := 0#32
  let c15_131 : Index := 15#32
  let c0_132 : Index := 0#32
  let c0_133 : Index := 0#32
  ![0, v102.toNat, 0, 15, 0, 0]
@[reducible] def k0_t2_loop : Scf.Loop 32 :=
  let c0_i32_134 : BitVec 32 := 0#32
  let c32_i32 : BitVec 32 := 32#32
  let v105 : BitVec 32 := Scalar.addi c0_i32_134 c32_i32
  let c1_i32_135 : BitVec 32 := 1#32
  ⟨c0_i32_134, v105, c1_i32_135⟩
def k0_off52 (k0_t2 : Fin k0_t2_loop.trips) (c0_i32_450 : BitVec 32) : Fin 2 → Nat :=
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v338 : Index := Scalar.indexCast v335
  let c0_454 : Index := 0#32
  ![v338.toNat, 0]
def k0_off53 (k0_t2 : Fin k0_t2_loop.trips) (c0_i32_450 : BitVec 32) : Fin 3 → Nat :=
  let c0_459 : Index := 0#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v344 : Index := Scalar.indexCast v335
  let c0_460 : Index := 0#32
  ![0, v344.toNat, 0]
def k0_off54 (k0_t2 : Fin k0_t2_loop.trips) (c0_i32_450 : BitVec 32) : Fin 3 → Nat :=
  let c1_463 : Index := 1#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v360 : Index := Scalar.indexCast v335
  let c0_464 : Index := 0#32
  ![1, v360.toNat, 0]
def k0_off55 (k0_t2 : Fin k0_t2_loop.trips) (c0_i32_450 : BitVec 32) : Fin 3 → Nat :=
  let c2_467 : Index := 2#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v377 : Index := Scalar.indexCast v335
  let c0_468 : Index := 0#32
  ![2, v377.toNat, 0]
def k0_off56 (k0_t2 : Fin k0_t2_loop.trips) (c0_i32_450 : BitVec 32) : Fin 3 → Nat :=
  let c3_471 : Index := 3#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v394 : Index := Scalar.indexCast v335
  let c0_472 : Index := 0#32
  ![3, v394.toNat, 0]
def k0_off57 (k0_t2 : Fin k0_t2_loop.trips) (c0_i32_450 : BitVec 32) : Fin 3 → Nat :=
  let c4_475 : Index := 4#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v411 : Index := Scalar.indexCast v335
  let c0_476 : Index := 0#32
  ![4, v411.toNat, 0]
def k0_off58 (k0_t2 : Fin k0_t2_loop.trips) (c0_i32_450 : BitVec 32) : Fin 3 → Nat :=
  let c5_479 : Index := 5#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v428 : Index := Scalar.indexCast v335
  let c0_480 : Index := 0#32
  ![5, v428.toNat, 0]
def k0_off59 (k0_t2 : Fin k0_t2_loop.trips) (c0_i32_450 : BitVec 32) : Fin 3 → Nat :=
  let c6_483 : Index := 6#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v445 : Index := Scalar.indexCast v335
  let c0_484 : Index := 0#32
  ![6, v445.toNat, 0]
def k0_off60 (k0_t2 : Fin k0_t2_loop.trips) (c0_i32_450 : BitVec 32) : Fin 3 → Nat :=
  let c7_487 : Index := 7#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v462 : Index := Scalar.indexCast v335
  let c0_488 : Index := 0#32
  ![7, v462.toNat, 0]
def k0_off61 (k0_t2 : Fin k0_t2_loop.trips) (c0_i32_450 : BitVec 32) : Fin 3 → Nat :=
  let c8_491 : Index := 8#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v479 : Index := Scalar.indexCast v335
  let c0_492 : Index := 0#32
  ![8, v479.toNat, 0]
def k0_off62 (k0_t2 : Fin k0_t2_loop.trips) (c0_i32_450 : BitVec 32) : Fin 3 → Nat :=
  let c9_495 : Index := 9#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v496 : Index := Scalar.indexCast v335
  let c0_496 : Index := 0#32
  ![9, v496.toNat, 0]
def k0_off63 (k0_t2 : Fin k0_t2_loop.trips) (c0_i32_450 : BitVec 32) : Fin 3 → Nat :=
  let c10_499 : Index := 10#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v513 : Index := Scalar.indexCast v335
  let c0_500 : Index := 0#32
  ![10, v513.toNat, 0]
def k0_off64 (k0_t2 : Fin k0_t2_loop.trips) (c0_i32_450 : BitVec 32) : Fin 3 → Nat :=
  let c11_503 : Index := 11#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v530 : Index := Scalar.indexCast v335
  let c0_504 : Index := 0#32
  ![11, v530.toNat, 0]
def k0_off65 (k0_t2 : Fin k0_t2_loop.trips) (c0_i32_450 : BitVec 32) : Fin 3 → Nat :=
  let c12_507 : Index := 12#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v547 : Index := Scalar.indexCast v335
  let c0_508 : Index := 0#32
  ![12, v547.toNat, 0]
def k0_off66 (k0_t2 : Fin k0_t2_loop.trips) (c0_i32_450 : BitVec 32) : Fin 3 → Nat :=
  let c13_511 : Index := 13#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v564 : Index := Scalar.indexCast v335
  let c0_512 : Index := 0#32
  ![13, v564.toNat, 0]
def k0_off67 (k0_t2 : Fin k0_t2_loop.trips) (c0_i32_450 : BitVec 32) : Fin 3 → Nat :=
  let c14_515 : Index := 14#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v581 : Index := Scalar.indexCast v335
  let c0_516 : Index := 0#32
  ![14, v581.toNat, 0]
def k0_off68 (k0_t2 : Fin k0_t2_loop.trips) (c0_i32_450 : BitVec 32) : Fin 3 → Nat :=
  let c15_519 : Index := 15#32
  let c0_i32_134 : BitVec 32 := 0#32
  let c1_i32_135 : BitVec 32 := 1#32
  let arg23 : BitVec 32 := Scf.iv c0_i32_134 c1_i32_135 k0_t2
  let c8_i32_449 : BitVec 32 := 8#32
  let v334 : BitVec 32 := Scalar.muli arg23 c8_i32_449
  let v335 : BitVec 32 := Scalar.addi v334 c0_i32_450
  let v598 : Index := Scalar.indexCast v335
  let c0_520 : Index := 0#32
  ![15, v598.toNat, 0]
def k0_off69 (i : grid0.Coords) : Fin 5 → Nat :=
  let arg2 : BitVec 32 := BitVec.ofNat 32 (i 2).val
  let v171 : Index := Scalar.indexCast arg2
  let c1_217 : Index := 1#32
  let c0_218 : Index := 0#32
  let c0_219 : Index := 0#32
  let c0_220 : Index := 0#32
  ![v171.toNat, 1, 0, 0, 0]
def k0_off70 (i : grid0.Coords) : Fin 5 → Nat :=
  let arg2 : BitVec 32 := BitVec.ofNat 32 (i 2).val
  let v174 : Index := Scalar.indexCast arg2
  let c1_221 : Index := 1#32
  let c1_222 : Index := 1#32
  let c0_223 : Index := 0#32
  let c0_224 : Index := 0#32
  ![v174.toNat, 1, 1, 0, 0]
def k0_off71 (i : grid0.Coords) : Fin 5 → Nat :=
  let arg2 : BitVec 32 := BitVec.ofNat 32 (i 2).val
  let v177 : Index := Scalar.indexCast arg2
  let c1_225 : Index := 1#32
  let c2_226 : Index := 2#32
  let c0_227 : Index := 0#32
  let c0_228 : Index := 0#32
  ![v177.toNat, 1, 2, 0, 0]
def k0_off72 (i : grid0.Coords) : Fin 5 → Nat :=
  let arg2 : BitVec 32 := BitVec.ofNat 32 (i 2).val
  let v180 : Index := Scalar.indexCast arg2
  let c1_229 : Index := 1#32
  let c3_230 : Index := 3#32
  let c0_231 : Index := 0#32
  let c0_232 : Index := 0#32
  ![v180.toNat, 1, 3, 0, 0]
def k0_off73 (i : grid0.Coords) : Fin 5 → Nat :=
  let arg2 : BitVec 32 := BitVec.ofNat 32 (i 2).val
  let v183 : Index := Scalar.indexCast arg2
  let c1_233 : Index := 1#32
  let c4_234 : Index := 4#32
  let c0_235 : Index := 0#32
  let c0_236 : Index := 0#32
  ![v183.toNat, 1, 4, 0, 0]
def k0_off74 (i : grid0.Coords) : Fin 5 → Nat :=
  let arg2 : BitVec 32 := BitVec.ofNat 32 (i 2).val
  let v186 : Index := Scalar.indexCast arg2
  let c1_237 : Index := 1#32
  let c5_238 : Index := 5#32
  let c0_239 : Index := 0#32
  let c0_240 : Index := 0#32
  ![v186.toNat, 1, 5, 0, 0]
def k0_off75 (i : grid0.Coords) : Fin 5 → Nat :=
  let arg2 : BitVec 32 := BitVec.ofNat 32 (i 2).val
  let v189 : Index := Scalar.indexCast arg2
  let c1_241 : Index := 1#32
  let c6_242 : Index := 6#32
  let c0_243 : Index := 0#32
  let c0_244 : Index := 0#32
  ![v189.toNat, 1, 6, 0, 0]
def k0_off76 (i : grid0.Coords) : Fin 5 → Nat :=
  let arg2 : BitVec 32 := BitVec.ofNat 32 (i 2).val
  let v192 : Index := Scalar.indexCast arg2
  let c1_245 : Index := 1#32
  let c7_246 : Index := 7#32
  let c0_247 : Index := 0#32
  let c0_248 : Index := 0#32
  ![v192.toNat, 1, 7, 0, 0]
def k0_off77 (i : grid0.Coords) : Fin 5 → Nat :=
  let arg2 : BitVec 32 := BitVec.ofNat 32 (i 2).val
  let v195 : Index := Scalar.indexCast arg2
  let c1_249 : Index := 1#32
  let c8_250 : Index := 8#32
  let c0_251 : Index := 0#32
  let c0_252 : Index := 0#32
  ![v195.toNat, 1, 8, 0, 0]
def k0_off78 (i : grid0.Coords) : Fin 5 → Nat :=
  let arg2 : BitVec 32 := BitVec.ofNat 32 (i 2).val
  let v198 : Index := Scalar.indexCast arg2
  let c1_253 : Index := 1#32
  let c9_254 : Index := 9#32
  let c0_255 : Index := 0#32
  let c0_256 : Index := 0#32
  ![v198.toNat, 1, 9, 0, 0]
def k0_off79 (i : grid0.Coords) : Fin 5 → Nat :=
  let arg2 : BitVec 32 := BitVec.ofNat 32 (i 2).val
  let v201 : Index := Scalar.indexCast arg2
  let c1_257 : Index := 1#32
  let c10_258 : Index := 10#32
  let c0_259 : Index := 0#32
  let c0_260 : Index := 0#32
  ![v201.toNat, 1, 10, 0, 0]
def k0_off80 (i : grid0.Coords) : Fin 5 → Nat :=
  let arg2 : BitVec 32 := BitVec.ofNat 32 (i 2).val
  let v204 : Index := Scalar.indexCast arg2
  let c1_261 : Index := 1#32
  let c11_262 : Index := 11#32
  let c0_263 : Index := 0#32
  let c0_264 : Index := 0#32
  ![v204.toNat, 1, 11, 0, 0]
def k0_off81 (i : grid0.Coords) : Fin 5 → Nat :=
  let arg2 : BitVec 32 := BitVec.ofNat 32 (i 2).val
  let v207 : Index := Scalar.indexCast arg2
  let c1_265 : Index := 1#32
  let c12_266 : Index := 12#32
  let c0_267 : Index := 0#32
  let c0_268 : Index := 0#32
  ![v207.toNat, 1, 12, 0, 0]
def k0_off82 (i : grid0.Coords) : Fin 5 → Nat :=
  let arg2 : BitVec 32 := BitVec.ofNat 32 (i 2).val
  let v210 : Index := Scalar.indexCast arg2
  let c1_269 : Index := 1#32
  let c13_270 : Index := 13#32
  let c0_271 : Index := 0#32
  let c0_272 : Index := 0#32
  ![v210.toNat, 1, 13, 0, 0]
def k0_off83 (i : grid0.Coords) : Fin 5 → Nat :=
  let arg2 : BitVec 32 := BitVec.ofNat 32 (i 2).val
  let v213 : Index := Scalar.indexCast arg2
  let c1_273 : Index := 1#32
  let c14_274 : Index := 14#32
  let c0_275 : Index := 0#32
  let c0_276 : Index := 0#32
  ![v213.toNat, 1, 14, 0, 0]
def k0_off84 (i : grid0.Coords) : Fin 5 → Nat :=
  let arg2 : BitVec 32 := BitVec.ofNat 32 (i 2).val
  let v216 : Index := Scalar.indexCast arg2
  let c1_277 : Index := 1#32
  let c15_278 : Index := 15#32
  let c0_279 : Index := 0#32
  let c0_280 : Index := 0#32
  ![v216.toNat, 1, 15, 0, 0]
def k0_off85 (i : grid0.Coords) : Fin 6 → Nat :=
  let c0_281 : Index := 0#32
  let arg2 : BitVec 32 := BitVec.ofNat 32 (i 2).val
  let v219 : Index := Scalar.indexCast arg2
  let c1_282 : Index := 1#32
  let c0_283 : Index := 0#32
  let c0_284 : Index := 0#32
  let c0_285 : Index := 0#32
  ![0, v219.toNat, 1, 0, 0, 0]
def k0_off86 (i : grid0.Coords) : Fin 6 → Nat :=
  let c0_286 : Index := 0#32
  let arg2 : BitVec 32 := BitVec.ofNat 32 (i 2).val
  let v222 : Index := Scalar.indexCast arg2
  let c1_287 : Index := 1#32
  let c1_288 : Index := 1#32
  let c0_289 : Index := 0#32
  let c0_290 : Index := 0#32
  ![0, v222.toNat, 1, 1, 0, 0]
def k0_off87 (i : grid0.Coords) : Fin 6 → Nat :=
  let c0_291 : Index := 0#32
  let arg2 : BitVec 32 := BitVec.ofNat 32 (i 2).val
  let v225 : Index := Scalar.indexCast arg2
  let c1_292 : Index := 1#32
  let c2_293 : Index := 2#32
  let c0_294 : Index := 0#32
  let c0_295 : Index := 0#32
  ![0, v225.toNat, 1, 2, 0, 0]
def k0_off88 (i : grid0.Coords) : Fin 6 → Nat :=
  let c0_296 : Index := 0#32
  let arg2 : BitVec 32 := BitVec.ofNat 32 (i 2).val
  let v228 : Index := Scalar.indexCast arg2
  let c1_297 : Index := 1#32
  let c3_298 : Index := 3#32
  let c0_299 : Index := 0#32
  let c0_300 : Index := 0#32
  ![0, v228.toNat, 1, 3, 0, 0]
def k0_off89 (i : grid0.Coords) : Fin 6 → Nat :=
  let c0_301 : Index := 0#32
  let arg2 : BitVec 32 := BitVec.ofNat 32 (i 2).val
  let v231 : Index := Scalar.indexCast arg2
  let c1_302 : Index := 1#32
  let c4_303 : Index := 4#32
  let c0_304 : Index := 0#32
  let c0_305 : Index := 0#32
  ![0, v231.toNat, 1, 4, 0, 0]
def k0_off90 (i : grid0.Coords) : Fin 6 → Nat :=
  let c0_306 : Index := 0#32
  let arg2 : BitVec 32 := BitVec.ofNat 32 (i 2).val
  let v234 : Index := Scalar.indexCast arg2
  let c1_307 : Index := 1#32
  let c5_308 : Index := 5#32
  let c0_309 : Index := 0#32
  let c0_310 : Index := 0#32
  ![0, v234.toNat, 1, 5, 0, 0]
def k0_off91 (i : grid0.Coords) : Fin 6 → Nat :=
  let c0_311 : Index := 0#32
  let arg2 : BitVec 32 := BitVec.ofNat 32 (i 2).val
  let v237 : Index := Scalar.indexCast arg2
  let c1_312 : Index := 1#32
  let c6_313 : Index := 6#32
  let c0_314 : Index := 0#32
  let c0_315 : Index := 0#32
  ![0, v237.toNat, 1, 6, 0, 0]
def k0_off92 (i : grid0.Coords) : Fin 6 → Nat :=
  let c0_316 : Index := 0#32
  let arg2 : BitVec 32 := BitVec.ofNat 32 (i 2).val
  let v240 : Index := Scalar.indexCast arg2
  let c1_317 : Index := 1#32
  let c7_318 : Index := 7#32
  let c0_319 : Index := 0#32
  let c0_320 : Index := 0#32
  ![0, v240.toNat, 1, 7, 0, 0]
def k0_off93 (i : grid0.Coords) : Fin 6 → Nat :=
  let c0_321 : Index := 0#32
  let arg2 : BitVec 32 := BitVec.ofNat 32 (i 2).val
  let v243 : Index := Scalar.indexCast arg2
  let c1_322 : Index := 1#32
  let c8_323 : Index := 8#32
  let c0_324 : Index := 0#32
  let c0_325 : Index := 0#32
  ![0, v243.toNat, 1, 8, 0, 0]
def k0_off94 (i : grid0.Coords) : Fin 6 → Nat :=
  let c0_326 : Index := 0#32
  let arg2 : BitVec 32 := BitVec.ofNat 32 (i 2).val
  let v246 : Index := Scalar.indexCast arg2
  let c1_327 : Index := 1#32
  let c9_328 : Index := 9#32
  let c0_329 : Index := 0#32
  let c0_330 : Index := 0#32
  ![0, v246.toNat, 1, 9, 0, 0]
def k0_off95 (i : grid0.Coords) : Fin 6 → Nat :=
  let c0_331 : Index := 0#32
  let arg2 : BitVec 32 := BitVec.ofNat 32 (i 2).val
  let v249 : Index := Scalar.indexCast arg2
  let c1_332 : Index := 1#32
  let c10_333 : Index := 10#32
  let c0_334 : Index := 0#32
  let c0_335 : Index := 0#32
  ![0, v249.toNat, 1, 10, 0, 0]
def k0_off96 (i : grid0.Coords) : Fin 6 → Nat :=
  let c0_336 : Index := 0#32
  let arg2 : BitVec 32 := BitVec.ofNat 32 (i 2).val
  let v252 : Index := Scalar.indexCast arg2
  let c1_337 : Index := 1#32
  let c11_338 : Index := 11#32
  let c0_339 : Index := 0#32
  let c0_340 : Index := 0#32
  ![0, v252.toNat, 1, 11, 0, 0]
def k0_off97 (i : grid0.Coords) : Fin 6 → Nat :=
  let c0_341 : Index := 0#32
  let arg2 : BitVec 32 := BitVec.ofNat 32 (i 2).val
  let v255 : Index := Scalar.indexCast arg2
  let c1_342 : Index := 1#32
  let c12_343 : Index := 12#32
  let c0_344 : Index := 0#32
  let c0_345 : Index := 0#32
  ![0, v255.toNat, 1, 12, 0, 0]
def k0_off98 (i : grid0.Coords) : Fin 6 → Nat :=
  let c0_346 : Index := 0#32
  let arg2 : BitVec 32 := BitVec.ofNat 32 (i 2).val
  let v258 : Index := Scalar.indexCast arg2
  let c1_347 : Index := 1#32
  let c13_348 : Index := 13#32
  let c0_349 : Index := 0#32
  let c0_350 : Index := 0#32
  ![0, v258.toNat, 1, 13, 0, 0]
def k0_off99 (i : grid0.Coords) : Fin 6 → Nat :=
  let c0_351 : Index := 0#32
  let arg2 : BitVec 32 := BitVec.ofNat 32 (i 2).val
  let v261 : Index := Scalar.indexCast arg2
  let c1_352 : Index := 1#32
  let c14_353 : Index := 14#32
  let c0_354 : Index := 0#32
  let c0_355 : Index := 0#32
  ![0, v261.toNat, 1, 14, 0, 0]
def k0_off100 (i : grid0.Coords) : Fin 6 → Nat :=
  let c0_356 : Index := 0#32
  let arg2 : BitVec 32 := BitVec.ofNat 32 (i 2).val
  let v264 : Index := Scalar.indexCast arg2
  let c1_357 : Index := 1#32
  let c15_358 : Index := 15#32
  let c0_359 : Index := 0#32
  let c0_360 : Index := 0#32
  ![0, v264.toNat, 1, 15, 0, 0]
@[reducible] def k0_t3_loop : Scf.Loop 32 :=
  let c0_i32_361 : BitVec 32 := 0#32
  let c32_i32_362 : BitVec 32 := 32#32
  let v267 : BitVec 32 := Scalar.addi c0_i32_361 c32_i32_362
  let c1_i32_363 : BitVec 32 := 1#32
  ⟨c0_i32_361, v267, c1_i32_363⟩
def k0_off101 (k0_t3 : Fin k0_t3_loop.trips) (c0_i32_450 : BitVec 32) : Fin 2 → Nat :=
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v338 : Index := Scalar.indexCast v335
  let c0_454 : Index := 0#32
  ![v338.toNat, 0]
def k0_off102 (k0_t3 : Fin k0_t3_loop.trips) (c0_i32_450 : BitVec 32) : Fin 3 → Nat :=
  let c0_459 : Index := 0#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v344 : Index := Scalar.indexCast v335
  let c0_460 : Index := 0#32
  ![0, v344.toNat, 0]
def k0_off103 (k0_t3 : Fin k0_t3_loop.trips) (c0_i32_450 : BitVec 32) : Fin 3 → Nat :=
  let c1_463 : Index := 1#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v360 : Index := Scalar.indexCast v335
  let c0_464 : Index := 0#32
  ![1, v360.toNat, 0]
def k0_off104 (k0_t3 : Fin k0_t3_loop.trips) (c0_i32_450 : BitVec 32) : Fin 3 → Nat :=
  let c2_467 : Index := 2#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v377 : Index := Scalar.indexCast v335
  let c0_468 : Index := 0#32
  ![2, v377.toNat, 0]
def k0_off105 (k0_t3 : Fin k0_t3_loop.trips) (c0_i32_450 : BitVec 32) : Fin 3 → Nat :=
  let c3_471 : Index := 3#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v394 : Index := Scalar.indexCast v335
  let c0_472 : Index := 0#32
  ![3, v394.toNat, 0]
def k0_off106 (k0_t3 : Fin k0_t3_loop.trips) (c0_i32_450 : BitVec 32) : Fin 3 → Nat :=
  let c4_475 : Index := 4#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v411 : Index := Scalar.indexCast v335
  let c0_476 : Index := 0#32
  ![4, v411.toNat, 0]
def k0_off107 (k0_t3 : Fin k0_t3_loop.trips) (c0_i32_450 : BitVec 32) : Fin 3 → Nat :=
  let c5_479 : Index := 5#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v428 : Index := Scalar.indexCast v335
  let c0_480 : Index := 0#32
  ![5, v428.toNat, 0]
def k0_off108 (k0_t3 : Fin k0_t3_loop.trips) (c0_i32_450 : BitVec 32) : Fin 3 → Nat :=
  let c6_483 : Index := 6#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v445 : Index := Scalar.indexCast v335
  let c0_484 : Index := 0#32
  ![6, v445.toNat, 0]
def k0_off109 (k0_t3 : Fin k0_t3_loop.trips) (c0_i32_450 : BitVec 32) : Fin 3 → Nat :=
  let c7_487 : Index := 7#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v462 : Index := Scalar.indexCast v335
  let c0_488 : Index := 0#32
  ![7, v462.toNat, 0]
def k0_off110 (k0_t3 : Fin k0_t3_loop.trips) (c0_i32_450 : BitVec 32) : Fin 3 → Nat :=
  let c8_491 : Index := 8#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v479 : Index := Scalar.indexCast v335
  let c0_492 : Index := 0#32
  ![8, v479.toNat, 0]
def k0_off111 (k0_t3 : Fin k0_t3_loop.trips) (c0_i32_450 : BitVec 32) : Fin 3 → Nat :=
  let c9_495 : Index := 9#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v496 : Index := Scalar.indexCast v335
  let c0_496 : Index := 0#32
  ![9, v496.toNat, 0]
def k0_off112 (k0_t3 : Fin k0_t3_loop.trips) (c0_i32_450 : BitVec 32) : Fin 3 → Nat :=
  let c10_499 : Index := 10#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v513 : Index := Scalar.indexCast v335
  let c0_500 : Index := 0#32
  ![10, v513.toNat, 0]
def k0_off113 (k0_t3 : Fin k0_t3_loop.trips) (c0_i32_450 : BitVec 32) : Fin 3 → Nat :=
  let c11_503 : Index := 11#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v530 : Index := Scalar.indexCast v335
  let c0_504 : Index := 0#32
  ![11, v530.toNat, 0]
def k0_off114 (k0_t3 : Fin k0_t3_loop.trips) (c0_i32_450 : BitVec 32) : Fin 3 → Nat :=
  let c12_507 : Index := 12#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v547 : Index := Scalar.indexCast v335
  let c0_508 : Index := 0#32
  ![12, v547.toNat, 0]
def k0_off115 (k0_t3 : Fin k0_t3_loop.trips) (c0_i32_450 : BitVec 32) : Fin 3 → Nat :=
  let c13_511 : Index := 13#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v564 : Index := Scalar.indexCast v335
  let c0_512 : Index := 0#32
  ![13, v564.toNat, 0]
def k0_off116 (k0_t3 : Fin k0_t3_loop.trips) (c0_i32_450 : BitVec 32) : Fin 3 → Nat :=
  let c14_515 : Index := 14#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v581 : Index := Scalar.indexCast v335
  let c0_516 : Index := 0#32
  ![14, v581.toNat, 0]
def k0_off117 (k0_t3 : Fin k0_t3_loop.trips) (c0_i32_450 : BitVec 32) : Fin 3 → Nat :=
  let c15_519 : Index := 15#32
  let c0_i32_361 : BitVec 32 := 0#32
  let c1_i32_363 : BitVec 32 := 1#32
  let arg23 : BitVec 32 := Scf.iv c0_i32_361 c1_i32_363 k0_t3
  let c8_i32_449 : BitVec 32 := 8#32
  let v334 : BitVec 32 := Scalar.muli arg23 c8_i32_449
  let v335 : BitVec 32 := Scalar.addi v334 c0_i32_450
  let v598 : Index := Scalar.indexCast v335
  let c0_520 : Index := 0#32
  ![15, v598.toNat, 0]
@[reducible] def k0_t4_loop : Scf.Loop 32 :=
  let c0_i32_445 : BitVec 32 := 0#32
  let c8_i32_446 : BitVec 32 := 8#32
  let v333 : BitVec 32 := Scalar.addi c0_i32_445 c8_i32_446
  let c1_i32_447 : BitVec 32 := 1#32
  ⟨c0_i32_445, v333, c1_i32_447⟩
def k0_mult2 (k0_t4 : Fin k0_t4_loop.trips) : BitVec 32 :=
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  v334
def k0_off118 (k0_t4 : Fin k0_t4_loop.trips) : Fin 3 → Nat :=
  let c0_456 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v349 : Index := Scalar.indexCast v335
  let c0_457 : Index := 0#32
  ![0, v349.toNat, 0]
def k0_off119 (k0_t4 : Fin k0_t4_loop.trips) : Fin 3 → Nat :=
  let c0_458 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v354 : Index := Scalar.indexCast v335
  let c0_459 : Index := 0#32
  ![0, v354.toNat, 0]
def k0_off120 (k0_t4 : Fin k0_t4_loop.trips) (c0_i32_460 : BitVec 32) : Fin 3 → Nat :=
  let c0_461 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v362 : BitVec 32 := Scalar.addi c0_i32_460 v335
  let v363 : Index := Scalar.indexCast v362
  let c0_462 : Index := 0#32
  ![0, v363.toNat, 0]
def k0_off121 (k0_t4 : Fin k0_t4_loop.trips) : Fin 3 → Nat :=
  let c0_471 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v387 : Index := Scalar.indexCast v335
  let c128 : Index := 128#32
  ![0, v387.toNat, 128]
def k0_off122 (k0_t4 : Fin k0_t4_loop.trips) (c0_i32_472 : BitVec 32) : Fin 3 → Nat :=
  let c1_473 : Index := 1#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v395 : BitVec 32 := Scalar.addi c0_i32_472 v335
  let v396 : Index := Scalar.indexCast v395
  let c0_474 : Index := 0#32
  ![1, v396.toNat, 0]
def k0_off123 (k0_t4 : Fin k0_t4_loop.trips) : Fin 3 → Nat :=
  let c0_483 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v420 : Index := Scalar.indexCast v335
  let c256 : Index := 256#32
  ![0, v420.toNat, 256]
def k0_off124 (k0_t4 : Fin k0_t4_loop.trips) : Fin 3 → Nat :=
  let c0_494 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v453 : Index := Scalar.indexCast v335
  let c384 : Index := 384#32
  ![0, v453.toNat, 384]
def k0_off125 (k0_t4 : Fin k0_t4_loop.trips) : Fin 3 → Nat :=
  let c0_506 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v486 : Index := Scalar.indexCast v335
  let c512 : Index := 512#32
  ![0, v486.toNat, 512]
def k0_off126 (k0_t4 : Fin k0_t4_loop.trips) : Fin 3 → Nat :=
  let c0_517 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v519 : Index := Scalar.indexCast v335
  let c640 : Index := 640#32
  ![0, v519.toNat, 640]
def k0_off127 (k0_t4 : Fin k0_t4_loop.trips) : Fin 3 → Nat :=
  let c0_529 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v552 : Index := Scalar.indexCast v335
  let c768 : Index := 768#32
  ![0, v552.toNat, 768]
def k0_off128 (k0_t4 : Fin k0_t4_loop.trips) : Fin 3 → Nat :=
  let c0_540 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v585 : Index := Scalar.indexCast v335
  let c896 : Index := 896#32
  ![0, v585.toNat, 896]
def k0_off129 (k0_t4 : Fin k0_t4_loop.trips) : Fin 3 → Nat :=
  let c0_552 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v618 : Index := Scalar.indexCast v335
  let c1024 : Index := 1024#32
  ![0, v618.toNat, 1024]
def k0_off130 (k0_t4 : Fin k0_t4_loop.trips) : Fin 3 → Nat :=
  let c0_563 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v651 : Index := Scalar.indexCast v335
  let c1152 : Index := 1152#32
  ![0, v651.toNat, 1152]
def k0_off131 (k0_t4 : Fin k0_t4_loop.trips) : Fin 3 → Nat :=
  let c0_575 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v684 : Index := Scalar.indexCast v335
  let c1280 : Index := 1280#32
  ![0, v684.toNat, 1280]
def k0_off132 (k0_t4 : Fin k0_t4_loop.trips) : Fin 3 → Nat :=
  let c0_586 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v717 : Index := Scalar.indexCast v335
  let c1408 : Index := 1408#32
  ![0, v717.toNat, 1408]
def k0_off133 (k0_t4 : Fin k0_t4_loop.trips) : Fin 3 → Nat :=
  let c0_598 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v750 : Index := Scalar.indexCast v335
  let c1536 : Index := 1536#32
  ![0, v750.toNat, 1536]
def k0_off134 (k0_t4 : Fin k0_t4_loop.trips) : Fin 3 → Nat :=
  let c0_609 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v783 : Index := Scalar.indexCast v335
  let c1664 : Index := 1664#32
  ![0, v783.toNat, 1664]
def k0_off135 (k0_t4 : Fin k0_t4_loop.trips) : Fin 3 → Nat :=
  let c0_621 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v816 : Index := Scalar.indexCast v335
  let c1792 : Index := 1792#32
  ![0, v816.toNat, 1792]
def k0_off136 (k0_t4 : Fin k0_t4_loop.trips) : Fin 3 → Nat :=
  let c0_632 : Index := 0#32
  let c0_i32_445 : BitVec 32 := 0#32
  let c1_i32_447 : BitVec 32 := 1#32
  let arg23 : BitVec 32 := Scf.iv c0_i32_445 c1_i32_447 k0_t4
  let c32_i32_449 : BitVec 32 := 32#32
  let v334 : BitVec 32 := Scalar.muli arg23 c32_i32_449
  let v335 : BitVec 32 := v334
  let v849 : Index := Scalar.indexCast v335
  let c1920 : Index := 1920#32
  ![0, v849.toNat, 1920]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_13 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

abbrev stage0_0 : Fin 2 → Memref sig .tc .vmem S1x256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x16 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x16 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S4x2x16x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x4x2x16x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]
-- ==== KernelIdeal.lean ====
variable {F : FTy → Type} [FloatOps F] [Named F]
def κ : String → Option EReal := fun
  | "ln_2" => some ((Real.log 2 : ℝ) : EReal)
  | "log2_e" => some (((Real.log 2)⁻¹ : ℝ) : EReal)
  | "neg_log2_e" => some ((-((Real.log 2)⁻¹) : ℝ) : EReal)
  | _ => none
-- ==== ReferenceIdeal.lean ====
abbrev S2x16384x8192 : Shape := ⟨3, ![2, 16384, 8192]⟩
abbrev S2x16384x64 : Shape := ⟨3, ![2, 16384, 64]⟩
abbrev S2x16384x16 : Shape := ⟨3, ![2, 16384, 16]⟩
abbrev S2x16384 : Shape := ⟨2, ![2, 16384]⟩
abbrev S8192x16 : Shape := ⟨2, ![8192, 16]⟩
abbrev S8192 : Shape := ⟨1, ![8192]⟩
abbrev S2x8192x16 : Shape := ⟨3, ![2, 8192, 16]⟩
abbrev S2x16384x64x128 : Shape := ⟨4, ![2, 16384, 64, 128]⟩
abbrev S2x16384x64x1 : Shape := ⟨4, ![2, 16384, 64, 1]⟩
abbrev S2x16384x1 : Shape := ⟨3, ![2, 16384, 1]⟩
abbrev S1x1x8192 : Shape := ⟨3, ![1, 1, 8192]⟩
abbrev S16x8192 : Shape := ⟨2, ![16, 8192]⟩
abbrev S2x16x8192 : Shape := ⟨3, ![2, 16, 8192]⟩
abbrev S2x1x8192 : Shape := ⟨3, ![2, 1, 8192]⟩
abbrev S2x1x16 : Shape := ⟨3, ![2, 1, 16]⟩
abbrev S2x16 : Shape := ⟨2, ![2, 16]⟩
abbrev S1x16x8192 : Shape := ⟨3, ![1, 16, 8192]⟩
abbrev S2x16x1 : Shape := ⟨3, ![2, 16, 1]⟩
abbrev S2x8192 : Shape := ⟨2, ![2, 8192]⟩

abbrev nBuf : Space → Nat
  | .hbm => 14
  | .vmem => 19
  | .smem => 0
  | _ => 0

abbrev bufTy : (tb : Table) → Fin (tcTables nBuf tb) → BufTy
  | .hbm, ⟨0, _⟩ => ⟨S2x16384x8192, .fp8e4m3⟩
  | .hbm, ⟨1, _⟩ => ⟨S2x16384x64, .f32⟩
  | .hbm, ⟨2, _⟩ => ⟨S2x16384x8192, .fp8e4m3⟩
  | .hbm, ⟨3, _⟩ => ⟨S2x16384x64, .f32⟩
  | .hbm, ⟨4, _⟩ => ⟨S2x16384x16, .fp8e4m3⟩
  | .hbm, ⟨5, _⟩ => ⟨S2x16384, .f32⟩
  | .hbm, ⟨6, _⟩ => ⟨S2x16384x16, .fp8e4m3⟩
  | .hbm, ⟨7, _⟩ => ⟨S2x16384, .f32⟩
  | .hbm, ⟨8, _⟩ => ⟨S2x16384x8192, .bf16⟩
  | .hbm, ⟨9, _⟩ => ⟨S8192x16, .f32⟩
  | .hbm, ⟨10, _⟩ => ⟨S8192, .f32⟩
  | .hbm, ⟨11, _⟩ => ⟨S8192, .f32⟩
  | .hbm, ⟨12, _⟩ => ⟨S2x16384x8192, .bf16⟩
  | .hbm, ⟨13, _⟩ => ⟨S2x8192x16, .f32⟩
  | .local _ .vmem, ⟨0, _⟩ => ⟨S2x16384x8192, .fp8e4m3⟩
  | .local _ .vmem, ⟨1, _⟩ => ⟨S2x16384x64, .f32⟩
  | .local _ .vmem, ⟨2, _⟩ => ⟨S2x16384x8192, .fp8e4m3⟩
  | .local _ .vmem, ⟨3, _⟩ => ⟨S2x16384x64, .f32⟩
  | .local _ .vmem, ⟨4, _⟩ => ⟨S2x16384x16, .fp8e4m3⟩
  | .local _ .vmem, ⟨5, _⟩ => ⟨S2x16384, .f32⟩
  | .local _ .vmem, ⟨6, _⟩ => ⟨S2x16384x16, .fp8e4m3⟩
  | .local _ .vmem, ⟨7, _⟩ => ⟨S2x16384, .f32⟩
  | .local _ .vmem, ⟨8, _⟩ => ⟨S2x16384x8192, .bf16⟩
  | .local _ .vmem, ⟨9, _⟩ => ⟨S8192x16, .f32⟩
  | .local _ .vmem, ⟨10, _⟩ => ⟨S8192, .f32⟩
  | .local _ .vmem, ⟨11, _⟩ => ⟨S8192, .f32⟩
  | .local _ .vmem, ⟨12, _⟩ => ⟨S2x16384x8192, .bf16⟩
  | .local _ .vmem, ⟨13, _⟩ => ⟨S2x8192x16, .f32⟩
  | .local _ .vmem, ⟨14, _⟩ => ⟨S2x16384x8192, .f32⟩
  | .local _ .vmem, ⟨15, _⟩ => ⟨S2x16384x8192, .f32⟩
  | .local _ .vmem, ⟨16, _⟩ => ⟨S2x16384x16, .f32⟩
  | .local _ .vmem, ⟨17, _⟩ => ⟨S2x16384x16, .f32⟩
  | .local _ .vmem, ⟨18, _⟩ => ⟨S2x16384x8192, .f32⟩
  | _, _ => ⟨S2x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16384_i32 : BitVec 32 := 16384#32
  let v65 : BitVec 32 := Scalar.addi c0_i32 c16384_i32
  let c1_i32 : BitVec 32 := 1#32
  ⟨c0_i32, v65, c1_i32⟩
def k0_off1 (k0_t1 : Fin k0_t1_loop.trips) : Fin 3 → Nat :=
  let c0_53 : Index := 0#32
  let c0_i32 : BitVec 32 := 0#32
  let c1_i32 : BitVec 32 := 1#32
  let arg19 : BitVec 32 := Scf.iv c0_i32 c1_i32 k0_t1
  let v82 : Index := Scalar.indexCast arg19
  let c0_54 : Index := 0#32
  ![0, v82.toNat, 0]
def k0_off2 (k0_t1 : Fin k0_t1_loop.trips) : Fin 3 → Nat :=
  let c0_57 : Index := 0#32
  let c0_i32 : BitVec 32 := 0#32
  let c1_i32 : BitVec 32 := 1#32
  let arg19 : BitVec 32 := Scf.iv c0_i32 c1_i32 k0_t1
  let v86 : Index := Scalar.indexCast arg19
  let c0_58 : Index := 0#32
  ![0, v86.toNat, 0]
abbrev stage0_0 : Fin 1 → Memref sig .tc .vmem S2x16384x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x16 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x16 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16384x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16384x8192 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8192x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Kernel.FrameLoops.lean ====
module

public import proofs.«01_k».proof.Proof.Gen.Kernel.Frame
public import proofs.«01_k».proof.Proof.Gen.Kernel.Loops
@[expose] public section
set_option maxRecDepth 16384
set_option maxHeartbeats 4000000
set_option sl_exec.squeezeSlice true
noncomputable section
namespace Cert.Kernel.Frame
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
/-! The two scans of a block (one for each half of the channels), as loop invariants of the FRAME: the four scratch
    arrays that a trip reads keep their contents, the array of outputs `arg22` holds anything. -/
abbrev UU (nD : Nat) (τ : Topo) : Type := UR sig nD τ
abbrev 𝒱₀ : Variants := Variants.none
/-- The scan loop `k0_t2` for the frame. -/
@[sl_loop] noncomputable def loopInv_k0_t2 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (v11 : FVec F S8x128 .f32) (v14 : FVec F S8x128 .f32) (v17 : FVec F S8x128 .f32) (v20 : FVec F S8x128 .f32) (v23 : FVec F S8x128 .f32) (v26 : FVec F S8x128 .f32) (v29 : FVec F S8x128 .f32) (v32 : FVec F S8x128 .f32) (v35 : FVec F S8x128 .f32) (v38 : FVec F S8x128 .f32) (v41 : FVec F S8x128 .f32) (v44 : FVec F S8x128 .f32) (v47 : FVec F S8x128 .f32) (v50 : FVec F S8x128 .f32) (v53 : FVec F S8x128 .f32) (v56 : FVec F S8x128 .f32) (X18 : BufTy.Contents (Elt F) arg18.view.ty) (X19 : BufTy.Contents (Elt F) arg19.view.ty) (X20 : BufTy.Contents (Elt F) arg20.view.ty) (X21 : BufTy.Contents (Elt F) arg21.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.Kernel.Gen.LoopInvTy_k0_t2 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 v11 v14 v17 v20 v23 v26 v29 v32 v35 v38 v41 v44 v47 v50 v53 v56 v11 v11 v11 v11 v11 v11 v11 v11 v11 v11 v11 v11 v11 init where
  inv := fun k acc => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, (arg22.view.loc (c : Thread nD τ) ↦[arg22.view.set]{fullShare} f)))
  step := fun k acc => by
    obtain ⟨w0,w1,w2,w3,w4,w5,w6,w7,w8,w9,w10,w11,w12,w13,w14,w15⟩ := acc
    have hk : k.val < 32 := Nat.lt_of_lt_of_le k.isLt (by decide +kernel)
    unfold k0_t2_body
    iintro ⟨H18, H19, H20, H21, ⟨%f22, H22⟩⟩
    sl_exec
    sl_step
    isplitl [H18]; · iexact H18
    isplitl [H19]; · iexact H19
    isplitl [H20]; · iexact H20
    isplitl [H21]; · iexact H21
    iexists _; iexact H22
/-- The scan loop `k0_t3` for the frame. -/
@[sl_loop] noncomputable def loopInv_k0_t3 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (v173 : FVec F S8x128 .f32) (v176 : FVec F S8x128 .f32) (v179 : FVec F S8x128 .f32) (v182 : FVec F S8x128 .f32) (v185 : FVec F S8x128 .f32) (v188 : FVec F S8x128 .f32) (v191 : FVec F S8x128 .f32) (v194 : FVec F S8x128 .f32) (v197 : FVec F S8x128 .f32) (v200 : FVec F S8x128 .f32) (v203 : FVec F S8x128 .f32) (v206 : FVec F S8x128 .f32) (v209 : FVec F S8x128 .f32) (v212 : FVec F S8x128 .f32) (v215 : FVec F S8x128 .f32) (v218 : FVec F S8x128 .f32) (X18 : BufTy.Contents (Elt F) arg18.view.ty) (X19 : BufTy.Contents (Elt F) arg19.view.ty) (X20 : BufTy.Contents (Elt F) arg20.view.ty) (X21 : BufTy.Contents (Elt F) arg21.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.Kernel.Gen.LoopInvTy_k0_t3 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 v173 v176 v179 v182 v185 v188 v191 v194 v197 v200 v203 v206 v209 v212 v215 v218 v173 v173 v173 v173 v173 v173 v173 v173 v173 v173 v173 v173 v173 v173 init where
  inv := fun k acc => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, (arg22.view.loc (c : Thread nD τ) ↦[arg22.view.set]{fullShare} f)))
  step := fun k acc => by
    obtain ⟨w0,w1,w2,w3,w4,w5,w6,w7,w8,w9,w10,w11,w12,w13,w14,w15⟩ := acc
    have hk : k.val < 32 := Nat.lt_of_lt_of_le k.isLt (by decide +kernel)
    unfold k0_t3_body
    iintro ⟨H18, H19, H20, H21, ⟨%f22, H22⟩⟩
    sl_exec
    sl_step
    isplitl [H18]; · iexact H18
    isplitl [H19]; · iexact H19
    isplitl [H20]; · iexact H20
    isplitl [H21]; · iexact H21
    iexists _; iexact H22
end Cert.Kernel.Frame
-- ==== Proof.Kernel.FrameBody.lean ====
module

public import proofs.«01_k».proof.Proof.Kernel.FrameLoops
@[expose] public section
set_option maxRecDepth 16384
set_option maxHeartbeats 4000000
set_option sl_exec.squeezeSlice true
noncomputable section
namespace Cert.Kernel.Frame
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
/-- What the body holds before and after a point: every input block at its contents, the two result blocks and the six
    scratch arrays at some contents. -/
def bodyOwns (c : Dev nD) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)))
/-- One point of the grid runs, its inputs unchanged. -/
theorem bodyRun (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (Q : sProp 𝕄) :
    (iprop(bodyOwns (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 X6 X7 X8 X9 X10 X11 X12 X13 X14 ∗ (bodyOwns (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 X6 X7 X8 X9 X10 X11 X12 X13 X14 -∗ Q)) : sProp 𝕄) ⊢ wp frame (wpE (defs₀ (F := F)) Variants.none c none) Set.univ (cc0__body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => Q) := by
  unfold bodyOwns
  iintro ⟨⟨H3, H4, H5, H6, H7, H8, H9, H10, H11, H12, H13, H14, ⟨%f15, H15⟩, ⟨%f16, H16⟩, ⟨%f17, H17⟩, ⟨%f18, H18⟩, ⟨%f19, H19⟩, ⟨%f20, H20⟩, ⟨%f21, H21⟩, ⟨%f22, H22⟩⟩, HK⟩
  sl_exec
  sl_step
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22
end Cert.Kernel.Frame
-- ==== Proof.Kernel.FrameRun.lean ====
module

public import proofs.«01_k».proof.Proof.Kernel.FrameBody
public import proofs.«01_k».proof.Proof.Gen.Kernel.Points
@[expose] public section
set_option maxRecDepth 16384
noncomputable section
namespace Cert.Kernel.Frame
open Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.Rounds
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The buffers that the two host operations after the region write. -/
def T0 : Finset (Ref sig .tc) := {main_v7, main_v8}
/-- The host operations after the region write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals intro b hb; simp only [StableHlo.unary_writes, StableHlo.reshape_writes, Finset.mem_singleton] at hb; cases Proc.devRef_injective _ hb; decide

/-- The two results are forgotten: a frame reads neither. -/
def forgets0 : Fin 14 → Bool := fun w => w.val == 12 || w.val == 13

/-- The proof data of the region: each input block stays as it was fetched, the results are not named, the scratch
    arrays hold anything between two points. -/
def dats (p : Fin 1) (c : Dev nD) : Dat τ (Elt F) Unit ℕ (UR sig nD τ) ℕ (cfgs p) c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => Dat.unnamed (cfg := cfg0) (Val := Elt F) 12 t
    | 13 => Dat.unnamed (cfg := cfg0) (Val := Elt F) 13 t
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
/-- What the library hands the body at point `t`. -/
def bodyPre (c : Dev nD) (t : Fin cfg0.N) : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ X, owns (c : Thread nD τ) (win0_12.stage (cfg0.slots t 12)) fullShare X)
    ∗ (∃ X, owns (c : Thread nD τ) (win0_13.stage (cfg0.slots t 13)) fullShare X))
/-- What the body hands back. -/
def bodyPost (c : Dev nD) (t : Fin cfg0.N) : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ X, owns (c : Thread nD τ) (win0_12.stage (cfg0.slots t 12)) fullShare X)
    ∗ (∃ X, owns (c : Thread nD τ) (win0_13.stage (cfg0.slots t 13)) fullShare X))

set_option maxHeartbeats 800000 in
/-- The body at point `t`, from what the library hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦA spec0 c from rfl]
  unfold Pipeline.ΦA Dat.owesAt Pipeline.owesWithin
  rw [scopedRest0_eq]
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  unfold owns
  iintro ⟨⟨⟨⟨%s0, HS0⟩, ⟨%s1, HS1⟩, ⟨%s2, HS2⟩, ⟨%s3, HS3⟩, ⟨%s4, HS4⟩, ⟨%s5, HS5⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%X12, %f12, %e12, H12⟩, ⟨%X13, %f13, %e13, H13⟩⟩
  iapply (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 f11 _)
  unfold bodyOwns
  simp only [Memref.view_whole, View.set_whole]
  isplitl [H0 H1 H2 H3 H4 H5 H6 H7 H8 H9 H10 H11 H12 H13 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iintro ⟨H0, H1, H2, H3, H4, H5, H6, H7, H8, H9, H10, H11, ⟨%g12, H12⟩, ⟨%g13, H13⟩, ⟨%g14, HS0⟩, ⟨%g15, HS1⟩, ⟨%g16, HS2⟩, ⟨%g17, HS3⟩, ⟨%g18, HS4⟩, ⟨%g19, HS5⟩⟩
  isplitl [Hg HS0 HS1 HS2 HS3 HS4 HS5]
  · isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexists _; iexact HS4
      iexists _; iexact HS5
    iexact Hg
  isplitl [HW]; · iexact HW
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  isplitl [H10]; · iexists _; isplitr; swap; (· iexact H10); ipureintro; exact e10
  isplitl [H11]; · iexists _; isplitr; swap; (· iexact H11); ipureintro; exact e11
  isplitl [H12]; · iexists _; iexists _; isplitr; swap; (· iexact H12); ipureintro; rfl
  iexists _; iexists _; isplitr; swap; (· iexact H13); ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]
/-- The library's body obligation, the two results forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

set_option maxHeartbeats 1600000 in
/-- The frame: the program runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(Pipeline.RDat.FramePostR.arr_in h.1 c 0 rfl).trans ((A_eq m c 0).trans (V_main_arg0 m c)),
    (Pipeline.RDat.FramePostR.arr_in h.1 c 1 rfl).trans ((A_eq m c 1).trans (V_main_arg1 m c)),
    (Pipeline.RDat.FramePostR.arr_in h.1 c 2 rfl).trans ((A_eq m c 2).trans (V_main_arg2 m c)),
    (Pipeline.RDat.FramePostR.arr_in h.1 c 3 rfl).trans ((A_eq m c 3).trans (V_main_arg3 m c)),
    (Pipeline.RDat.FramePostR.arr_in h.1 c 4 rfl).trans ((A_eq m c 4).trans (V_main_arg4 m c)),
    ((h.1 c).2 main_arg5 (Finset.mem_sdiff.mpr ⟨Pipeline.mem_restRefs_of main_arg5 (by decide) (by decide), by decide⟩)).trans (V_main_arg5 m c),
    (Pipeline.RDat.FramePostR.arr_in h.1 c 6 rfl).trans ((A_eq m c 6).trans (V_main_arg6 m c)),
    ((h.1 c).2 main_arg7 (Finset.mem_sdiff.mpr ⟨Pipeline.mem_restRefs_of main_arg7 (by decide) (by decide), by decide⟩)).trans (V_main_arg7 m c),
    (Pipeline.RDat.FramePostR.arr_in h.1 c 8 rfl).trans ((A_eq m c 8).trans (V_main_arg8 m c)),
    ((h.1 c).2 main_arg9 (Finset.mem_sdiff.mpr ⟨Pipeline.mem_restRefs_of main_arg9 (by decide) (by decide), by decide⟩)).trans (V_main_arg9 m c),
    ((h.1 c).2 main_arg10 (Finset.mem_sdiff.mpr ⟨Pipeline.mem_restRefs_of main_arg10 (by decide) (by decide), by decide⟩)).trans (V_main_arg10 m c),
    ((h.1 c).2 main_arg11 (Finset.mem_sdiff.mpr ⟨Pipeline.mem_restRefs_of main_arg11 (by decide) (by decide), by decide⟩)).trans (V_main_arg11 m c)⟩, h.2⟩) (run_main m ρ)
end Cert.Kernel.Frame
-- ==== Proof.KernelIdeal.FrameLoops.lean ====
module

public import proofs.«01_k».proof.Proof.Gen.KernelIdeal.Frame
public import proofs.«01_k».proof.Proof.Gen.KernelIdeal.Loops
@[expose] public section
set_option maxRecDepth 16384
set_option maxHeartbeats 4000000
set_option sl_exec.squeezeSlice true
noncomputable section
namespace Cert.KernelIdeal.Frame
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
/-! The two scans of a block (one for each half of the channels), as loop invariants of the FRAME: the four scratch
    arrays that a trip reads keep their contents, the array of outputs `arg22` holds anything. -/
abbrev UU (nD : Nat) (τ : Topo) : Type := UR sig nD τ
abbrev 𝒱₀ : Variants := Variants.none
/-- The scan loop `k0_t2` for the frame. -/
@[sl_loop] noncomputable def loopInv_k0_t2 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (v11 : FVec F S8x128 .f32) (v14 : FVec F S8x128 .f32) (v17 : FVec F S8x128 .f32) (v20 : FVec F S8x128 .f32) (v23 : FVec F S8x128 .f32) (v26 : FVec F S8x128 .f32) (v29 : FVec F S8x128 .f32) (v32 : FVec F S8x128 .f32) (v35 : FVec F S8x128 .f32) (v38 : FVec F S8x128 .f32) (v41 : FVec F S8x128 .f32) (v44 : FVec F S8x128 .f32) (v47 : FVec F S8x128 .f32) (v50 : FVec F S8x128 .f32) (v53 : FVec F S8x128 .f32) (v56 : FVec F S8x128 .f32) (X18 : BufTy.Contents (Elt F) arg18.view.ty) (X19 : BufTy.Contents (Elt F) arg19.view.ty) (X20 : BufTy.Contents (Elt F) arg20.view.ty) (X21 : BufTy.Contents (Elt F) arg21.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.KernelIdeal.Gen.LoopInvTy_k0_t2 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 v11 v14 v17 v20 v23 v26 v29 v32 v35 v38 v41 v44 v47 v50 v53 v56 v11 v11 v11 v11 v11 v11 v11 v11 v11 v11 v11 v11 v11 init where
  inv := fun k acc => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, (arg22.view.loc (c : Thread nD τ) ↦[arg22.view.set]{fullShare} f)))
  step := fun k acc => by
    obtain ⟨w0,w1,w2,w3,w4,w5,w6,w7,w8,w9,w10,w11,w12,w13,w14,w15⟩ := acc
    have hk : k.val < 32 := Nat.lt_of_lt_of_le k.isLt (by decide +kernel)
    unfold k0_t2_body
    iintro ⟨H18, H19, H20, H21, ⟨%f22, H22⟩⟩
    sl_exec
    sl_step
    isplitl [H18]; · iexact H18
    isplitl [H19]; · iexact H19
    isplitl [H20]; · iexact H20
    isplitl [H21]; · iexact H21
    iexists _; iexact H22
/-- The scan loop `k0_t3` for the frame. -/
@[sl_loop] noncomputable def loopInv_k0_t3 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (v173 : FVec F S8x128 .f32) (v176 : FVec F S8x128 .f32) (v179 : FVec F S8x128 .f32) (v182 : FVec F S8x128 .f32) (v185 : FVec F S8x128 .f32) (v188 : FVec F S8x128 .f32) (v191 : FVec F S8x128 .f32) (v194 : FVec F S8x128 .f32) (v197 : FVec F S8x128 .f32) (v200 : FVec F S8x128 .f32) (v203 : FVec F S8x128 .f32) (v206 : FVec F S8x128 .f32) (v209 : FVec F S8x128 .f32) (v212 : FVec F S8x128 .f32) (v215 : FVec F S8x128 .f32) (v218 : FVec F S8x128 .f32) (X18 : BufTy.Contents (Elt F) arg18.view.ty) (X19 : BufTy.Contents (Elt F) arg19.view.ty) (X20 : BufTy.Contents (Elt F) arg20.view.ty) (X21 : BufTy.Contents (Elt F) arg21.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.KernelIdeal.Gen.LoopInvTy_k0_t3 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 v173 v176 v179 v182 v185 v188 v191 v194 v197 v200 v203 v206 v209 v212 v215 v218 v173 v173 v173 v173 v173 v173 v173 v173 v173 v173 v173 v173 v173 v173 init where
  inv := fun k acc => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, (arg22.view.loc (c : Thread nD τ) ↦[arg22.view.set]{fullShare} f)))
  step := fun k acc => by
    obtain ⟨w0,w1,w2,w3,w4,w5,w6,w7,w8,w9,w10,w11,w12,w13,w14,w15⟩ := acc
    have hk : k.val < 32 := Nat.lt_of_lt_of_le k.isLt (by decide +kernel)
    unfold k0_t3_body
    iintro ⟨H18, H19, H20, H21, ⟨%f22, H22⟩⟩
    sl_exec
    sl_step
    isplitl [H18]; · iexact H18
    isplitl [H19]; · iexact H19
    isplitl [H20]; · iexact H20
    isplitl [H21]; · iexact H21
    iexists _; iexact H22
end Cert.KernelIdeal.Frame
-- ==== Proof.KernelIdeal.FrameBody.lean ====
module

public import proofs.«01_k».proof.Proof.KernelIdeal.FrameLoops
@[expose] public section
set_option maxRecDepth 16384
set_option maxHeartbeats 4000000
set_option sl_exec.squeezeSlice true
noncomputable section
namespace Cert.KernelIdeal.Frame
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ
/-- What the body holds before and after a point: every input block at its contents, the two result blocks and the six
    scratch arrays at some contents. -/
def bodyOwns (c : Dev nD) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)))
/-- One point of the grid runs, its inputs unchanged. -/
theorem bodyRun (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (Q : sProp 𝕄) :
    (iprop(bodyOwns (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 X6 X7 X8 X9 X10 X11 X12 X13 X14 ∗ (bodyOwns (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 X6 X7 X8 X9 X10 X11 X12 X13 X14 -∗ Q)) : sProp 𝕄) ⊢ wp frame (wpE (defs₀ (F := F)) Variants.none c none) Set.univ (cc0__body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => Q) := by
  unfold bodyOwns
  iintro ⟨⟨H3, H4, H5, H6, H7, H8, H9, H10, H11, H12, H13, H14, ⟨%f15, H15⟩, ⟨%f16, H16⟩, ⟨%f17, H17⟩, ⟨%f18, H18⟩, ⟨%f19, H19⟩, ⟨%f20, H20⟩, ⟨%f21, H21⟩, ⟨%f22, H22⟩⟩, HK⟩
  sl_exec
  sl_step
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22
end Cert.KernelIdeal.Frame
-- ==== Proof.KernelIdeal.FrameRun.lean ====
module

public import proofs.«01_k».proof.Proof.KernelIdeal.FrameBody
public import proofs.«01_k».proof.Proof.Gen.KernelIdeal.Points
@[expose] public section
set_option maxRecDepth 16384
noncomputable section
namespace Cert.KernelIdeal.Frame
open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.Rounds
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- The buffers that the two host operations after the region write. -/
def T0 : Finset (Ref sig .tc) := {main_v7, main_v8}
/-- The host operations after the region write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals intro b hb; simp only [StableHlo.unary_writes, StableHlo.reshape_writes, Finset.mem_singleton] at hb; cases Proc.devRef_injective _ hb; decide

/-- The two results are forgotten: a frame reads neither. -/
def forgets0 : Fin 14 → Bool := fun w => w.val == 12 || w.val == 13

/-- The proof data of the region: each input block stays as it was fetched, the results are not named, the scratch
    arrays hold anything between two points. -/
def dats (p : Fin 1) (c : Dev nD) : Dat τ (Elt F) Unit ℕ (UR sig nD τ) ℕ (cfgs p) c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => Dat.unnamed (cfg := cfg0) (Val := Elt F) 12 t
    | 13 => Dat.unnamed (cfg := cfg0) (Val := Elt F) 13 t
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
/-- What the library hands the body at point `t`. -/
def bodyPre (c : Dev nD) (t : Fin cfg0.N) : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ X, owns (c : Thread nD τ) (win0_12.stage (cfg0.slots t 12)) fullShare X)
    ∗ (∃ X, owns (c : Thread nD τ) (win0_13.stage (cfg0.slots t 13)) fullShare X))
/-- What the body hands back. -/
def bodyPost (c : Dev nD) (t : Fin cfg0.N) : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ X, owns (c : Thread nD τ) (win0_12.stage (cfg0.slots t 12)) fullShare X)
    ∗ (∃ X, owns (c : Thread nD τ) (win0_13.stage (cfg0.slots t 13)) fullShare X))

set_option maxHeartbeats 800000 in
/-- The body at point `t`, from what the library hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦA spec0 c from rfl]
  unfold Pipeline.ΦA Dat.owesAt Pipeline.owesWithin
  rw [scopedRest0_eq]
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  unfold owns
  iintro ⟨⟨⟨⟨%s0, HS0⟩, ⟨%s1, HS1⟩, ⟨%s2, HS2⟩, ⟨%s3, HS3⟩, ⟨%s4, HS4⟩, ⟨%s5, HS5⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%X12, %f12, %e12, H12⟩, ⟨%X13, %f13, %e13, H13⟩⟩
  iapply (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 f11 _)
  unfold bodyOwns
  simp only [Memref.view_whole, View.set_whole]
  isplitl [H0 H1 H2 H3 H4 H5 H6 H7 H8 H9 H10 H11 H12 H13 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iintro ⟨H0, H1, H2, H3, H4, H5, H6, H7, H8, H9, H10, H11, ⟨%g12, H12⟩, ⟨%g13, H13⟩, ⟨%g14, HS0⟩, ⟨%g15, HS1⟩, ⟨%g16, HS2⟩, ⟨%g17, HS3⟩, ⟨%g18, HS4⟩, ⟨%g19, HS5⟩⟩
  isplitl [Hg HS0 HS1 HS2 HS3 HS4 HS5]
  · isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexists _; iexact HS4
      iexists _; iexact HS5
    iexact Hg
  isplitl [HW]; · iexact HW
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  isplitl [H10]; · iexists _; isplitr; swap; (· iexact H10); ipureintro; exact e10
  isplitl [H11]; · iexists _; isplitr; swap; (· iexact H11); ipureintro; exact e11
  isplitl [H12]; · iexists _; iexists _; isplitr; swap; (· iexact H12); ipureintro; rfl
  iexists _; iexists _; isplitr; swap; (· iexact H13); ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]
/-- The library's body obligation, the two results forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

set_option maxHeartbeats 1600000 in
/-- The frame: the program runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(Pipeline.RDat.FramePostR.arr_in h.1 c 0 rfl).trans ((A_eq m c 0).trans (V_main_arg0 m c)),
    (Pipeline.RDat.FramePostR.arr_in h.1 c 1 rfl).trans ((A_eq m c 1).trans (V_main_arg1 m c)),
    (Pipeline.RDat.FramePostR.arr_in h.1 c 2 rfl).trans ((A_eq m c 2).trans (V_main_arg2 m c)),
    (Pipeline.RDat.FramePostR.arr_in h.1 c 3 rfl).trans ((A_eq m c 3).trans (V_main_arg3 m c)),
    (Pipeline.RDat.FramePostR.arr_in h.1 c 4 rfl).trans ((A_eq m c 4).trans (V_main_arg4 m c)),
    ((h.1 c).2 main_arg5 (Finset.mem_sdiff.mpr ⟨Pipeline.mem_restRefs_of main_arg5 (by decide) (by decide), by decide⟩)).trans (V_main_arg5 m c),
    (Pipeline.RDat.FramePostR.arr_in h.1 c 6 rfl).trans ((A_eq m c 6).trans (V_main_arg6 m c)),
    ((h.1 c).2 main_arg7 (Finset.mem_sdiff.mpr ⟨Pipeline.mem_restRefs_of main_arg7 (by decide) (by decide), by decide⟩)).trans (V_main_arg7 m c),
    (Pipeline.RDat.FramePostR.arr_in h.1 c 8 rfl).trans ((A_eq m c 8).trans (V_main_arg8 m c)),
    ((h.1 c).2 main_arg9 (Finset.mem_sdiff.mpr ⟨Pipeline.mem_restRefs_of main_arg9 (by decide) (by decide), by decide⟩)).trans (V_main_arg9 m c),
    ((h.1 c).2 main_arg10 (Finset.mem_sdiff.mpr ⟨Pipeline.mem_restRefs_of main_arg10 (by decide) (by decide), by decide⟩)).trans (V_main_arg10 m c),
    ((h.1 c).2 main_arg11 (Finset.mem_sdiff.mpr ⟨Pipeline.mem_restRefs_of main_arg11 (by decide) (by decide), by decide⟩)).trans (V_main_arg11 m c)⟩, h.2⟩) (run_main m ρ)
end Cert.KernelIdeal.Frame
-- ==== Proof.ReferenceIdeal.FrameBody.lean ====
module

public import proofs.«01_k».proof.Proof.Gen.ReferenceIdeal.Loops
@[expose] public section
set_option maxRecDepth 16384
set_option maxHeartbeats 4000000
set_option sl_exec.squeezeSlice true
noncomputable section
namespace Cert.ReferenceIdeal.Frame
open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
/-- What the body holds before and after: every argument at its contents, the two results and the five scratch arrays
    at some contents. -/
def bodyOwns (c : Dev nD) (arg0 : Memref sig .tc .vmem S2x16384x8192 .fp8e4m3) (harg0 : arg0.IsWhole) (arg1 : Memref sig .tc .vmem S2x16384x64 .f32) (harg1 : arg1.IsWhole) (arg2 : Memref sig .tc .vmem S2x16384x8192 .fp8e4m3) (harg2 : arg2.IsWhole) (arg3 : Memref sig .tc .vmem S2x16384x64 .f32) (harg3 : arg3.IsWhole) (arg4 : Memref sig .tc .vmem S2x16384x16 .fp8e4m3) (harg4 : arg4.IsWhole) (arg5 : Memref sig .tc .vmem S2x16384 .f32) (harg5 : arg5.IsWhole) (arg6 : Memref sig .tc .vmem S2x16384x16 .fp8e4m3) (harg6 : arg6.IsWhole) (arg7 : Memref sig .tc .vmem S2x16384 .f32) (harg7 : arg7.IsWhole) (arg8 : Memref sig .tc .vmem S2x16384x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x16384x8192 .bf16) (harg12 : arg12.IsWhole) (arg13 : Memref sig .tc .vmem S2x8192x16 .f32) (harg13 : arg13.IsWhole) (arg14 : Memref sig .tc .vmem S2x16384x8192 .f32) (harg14 : arg14.IsWhole) (arg15 : Memref sig .tc .vmem S2x16384x8192 .f32) (harg15 : arg15.IsWhole) (arg16 : Memref sig .tc .vmem S2x16384x16 .f32) (harg16 : arg16.IsWhole) (arg17 : Memref sig .tc .vmem S2x16384x16 .f32) (harg17 : arg17.IsWhole) (arg18 : Memref sig .tc .vmem S2x16384x8192 .f32) (harg18 : arg18.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)))
/-- The reference's body runs, its arguments unchanged. -/
theorem bodyRun (c : Dev nD) (arg0 : Memref sig .tc .vmem S2x16384x8192 .fp8e4m3) (harg0 : arg0.IsWhole) (arg1 : Memref sig .tc .vmem S2x16384x64 .f32) (harg1 : arg1.IsWhole) (arg2 : Memref sig .tc .vmem S2x16384x8192 .fp8e4m3) (harg2 : arg2.IsWhole) (arg3 : Memref sig .tc .vmem S2x16384x64 .f32) (harg3 : arg3.IsWhole) (arg4 : Memref sig .tc .vmem S2x16384x16 .fp8e4m3) (harg4 : arg4.IsWhole) (arg5 : Memref sig .tc .vmem S2x16384 .f32) (harg5 : arg5.IsWhole) (arg6 : Memref sig .tc .vmem S2x16384x16 .fp8e4m3) (harg6 : arg6.IsWhole) (arg7 : Memref sig .tc .vmem S2x16384 .f32) (harg7 : arg7.IsWhole) (arg8 : Memref sig .tc .vmem S2x16384x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x16384x8192 .bf16) (harg12 : arg12.IsWhole) (arg13 : Memref sig .tc .vmem S2x8192x16 .f32) (harg13 : arg13.IsWhole) (arg14 : Memref sig .tc .vmem S2x16384x8192 .f32) (harg14 : arg14.IsWhole) (arg15 : Memref sig .tc .vmem S2x16384x8192 .f32) (harg15 : arg15.IsWhole) (arg16 : Memref sig .tc .vmem S2x16384x16 .f32) (harg16 : arg16.IsWhole) (arg17 : Memref sig .tc .vmem S2x16384x16 .f32) (harg17 : arg17.IsWhole) (arg18 : Memref sig .tc .vmem S2x16384x8192 .f32) (harg18 : arg18.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (Q : sProp 𝕄) :
    (iprop(bodyOwns (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X0 X1 X2 X3 X4 X5 X6 X7 X8 X9 X10 X11 ∗ (bodyOwns (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X0 X1 X2 X3 X4 X5 X6 X7 X8 X9 X10 X11 -∗ Q)) : sProp 𝕄) ⊢ wp frame (wpE (defs₀ (F := F)) Variants.none c none) Set.univ (cc0__reference_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => Q) := by
  unfold bodyOwns
  iintro ⟨⟨H0, H1, H2, H3, H4, H5, H6, H7, H8, H9, H10, H11, ⟨%f12, H12⟩, ⟨%f13, H13⟩, ⟨%f14, H14⟩, ⟨%f15, H15⟩, ⟨%f16, H16⟩, ⟨%f17, H17⟩, ⟨%f18, H18⟩⟩, HK⟩
  sl_exec
  sl_step
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18
end Cert.ReferenceIdeal.Frame
-- ==== Proof.ReferenceIdeal.FrameRun.lean ====
module

public import proofs.«01_k».proof.Proof.ReferenceIdeal.FrameBody
public import proofs.«01_k».proof.Proof.Gen.ReferenceIdeal.Frame
@[expose] public section
set_option maxRecDepth 16384
noncomputable section
namespace Cert.ReferenceIdeal.Frame
open Cert.ReferenceIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.Rounds
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The two results are forgotten: a frame reads neither. -/
def forgets0 : Fin 14 → Bool := fun w => w.val == 12 || w.val == 13

/-- The proof data of the region: each input stays as it was fetched, the results are not named. -/
def dats (p : Fin 1) (c : Dev nD) : Dat τ (Elt F) Unit ℕ (UR sig nD τ) ℕ (cfgs p) c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => Dat.unnamed (cfg := cfg0) (Val := Elt F) 12 t
    | 13 => Dat.unnamed (cfg := cfg0) (Val := Elt F) 13 t
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
/-- What the library hands the body. -/
def bodyPre (c : Dev nD) (t : Fin cfg0.N) : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ X, owns (c : Thread nD τ) (win0_12.stage (cfg0.slots t 12)) fullShare X)
    ∗ (∃ X, owns (c : Thread nD τ) (win0_13.stage (cfg0.slots t 13)) fullShare X))
/-- What the body hands back. -/
def bodyPost (c : Dev nD) (t : Fin cfg0.N) : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ X, owns (c : Thread nD τ) (win0_12.stage (cfg0.slots t 12)) fullShare X)
    ∗ (∃ X, owns (c : Thread nD τ) (win0_13.stage (cfg0.slots t 13)) fullShare X))

set_option maxHeartbeats 800000 in
/-- The body, from what the library hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦA spec0 c from rfl]
  unfold Pipeline.ΦA Dat.owesAt Pipeline.owesWithin
  rw [scopedRest0_eq]
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  unfold owns
  iintro ⟨⟨⟨⟨%s0, HS0⟩, ⟨%s1, HS1⟩, ⟨%s2, HS2⟩, ⟨%s3, HS3⟩, ⟨%s4, HS4⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%X12, %f12, %e12, H12⟩, ⟨%X13, %f13, %e13, H13⟩⟩
  iapply (bodyRun (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (win0_13.stage (cfg0.slots t 13)) (hstage0_13 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 f8 f9 f10 f11 _)
  unfold bodyOwns
  simp only [Memref.view_whole, View.set_whole]
  isplitl [H0 H1 H2 H3 H4 H5 H6 H7 H8 H9 H10 H11 H12 H13 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    iexists _; iexact HS4
  iintro ⟨H0, H1, H2, H3, H4, H5, H6, H7, H8, H9, H10, H11, ⟨%g12, H12⟩, ⟨%g13, H13⟩, ⟨%g14, HS0⟩, ⟨%g15, HS1⟩, ⟨%g16, HS2⟩, ⟨%g17, HS3⟩, ⟨%g18, HS4⟩⟩
  isplitl [Hg HS0 HS1 HS2 HS3 HS4]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg
  isplitl [HW]; · iexact HW
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  isplitl [H10]; · iexists _; isplitr; swap; (· iexact H10); ipureintro; exact e10
  isplitl [H11]; · iexists _; isplitr; swap; (· iexact H11); ipureintro; exact e11
  isplitl [H12]; · iexists _; iexists _; isplitr; swap; (· iexact H12); ipureintro; rfl
  iexists _; iexists _; isplitr; swap; (· iexact H13); ipureintro; rfl

/-- The body table's row is the body as `bodyAt0` spells it. -/
theorem defs₀_row (t : Fin cfg0.N) :
    defs₀ (F := F) .tc cfg0.body (cfg0.bodyArgs t (cfg0.slots t)) = bodyAt0 t := by
  unfold defs₀; rw [Defs.onTc_tc]
/-- The library's body obligation, the two results forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := F))) (s₀ m ρ) (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1600000 in
/-- The frame: the program runs, its arguments end unchanged and every semaphore counter ends at zero. -/
theorem frame : θ_run defs (onTc (τ := τ) (main (F := F))) ⟨m, fun _ => 0, ρ⟩ (fun r => (∀ c : Dev nD,
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
  ∧ r.2.sem = fun _ => 0) :=
  (θ_run defs _ _).mono (fun _ h => ⟨fun c => ⟨(Pipeline.RDat.FramePost.arr_in h.1 c 0 rfl).trans ((A_eq m c 0).trans (V_main_arg0 m c)),
    (Pipeline.RDat.FramePost.arr_in h.1 c 1 rfl).trans ((A_eq m c 1).trans (V_main_arg1 m c)),
    (Pipeline.RDat.FramePost.arr_in h.1 c 2 rfl).trans ((A_eq m c 2).trans (V_main_arg2 m c)),
    (Pipeline.RDat.FramePost.arr_in h.1 c 3 rfl).trans ((A_eq m c 3).trans (V_main_arg3 m c)),
    (Pipeline.RDat.FramePost.arr_in h.1 c 4 rfl).trans ((A_eq m c 4).trans (V_main_arg4 m c)),
    (Pipeline.RDat.FramePost.arr_in h.1 c 5 rfl).trans ((A_eq m c 5).trans (V_main_arg5 m c)),
    (Pipeline.RDat.FramePost.arr_in h.1 c 6 rfl).trans ((A_eq m c 6).trans (V_main_arg6 m c)),
    (Pipeline.RDat.FramePost.arr_in h.1 c 7 rfl).trans ((A_eq m c 7).trans (V_main_arg7 m c)),
    (Pipeline.RDat.FramePost.arr_in h.1 c 8 rfl).trans ((A_eq m c 8).trans (V_main_arg8 m c)),
    (Pipeline.RDat.FramePost.arr_in h.1 c 9 rfl).trans ((A_eq m c 9).trans (V_main_arg9 m c)),
    (Pipeline.RDat.FramePost.arr_in h.1 c 10 rfl).trans ((A_eq m c 10).trans (V_main_arg10 m c)),
    (Pipeline.RDat.FramePost.arr_in h.1 c 11 rfl).trans ((A_eq m c 11).trans (V_main_arg11 m c))⟩, h.2⟩) (run_main m ρ)
end Cert.ReferenceIdeal.Frame
-- ==== Proof.Value.LoopTypes.lean ====
module

public import proofs.«01_k».proof.Proof.Gen.KernelIdeal.Frame
public import proofs.«01_k».proof.Proof.Gen.KernelIdeal.Skeleton
public import Idealize.ShloMosaic.Lib.Exec
@[expose] public section
set_option maxRecDepth 16384
/-! The types of the invariants of the four loops of one grid point. -/
noncomputable section
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
/-- What an invariant of the loop `k0_t1` is. -/
abbrev LoopTy_k0_t1 (Ix Name U Lvl : Type) [DecidableEq Ix] [DecidableEq Name] [RA.URA U] [Preorder Lvl]
    (𝒱 : Variants) (c : Dev nD) (bd : Option 𝒱.V) (E : Set Name) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (arg2 : BitVec 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2)

/-- What an invariant of the loop `k0_t2` is. -/
abbrev LoopTy_k0_t2 (Ix Name U Lvl : Type) [DecidableEq Ix] [DecidableEq Name] [RA.URA U] [Preorder Lvl]
    (𝒱 : Variants) (c : Dev nD) (bd : Option 𝒱.V) (E : Set Name) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (arg2 : BitVec 32) (v11 : FVec F S8x128 .f32) (v14 : FVec F S8x128 .f32) (v17 : FVec F S8x128 .f32) (v20 : FVec F S8x128 .f32) (v23 : FVec F S8x128 .f32) (v26 : FVec F S8x128 .f32) (v29 : FVec F S8x128 .f32) (v32 : FVec F S8x128 .f32) (v35 : FVec F S8x128 .f32) (v38 : FVec F S8x128 .f32) (v41 : FVec F S8x128 .f32) (v44 : FVec F S8x128 .f32) (v47 : FVec F S8x128 .f32) (v50 : FVec F S8x128 .f32) (v53 : FVec F S8x128 .f32) (v56 : FVec F S8x128 .f32) (v59 : FVec F S8x128 .f32) (v62 : FVec F S8x128 .f32) (v65 : FVec F S8x128 .f32) (v68 : FVec F S8x128 .f32) (v71 : FVec F S8x128 .f32) (v74 : FVec F S8x128 .f32) (v77 : FVec F S8x128 .f32) (v80 : FVec F S8x128 .f32) (v83 : FVec F S8x128 .f32) (v86 : FVec F S8x128 .f32) (v89 : FVec F S8x128 .f32) (v92 : FVec F S8x128 .f32) (v95 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok init (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v11 v14 v17 v20 v23 v26 v29 v32 v35 v38 v41 v44 v47 v50 v53 v56 v59 v62 v65 v68 v71 v74 v77 v80 v83 v86 v89 v92 v95)

/-- What an invariant of the loop `k0_t3` is. -/
abbrev LoopTy_k0_t3 (Ix Name U Lvl : Type) [DecidableEq Ix] [DecidableEq Name] [RA.URA U] [Preorder Lvl]
    (𝒱 : Variants) (c : Dev nD) (bd : Option 𝒱.V) (E : Set Name) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (arg2 : BitVec 32) (v173 : FVec F S8x128 .f32) (v176 : FVec F S8x128 .f32) (v179 : FVec F S8x128 .f32) (v182 : FVec F S8x128 .f32) (v185 : FVec F S8x128 .f32) (v188 : FVec F S8x128 .f32) (v191 : FVec F S8x128 .f32) (v194 : FVec F S8x128 .f32) (v197 : FVec F S8x128 .f32) (v200 : FVec F S8x128 .f32) (v203 : FVec F S8x128 .f32) (v206 : FVec F S8x128 .f32) (v209 : FVec F S8x128 .f32) (v212 : FVec F S8x128 .f32) (v215 : FVec F S8x128 .f32) (v218 : FVec F S8x128 .f32) (v221 : FVec F S8x128 .f32) (v224 : FVec F S8x128 .f32) (v227 : FVec F S8x128 .f32) (v230 : FVec F S8x128 .f32) (v233 : FVec F S8x128 .f32) (v236 : FVec F S8x128 .f32) (v239 : FVec F S8x128 .f32) (v242 : FVec F S8x128 .f32) (v245 : FVec F S8x128 .f32) (v248 : FVec F S8x128 .f32) (v251 : FVec F S8x128 .f32) (v254 : FVec F S8x128 .f32) (v257 : FVec F S8x128 .f32) (v260 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :=
  Idealize.ShloMosaic.LoopInv (M := MT nD τ sig Ix (Elt F) Name U Lvl) Idealize.ShloMosaic.frame (wpE defs₀ 𝒱 (c : Thread nD τ) bd) E
    k0_t3_loop.lb k0_t3_loop.ub k0_t3_loop.st k0_t3_ok init (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 v173 v176 v179 v182 v185 v188 v191 v194 v197 v200 v203 v206 v209 v212 v215 v218 v221 v224 v227 v230 v233 v236 v239 v242 v245 v248 v251 v254 v257 v260)

/-- What an invariant of the loop `k0_t4` is. -/
abbrev LoopTy_k0_t4 (Ix Name U Lvl : Type) [DecidableEq Ix] [DecidableEq Name] [RA.URA U] [Preorder Lvl]
    (𝒱 : Variants) (c : Dev nD) (bd : Option 𝒱.V) (E : Set Name) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (arg2 : BitVec 32) (c0_i32_445 : BitVec 32) (c1_i32_447 : BitVec 32) :=
  Idealize.ShloMosaic.LoopInv (M := MT nD τ sig Ix (Elt F) Name U Lvl) Idealize.ShloMosaic.frame (wpE defs₀ 𝒱 (c : Thread nD τ) bd) E
    k0_t4_loop.lb k0_t4_loop.ub k0_t4_loop.st k0_t4_ok () (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 c0_i32_445 c1_i32_447)
end Cert.KernelIdeal.Value
-- ==== Proof.Value.Rows.lean ====
module

public import Idealize.ShloMosaic.Lib.Pointwise
public import Idealize.ShloMosaic.Lib.Exec
@[expose] public section
noncomputable section
/-! Buffers read at natural coordinates, and the strided rows that the scan loads and stores: rows `r, r + 260, …` of one
plane of a `2 × 2080 × 128` array. -/
namespace Cert.Scan
open Idealize.ShloMosaic

/-- A shape without an empty axis. -/
class Pos (s : Shape) : Prop where
  pos : ∀ a, 0 < s.size a

/-- The index of natural coordinates, each taken modulo its extent. -/
def tot (s : Shape) [h : Pos s] (f : Fin s.rank → ℕ) : s.Idx := fun a => ⟨f a % s.size a, Nat.mod_lt _ (h.pos a)⟩

theorem eq_tot {s : Shape} [Pos s] (f : Fin s.rank → ℕ) (y : s.Idx) (e : ∀ a, (y a).val = f a) : y = tot s f :=
  funext fun a => Fin.ext (by show _ = f a % _; rw [← e a, Nat.mod_eq_of_lt (y a).isLt])

theorem tot_val {s : Shape} [Pos s] (f : Fin s.rank → ℕ) (a : Fin s.rank) (h : f a < s.size a) : (tot s f a).val = f a :=
  Nat.mod_eq_of_lt h

/-- An array read at natural coordinates. -/
def rd {V : Type} {s : Shape} [Pos s] (x : s.Idx → V) (f : Fin s.rank → ℕ) : V := x (tot s f)

theorem eq_rd {V : Type} {s : Shape} [Pos s] (x : s.Idx → V) (y : s.Idx) (f : Fin s.rank → ℕ) (e : ∀ a, (y a).val = f a) : x y = rd x f :=
  congrArg x (eq_tot f y e)

abbrev PlaneS : Shape := ⟨3, ![2, 2080, 128]⟩
abbrev OnePlaneS : Shape := ⟨3, ![1, 2080, 128]⟩
abbrev FlatS : Shape := ⟨2, ![2080, 128]⟩
abbrev RowS : Shape := ⟨2, ![8, 128]⟩
instance : Pos PlaneS := ⟨by decide⟩

variable {sig : RefSig} {κ : Kind} {sp : Space} {e : EltTy} {Val : EltTy → Type}

/-- The box of those rows in the plane, and in the array. -/
abbrev rowBox (off : Fin 2 → ℕ) (inb : ∀ a : Fin FlatS.rank, RowS.size a = 0 ∨ off a + ![260, 1] a * (RowS.size a - 1) < FlatS.size a) : LoadRect FlatS :=
  { off := off, size := RowS.size, stride := ![260, 1], inb := inb }
abbrev rowRect (off : Fin 2 → ℕ) (inb : ∀ a : Fin FlatS.rank, RowS.size a = 0 ∨ off a + ![260, 1] a * (RowS.size a - 1) < FlatS.size a) (sp : ∀ a : Fin FlatS.rank, 0 < ![260, 1] a) : Rect FlatS :=
  { off := off, size := RowS.size, stride := ![260, 1], inb := inb, stride_pos := sp }

/-- A load of the rows `r, r + 260, …` of plane `p`. -/
theorem str_load (v : View sig κ sp PlaneS e) (f : v.ty.Contents Val) {p r : ℕ} {po : Fin 3 → ℕ} (hp : po = ![p, 0, 0])
    (inb0 : ∀ a, po a + OnePlaneS.size a ≤ PlaneS.size a) {off : Fin 2 → ℕ} (hoff : off = ![r, 0]) (inb)
    (h0) (h1) (hst) (hnum) (g : Fin 8) (l : Fin 128) :
    LoadRect.valAlong (lr := rowBox off inb) hnum (v.readAt Val ((Rect.unit (s := PlaneS) po OnePlaneS.size inb0).withinL
      (LoadRect.consLift (rowBox off inb) ![1, 2080, 128] h0 h1) hst) f) (ix2 g l)
    = rd (v.read Val f) ![p, g * 260 + r, l] := by
  have e := Shape.reshapeEquiv_cons_one (d := RowS.size) hnum (ix2 g l)
  refine (congrArg (v.readAt Val _ f) e).trans (eq_rd _ _ _ fun a => ?_)
  have p0 : po 0 = p := congrFun hp 0
  have p1 : po 1 = 0 := congrFun hp 1
  have p2 : po 2 = 0 := congrFun hp 2
  have o0 : off 0 = r := congrFun hoff 0
  have o1 : off 1 = 0 := congrFun hoff 1
  match a with
  | ⟨0, _⟩ => show po 0 + 0 + 1 * 0 = p; omega
  | ⟨1, _⟩ => show po 1 + off 0 + 260 * g.val = g.val * 260 + r; omega
  | ⟨2, _⟩ => show po 2 + off 1 + 1 * l.val = l.val; omega

theorem lift_size : ∀ i : Fin 2, (![1, 2080, 128] : Fin 3 → ℕ) i.succ = FlatS.size i := by decide
theorem row_num : RowS.numel = (⟨3, ![1, 8, 128]⟩ : Shape).numel := by decide

/-- The rows `off 0, off 0 + 260, …` of plane `po 0`, as loaded. -/
abbrev ldRow (v : View sig κ sp PlaneS e) (f : v.ty.Contents Val) (po : Fin 3 → ℕ) (inb0 : ∀ a, po a + OnePlaneS.size a ≤ PlaneS.size a)
    (off : Fin 2 → ℕ) (inb : ∀ a : Fin FlatS.rank, RowS.size a = 0 ∨ off a + ![260, 1] a * (RowS.size a - 1) < FlatS.size a) : RowS.Idx → Val e :=
  LoadRect.valAlong (lr := rowBox off inb) row_num (v.readAt Val ((Rect.unit (s := PlaneS) po OnePlaneS.size inb0).withinL
      (LoadRect.consLift (rowBox off inb) ![1, 2080, 128] rfl lift_size) fun _ => rfl) f)

/-- A store of `w` to the rows `off 0, off 0 + 260, …` of plane `po 0`. -/
abbrev stPiece (po : Fin 3 → ℕ) (inb0 : ∀ a, po a + OnePlaneS.size a ≤ PlaneS.size a)
    (off : Fin 2 → ℕ) (inb : ∀ a : Fin FlatS.rank, RowS.size a = 0 ∨ off a + ![260, 1] a * (RowS.size a - 1) < FlatS.size a)
    (sp : ∀ a : Fin FlatS.rank, 0 < ![260, 1] a) (w : RowS.Idx → Val e) : View.Piece Val PlaneS e :=
  ⟨(Rect.unit (s := PlaneS) po OnePlaneS.size inb0).within (Rect.consLift (rowRect off inb sp) ![1, 2080, 128] rfl lift_size) fun _ => rfl,
    Rect.payAlong (r := rowRect off inb sp) row_num.symm w⟩

/-- The index of the lifted box at row `g` and lane `l`. -/
def row1 (off : Fin 2 → ℕ) (inb sp) (h0) (h1) (g : Fin 8) (l : Fin 128) : ((rowRect off inb sp).consLift ![1, 2080, 128] h0 h1).shape.Idx :=
  Fin.cons ⟨0, Nat.one_pos⟩ (ix2 g l)

/-- A store of the rows `r, r + 260, …` of plane `p`, read anywhere. -/
theorem str_store (v : View sig κ sp PlaneS e) (f : v.ty.Contents Val) {p r : ℕ} {po : Fin 3 → ℕ} (hp : po = ![p, 0, 0])
    (inb0 : ∀ a, po a + OnePlaneS.size a ≤ PlaneS.size a) {off : Fin 2 → ℕ} (hoff : off = ![r, 0]) (hr : r < 260) (inb) (sp)
    (h0) (h1) (hst) (hnum) (w : RowS.Idx → Val e) (L : List (View.Piece Val PlaneS e)) (q s : ℕ) (g : Fin 8) (l : Fin 128) (hq : q < 2) (hs : s < 260) :
    rd (v.read Val (v.writes Val f (⟨(Rect.unit (s := PlaneS) po OnePlaneS.size inb0).within
      (Rect.consLift (rowRect off inb sp) ![1, 2080, 128] h0 h1) hst,
      Rect.payAlong (r := rowRect off inb sp) hnum w⟩ :: L))) ![q, g * 260 + s, l]
    = if q = p ∧ s = r then w (ix2 g l) else rd (v.read Val (v.writes Val f L)) ![q, g * 260 + s, l] := by
  have hg := g.isLt
  have hl := l.isLt
  have p0 : po 0 = p := congrFun hp 0
  have p1 : po 1 = 0 := congrFun hp 1
  have p2 : po 2 = 0 := congrFun hp 2
  have o0 : off 0 = r := congrFun hoff 0
  have o1 : off 1 = 0 := congrFun hoff 1
  unfold rd
  have t0 : (tot PlaneS ![q, g * 260 + s, l] 0).val = q := tot_val _ _ hq
  have t1 : (tot PlaneS ![q, g * 260 + s, l] 1).val = g * 260 + s := tot_val (s := PlaneS) ![q, g * 260 + s, l] 1 (by show g.val * 260 + s < 2080; omega)
  have t2 : (tot PlaneS ![q, g * 260 + s, l] 2).val = l := tot_val (s := PlaneS) ![q, g * 260 + s, l] 2 hl
  generalize tot PlaneS ![q, g * 260 + s, l] = y at t0 t1 t2 ⊢
  split
  · rename_i h
    have k : Rect.payAlong (r := rowRect off inb sp) hnum w (row1 off inb sp h0 h1 g l) = w (ix2 g l) :=
      Rect.payAlong_consLift (rowRect off inb sp) ![1, 2080, 128] h0 h1 w hnum _ _ fun i => match i with
        | ⟨0, _⟩ => rfl
        | ⟨1, _⟩ => rfl
    refine (View.read_writes_cons_hit_of_coords v f ((Rect.unit (s := PlaneS) po OnePlaneS.size inb0).within
      (Rect.consLift (rowRect off inb sp) ![1, 2080, 128] h0 h1) hst) (Rect.payAlong (r := rowRect off inb sp) hnum w) L
      (row1 off inb sp h0 h1 g l) y fun a => ?_).trans k
    match a with
    | ⟨0, _⟩ => exact t0.trans (show q = po 0 + 0 + 1 * 0 by omega)
    | ⟨1, _⟩ => exact t1.trans (show g.val * 260 + s = po 1 + off 0 + 260 * g.val by omega)
    | ⟨2, _⟩ => exact t2.trans (show l.val = po 2 + off 1 + 1 * l.val by omega)
  · rename_i h
    refine View.read_writes_cons_miss v f _ L _ fun hy => h ?_
    have hy := (LoadRect.mem_set _).mp hy
    obtain ⟨j0, hj0, e0⟩ := hy 0
    obtain ⟨j1, hj1, e1⟩ := hy 1
    rw [t0] at e0
    rw [t1] at e1
    have hj0 : j0 < 1 := hj0
    have hj1 : j1 < 8 := hj1
    have e0 : q = po 0 + 0 + 1 * j0 := e0
    have e1 : g.val * 260 + s = po 1 + off 0 + 260 * j1 := e1
    omega

end Cert.Scan
-- ==== Proof.Value.Scan.lean ====
module

public import proofs.«01_k».proof.Proof.Value.Rows
@[expose] public section
noncomputable section
/-! The recurrence of the scan: of vectors, as a trip of the kernel's loop computes it, and of single numbers. -/
namespace Cert.Scan
open Idealize.ShloMosaic

/-- One number's recurrence from `h0`: `h ↦ 2^(δ a) h + u b`. -/
def hs (a h0 : EReal) (δ u b : ℕ → EReal) : ℕ → EReal
  | 0 => h0
  | t + 1 => Ideal.exp2 (δ t * a) * hs a h0 δ u b t + u t * b t

theorem hs_congr (a h0 : EReal) {δ u b δ' u' b' : ℕ → EReal} (n : ℕ)
    (e : ∀ t, t < n → δ t = δ' t ∧ u t = u' t ∧ b t = b' t) : hs a h0 δ u b n = hs a h0 δ' u' b' n := by
  induction n with
  | zero => rfl
  | succ n ih =>
    obtain ⟨e1, e2, e3⟩ := e n (Nat.lt_succ_self n)
    show _ * hs a h0 δ u b n + _ = _ * hs a h0 δ' u' b' n + _
    rw [ih fun t ht => e t (Nat.lt_succ_of_lt ht), e1, e2, e3]

theorem hs_add (a h0 : EReal) (δ u b : ℕ → EReal) (m n : ℕ) :
    hs a h0 δ u b (m + n) = hs a (hs a h0 δ u b m) (fun t => δ (m + t)) (fun t => u (m + t)) (fun t => b (m + t)) n := by
  induction n with
  | zero => rfl
  | succ n ih =>
    show Ideal.exp2 (δ (m + n) * a) * hs a h0 δ u b (m + n) + _ = _
    rw [ih]; rfl

/-- The sum of sixteen numbers in order. -/
def dot16 (f : Fin 16 → EReal) : EReal :=
  f 0 + f 1 + f 2 + f 3 + f 4 + f 5 + f 6 + f 7 + f 8 + f 9 + f 10 + f 11 + f 12 + f 13 + f 14 + f 15

abbrev VV : Type := FVec Ideal RowS .f32

/-- The recurrence on vectors. -/
def vh (a h0 : VV) (D U B : ℕ → VV) : ℕ → VV
  | 0 => h0
  | t + 1 => addf (mulf (exp2 (mulf (D t) a)) (vh a h0 D U B t)) (mulf (U t) (B t))

theorem vh_apply (a h0 : VV) (D U B : ℕ → VV) (n : ℕ) (i : RowS.Idx) :
    vh a h0 D U B n i = hs (a i) (h0 i) (fun t => D t i) (fun t => U t i) (fun t => B t i) n := by
  induction n with
  | zero => rfl
  | succ n ih => show Ideal.exp2 (D n i * a i) * vh a h0 D U B n i + U n i * B n i = _; rw [ih]; rfl

/-- The sum of sixteen vectors in order. -/
def vdot (f : Fin 16 → VV) : VV :=
  addf (addf (addf (addf (addf (addf (addf (addf (addf (addf (addf (addf (addf (addf (addf (f 0) (f 1)) (f 2)) (f 3)) (f 4)) (f 5)) (f 6)) (f 7)) (f 8)) (f 9)) (f 10)) (f 11)) (f 12)) (f 13)) (f 14)) (f 15)

theorem vdot_apply (f : Fin 16 → VV) (i : RowS.Idx) : vdot f i = dot16 fun n => f n i := rfl

abbrev SplatS : Shape := ⟨3, ![16, 256, 128]⟩
abbrev OneS : Shape := ⟨3, ![1, 1, 128]⟩
abbrev LaneS : Shape := ⟨2, ![1, 128]⟩
instance : Pos SplatS := ⟨by decide⟩

variable {sig : RefSig} {κ : Kind} {sp : Space}

/-- A row of a plane of the splat arrays, repeated over eight rows. -/
theorem splat_apply (v : View sig κ sp SplatS .f32) (f : v.ty.Contents (Elt Ideal)) {off : Fin 3 → ℕ} {n r : ℕ} (hoff : off = ![n, r, 0]) (inb) (h1) (h2) (h3) (g : Fin 8) (l : Fin 128) :
    (broadcastTo RowS (shapeCast LaneS (shapeCast LaneS (v.readAt (Elt Ideal) (Rect.unit (s := SplatS) off OneS.size inb).toLoadRect f : Vec Ideal OneS .f32) h1) h2) h3 : VV) (ix2 g l)
    = rd (v.read (Elt Ideal) f) ![n, r, l] := by
  pointwise
  refine eq_rd (s := SplatS) (v.read (Elt Ideal) f) _ _ fun a => ?_
  subst hoff
  match a with
  | ⟨0, _⟩ => rfl
  | ⟨1, _⟩ => rfl
  | ⟨2, _⟩ => show 0 + 1 * l.val = l.val; omega

theorem shapeCast_same (x : VV) (h) : shapeCast RowS x h = x := by
  funext i; show x (Shape.reshapeEquiv _ i) = x i; rw [Shape.reshapeEquiv_self]
end Cert.Scan
-- ==== Proof.Value.Trip.lean ====
module

public import proofs.«01_k».proof.Proof.Value.Scan
@[expose] public section
noncomputable section
/-! What a trip of the scan loop keeps: the sixteen states are those of the recurrence so far, the rows of outputs that
were stored are its outputs, and the other plane is as it was. -/
namespace Cert.Scan
open Idealize.ShloMosaic

/-- The sixteen vectors carried by the loop, as a function. -/
def lst (w : VV × VV × VV × VV × VV × VV × VV × VV × VV × VV × VV × VV × VV × VV × VV × VV) : Fin 16 → VV :=
  ![w.1, w.2.1, w.2.2.1, w.2.2.2.1, w.2.2.2.2.1, w.2.2.2.2.2.1, w.2.2.2.2.2.2.1, w.2.2.2.2.2.2.2.1, w.2.2.2.2.2.2.2.2.1,
    w.2.2.2.2.2.2.2.2.2.1, w.2.2.2.2.2.2.2.2.2.2.1, w.2.2.2.2.2.2.2.2.2.2.2.1, w.2.2.2.2.2.2.2.2.2.2.2.2.1,
    w.2.2.2.2.2.2.2.2.2.2.2.2.2.1, w.2.2.2.2.2.2.2.2.2.2.2.2.2.2.1, w.2.2.2.2.2.2.2.2.2.2.2.2.2.2.2]

variable {sig : RefSig} {κ : Kind} {sp : Space}

/-- Row `g * 260 + t` of plane `p`, lane `l`, by `t`. -/
def prow (x : PlaneS.Idx → EReal) (p g l : ℕ) (t : ℕ) : EReal := rd x ![p, g * 260 + t, l]
/-- Row `t` of plane `n` of a splat array, lane `l`. -/
def srow (x : SplatS.Idx → EReal) (n l : ℕ) (t : ℕ) : EReal := rd x ![n, t, l]

/-- State `n` at row `g`, lane `l`, after `t` steps. -/
def hst (p : ℕ) (x18 : SplatS.Idx → EReal) (x20 x21 : PlaneS.Idx → EReal) (a h0 : Fin 16 → VV) (n : Fin 16) (g : Fin 8) (l : Fin 128) (t : ℕ) : EReal :=
  hs (a n (ix2 g l)) (h0 n (ix2 g l)) (prow x20 p g l) (prow x21 p g l) (srow x18 n l) t

/-- What holds before trip `k`. -/
structure Fact (p : ℕ) (x18 x19 : SplatS.Idx → EReal) (x20 x21 y0 : PlaneS.Idx → EReal)
    (a h0 : Fin 16 → VV) (k : ℕ) (w : Fin 16 → VV) (y : PlaneS.Idx → EReal) : Prop where
  st : ∀ (n : Fin 16) (g : Fin 8) (l : Fin 128), w n (ix2 g l) = hst p x18 x20 x21 a h0 n g l (8 * k)
  out : ∀ (g : Fin 8) (l : Fin 128) (s : ℕ), s < 8 * k → prow y p g l s = dot16 fun n => hst p x18 x20 x21 a h0 n g l (s + 1) * srow x19 n l s
  keep : ∀ (q : ℕ) (g : Fin 8) (l : Fin 128) (s : ℕ), q < 2 → s < 260 → q ≠ p → prow y q g l s = prow y0 q g l s

theorem Fact.zero (p : ℕ) (x18 x19 : SplatS.Idx → EReal) (x20 x21 y0 : PlaneS.Idx → EReal) (a h0 : Fin 16 → VV) :
    Fact p x18 x19 x20 x21 y0 a h0 0 h0 y0 :=
  ⟨fun _ _ _ => rfl, fun _ _ s h => absurd h (Nat.not_lt_zero s), fun _ _ _ _ _ _ _ => rfl⟩

/-- The eight rows that a trip stores. -/
def out8 (a w : Fin 16 → VV) (D U : ℕ → VV) (B C : Fin 16 → ℕ → VV) (c : ℕ) : VV :=
  vdot fun n => mulf (vh (a n) (w n) D U (B n) (c + 1)) (C n c)

/-- The same with the other plane's rows read off the array itself. -/
theorem Fact.own {p : ℕ} {x18 x19 : SplatS.Idx → EReal} {x20 x21 y0 : PlaneS.Idx → EReal} {a h0 : Fin 16 → VV} {k : ℕ} {w : Fin 16 → VV}
    {y : PlaneS.Idx → EReal} (h : Fact p x18 x19 x20 x21 y0 a h0 k w y) : Fact p x18 x19 x20 x21 y a h0 k w y :=
  ⟨h.st, h.out, fun _ _ _ _ _ _ _ => rfl⟩

/-- `G` before the first trip, `f` after it. -/
def sel {α : Type} (k : ℕ) (G f : α) : α := match k with
  | 0 => G
  | _ + 1 => f

/-- `P`, from the first trip on. -/
def cnd (k : ℕ) (P : Prop) : Prop := match k with
  | 0 => True
  | _ + 1 => P

theorem cnd_use {k : ℕ} {P : ℕ → Prop} (h0 : k = 0 → P k) (h : cnd k (P k) = True) : P k := by
  cases k with
  | zero => exact h0 rfl
  | succ k => exact of_eq_true h

theorem Fact.step {p : ℕ} {x18 x19 : SplatS.Idx → EReal} {x20 x21 y0 : PlaneS.Idx → EReal} {a h0 : Fin 16 → VV} {k : ℕ} (hk : k < 32)
    {w w' : Fin 16 → VV} {y y' : PlaneS.Idx → EReal} (hf : Fact p x18 x19 x20 x21 y0 a h0 k w y) (D U : ℕ → VV) (B C : Fin 16 → ℕ → VV)
    (hD : ∀ c, c < 8 → ∀ g l, D c (ix2 g l) = prow x20 p g.val l.val (8 * k + c))
    (hU : ∀ c, c < 8 → ∀ g l, U c (ix2 g l) = prow x21 p g.val l.val (8 * k + c))
    (hB : ∀ n c, c < 8 → ∀ (g : Fin 8) (l : Fin 128), B n c (ix2 g l) = srow x18 n.val l.val (8 * k + c))
    (hC : ∀ n c, c < 8 → ∀ (g : Fin 8) (l : Fin 128), C n c (ix2 g l) = srow x19 n.val l.val (8 * k + c))
    (hw : ∀ n, w' n = vh (a n) (w n) D U (B n) 8)
    (hy : ∀ (q : ℕ) (g : Fin 8) (l : Fin 128) (s : ℕ), q < 2 → s < 260 → prow y' q g l s
      = if q = p ∧ 8 * k ≤ s ∧ s < 8 * k + 8 then out8 a w D U B C (s - 8 * k) (ix2 g l) else prow y q g l s) :
    p < 2 → Fact p x18 x19 x20 x21 y0 a h0 (k + 1) w' y' := fun hp => by
  have key : ∀ (n : Fin 16) (g : Fin 8) (l : Fin 128) (c : ℕ), c ≤ 8 → vh (a n) (w n) D U (B n) c (ix2 g l) = hst p x18 x20 x21 a h0 n g l (8 * k + c) := by
    intro n g l c hc
    rw [vh_apply, hf.st n g l]
    unfold hst
    rw [hs_add]
    exact hs_congr _ _ c fun t ht => ⟨hD t (by omega) g l, hU t (by omega) g l, hB n t (by omega) g l⟩
  refine ⟨fun n g l => ?_, fun g l s hs => ?_, fun q g l s hq hs hqp => ?_⟩
  · rw [hw n, key n g l 8 (Nat.le_refl _)]; rfl
  · rw [hy p g l s hp (by omega)]
    split
    · rename_i h
      show dot16 (fun n => vh (a n) (w n) D U (B n) (s - 8 * k + 1) (ix2 g l) * C n (s - 8 * k) (ix2 g l)) = _
      congr 1; funext n
      rw [key n g l _ (by omega), hC n _ (by omega) g l]
      rw [show 8 * k + (s - 8 * k + 1) = s + 1 by omega, show 8 * k + (s - 8 * k) = s by omega]
    · rename_i h
      exact hf.out g l s (by omega)
  · rw [hy q g l s hq hs, if_neg fun h => hqp h.1]
    exact hf.keep q g l s hq hs hqp

/-- Eight stores of strided rows, one after the other. -/
theorem stores8 (v : View sig κ sp PlaneS .f32) (f : v.ty.Contents (Elt Ideal)) {p r : ℕ} {po : Fin 3 → ℕ} (hp : po = ![p, 0, 0])
    (inb0 : ∀ a, po a + OnePlaneS.size a ≤ PlaneS.size a) (off : ℕ → Fin 2 → ℕ) (hoff : ∀ c, c < 8 → off c = ![r + c, 0]) (hr : r + 8 ≤ 256) (inb : ∀ c a, RowS.size a = 0 ∨ off c a + ![260, 1] a * (RowS.size a - 1) < FlatS.size a) (sp)
    (w : ℕ → VV) (q s : ℕ) (g : Fin 8) (l : Fin 128) (hq : q < 2) (hs : s < 260) :
    prow (v.read (Elt Ideal) (v.writes (Elt Ideal) f [stPiece po inb0 (off 7) (inb 7) sp (shapeCast RowS (w 7) rfl), stPiece po inb0 (off 6) (inb 6) sp (shapeCast RowS (w 6) rfl),
      stPiece po inb0 (off 5) (inb 5) sp (shapeCast RowS (w 5) rfl), stPiece po inb0 (off 4) (inb 4) sp (shapeCast RowS (w 4) rfl), stPiece po inb0 (off 3) (inb 3) sp (shapeCast RowS (w 3) rfl),
      stPiece po inb0 (off 2) (inb 2) sp (shapeCast RowS (w 2) rfl), stPiece po inb0 (off 1) (inb 1) sp (shapeCast RowS (w 1) rfl), stPiece po inb0 (off 0) (inb 0) sp (shapeCast RowS (w 0) rfl)])) q g l s
    = if q = p ∧ r ≤ s ∧ s < r + 8 then w (s - r) (ix2 g l) else prow (v.read (Elt Ideal) f) q g l s := by
  have one : ∀ c L, c < 8 → prow (v.read (Elt Ideal) (v.writes (Elt Ideal) f (stPiece po inb0 (off c) (inb c) sp (shapeCast RowS (w c) rfl) :: L))) q g l s
      = if q = p ∧ s = r + c then w c (ix2 g l) else prow (v.read (Elt Ideal) (v.writes (Elt Ideal) f L)) q g l s := fun c L hc => by
    have e := str_store v f hp inb0 (hoff c hc) (by omega) (inb c) sp rfl lift_size (fun _ => rfl) row_num.symm (shapeCast RowS (w c) rfl) L q s g l hq hs
    rw [shapeCast_same] at e
    unfold prow
    rw [shapeCast_same]
    exact e
  rw [one 7 _ (by decide), one 6 _ (by decide), one 5 _ (by decide), one 4 _ (by decide), one 3 _ (by decide), one 2 _ (by decide), one 1 _ (by decide), one 0 _ (by decide)]
  show _ = if _ then _ else _
  by_cases e : q = p ∧ r ≤ s ∧ s < r + 8
  · rw [if_pos e]
    obtain ⟨e1, e2, e3⟩ := e
    obtain ⟨d, rfl⟩ := Nat.exists_eq_add_of_le e2
    have hd : d < 8 := by omega
    rw [Nat.add_sub_cancel_left]
    interval_cases d <;> simp [e1]
  · rw [if_neg e]
    rw [if_neg (by omega), if_neg (by omega), if_neg (by omega), if_neg (by omega), if_neg (by omega), if_neg (by omega), if_neg (by omega), if_neg (by omega)]
    rfl
theorem splat_inb (n : Fin 16) (r : ℕ) (h : r < 256) : ∀ a, (![n.val, r, 0] : Fin 3 → ℕ) a + OneS.size a ≤ SplatS.size a := fun a => by
  have := n.isLt
  match a with
  | ⟨0, _⟩ => show n.val + 1 ≤ 16; omega
  | ⟨1, _⟩ => show r + 1 ≤ 256; omega
  | ⟨2, _⟩ => show 0 + 128 ≤ 128; omega
end Cert.Scan
-- ==== Proof.Value.ScanLoop0.lean ====
module

public import proofs.«01_k».proof.Proof.Gen.KernelIdeal.Frame
public import proofs.«01_k».proof.Proof.Value.LoopTypes
public import proofs.«01_k».proof.Proof.Value.Trip
@[expose] public section
set_option maxRecDepth 16384
set_option maxHeartbeats 4000000
set_option sl_exec.squeezeSlice true
noncomputable section
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan
theorem splat_eq (n : Fin 16) {o : Fin 2 → ℕ} {r : ℕ} (h : o = ![r, 0]) : (![n.val, o 0, 0] : Fin 3 → ℕ) = ![n.val, r, 0] := by subst h; rfl
abbrev UU (nD : Nat) (τ : Topo) : Type := UR sig nD τ
abbrev 𝒱₀ : Variants := Variants.none

theorem k0_off52_lt (k : Fin k0_t2_loop.trips) : k.val < 32 := Nat.lt_of_lt_of_le k.isLt (by decide +kernel)
/-- The row that step `c` of trip `k` reads. -/
theorem k0_off52_eq (k : Fin k0_t2_loop.trips) (c : ℕ) (hc : c < 8) : k0_off52 k (BitVec.ofNat 32 (c % 8)) = ![8 * k.val + c, 0] := by
  have h : ∀ (k : Fin k0_t2_loop.trips) (c : Fin 8), k0_off52 k (BitVec.ofNat 32 c.val) = ![8 * k.val + c.val, 0] := by decide +kernel
  rw [Nat.mod_eq_of_lt hc]
  exact h k ⟨c, hc⟩
theorem k0_off52_row (k : Fin k0_t2_loop.trips) (c : ℕ) : k0_off52 k (BitVec.ofNat 32 (c % 8)) 0 < 256 := by
  have h := k0_off52_eq k (c % 8) (Nat.mod_lt _ (by decide))
  rw [Nat.mod_mod] at h
  rw [h]
  have := k0_off52_lt k
  show 8 * k.val + c % 8 < 256; omega
/-- The scan loop `k0_t2`. -/
@[sl_loop] noncomputable def loopInv_k0_t2 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (v11 : FVec Ideal S8x128 .f32) (v14 : FVec Ideal S8x128 .f32) (v17 : FVec Ideal S8x128 .f32) (v20 : FVec Ideal S8x128 .f32) (v23 : FVec Ideal S8x128 .f32) (v26 : FVec Ideal S8x128 .f32) (v29 : FVec Ideal S8x128 .f32) (v32 : FVec Ideal S8x128 .f32) (v35 : FVec Ideal S8x128 .f32) (v38 : FVec Ideal S8x128 .f32) (v41 : FVec Ideal S8x128 .f32) (v44 : FVec Ideal S8x128 .f32) (v47 : FVec Ideal S8x128 .f32) (v50 : FVec Ideal S8x128 .f32) (v53 : FVec Ideal S8x128 .f32) (v56 : FVec Ideal S8x128 .f32) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) :
    LoopTy_k0_t2 (F := Ideal) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 v11 v14 v17 v20 v23 v26 v29 v32 v35 v38 v41 v44 v47 v50 v53 v56 v11 v11 v11 v11 v11 v11 v11 v11 v11 v11 v11 v11 v11 init where
  inv := fun k acc => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, ⌜acc = sel k init acc⌝ ∗ ⌜cnd k (Fact 0 (arg18.view.read (Elt Ideal) X18) (arg19.view.read (Elt Ideal) X19) (arg20.view.read (Elt Ideal) X20) (arg21.view.read (Elt Ideal) X21) (arg22.view.read (Elt Ideal) f) ![v11, v14, v17, v20, v23, v26, v29, v32, v35, v38, v41, v44, v47, v50, v53, v56] (lst init) k (lst acc) (arg22.view.read (Elt Ideal) f)) = True⌝ ∗ (arg22.view.loc (c : Thread nD τ) ↦[arg22.view.set]{fullShare} f)))
  step := fun k acc => by
    obtain ⟨w0,w1,w2,w3,w4,w5,w6,w7,w8,w9,w10,w11,w12,w13,w14,w15⟩ := acc
    have hk : k.val < 32 := Nat.lt_of_lt_of_le k.isLt (by decide +kernel)
    unfold k0_t2_body
    iintro ⟨H18, H19, H20, H21, ⟨%f22, %ha, %hf, H22⟩⟩
    replace hf := cnd_use (P := fun k => Fact 0 (arg18.view.read (Elt Ideal) X18) (arg19.view.read (Elt Ideal) X19) (arg20.view.read (Elt Ideal) X20) (arg21.view.read (Elt Ideal) X21) (arg22.view.read (Elt Ideal) f22) ![v11, v14, v17, v20, v23, v26, v29, v32, v35, v38, v41, v44, v47, v50, v53, v56] (lst init) k (lst (w0,w1,w2,w3,w4,w5,w6,w7,w8,w9,w10,w11,w12,w13,w14,w15)) (arg22.view.read (Elt Ideal) f22)) (by intro h; rw [h] at ha; rw [ha]; rw [h]; exact Fact.zero ..) hf
    sl_exec
    sl_step
    isplitl [H18]; · iexact H18
    isplitl [H19]; · iexact H19
    isplitl [H20]; · iexact H20
    isplitl [H21]; · iexact H21
    iexists _; isplitr; (· ipureintro; rfl)
    isplitr; swap; (· iexact H22)
    ipureintro
    refine eq_true (Fact.own (Fact.step (k := k.val) hk hf (fun c => ldRow arg20.view X20 ![0, 0, 0] inb_S2x2080x128_S1x2080x128_0_0_0 (k0_off52 k (BitVec.ofNat 32 (c % 8))) (k0_off52_inb k ⟨c % 8, Nat.mod_lt _ (by decide)⟩)) (fun c => ldRow arg21.view X21 ![0, 0, 0] inb_S2x2080x128_S1x2080x128_0_0_0 (k0_off52 k (BitVec.ofNat 32 (c % 8))) (k0_off52_inb k ⟨c % 8, Nat.mod_lt _ (by decide)⟩)) (fun n c => broadcastTo RowS (shapeCast LaneS (shapeCast LaneS (View.readAt (Elt Ideal) arg18.view (Rect.unit (s := SplatS) ![n.val, k0_off52 k (BitVec.ofNat 32 (c % 8)) 0, 0] OneS.size (splat_inb n _ (k0_off52_row k c))).toLoadRect X18 : Vec Ideal OneS .f32) shapeCasts_S1x1x128_S1x128) shapeCasts_S1x128_S1x128) broadcasts_S1x128_S8x128) (fun n c => broadcastTo RowS (shapeCast LaneS (shapeCast LaneS (View.readAt (Elt Ideal) arg19.view (Rect.unit (s := SplatS) ![n.val, k0_off52 k (BitVec.ofNat 32 (c % 8)) 0, 0] OneS.size (splat_inb n _ (k0_off52_row k c))).toLoadRect X19 : Vec Ideal OneS .f32) shapeCasts_S1x1x128_S1x128) shapeCasts_S1x128_S1x128) broadcasts_S1x128_S8x128) ?_ ?_ ?_ ?_ ?_ ?_ (by decide)))
    · exact fun c hc g l => str_load _ _ rfl _ (k0_off52_eq k c hc) _ _ _ _ _ g l
    · exact fun c hc g l => str_load _ _ rfl _ (k0_off52_eq k c hc) _ _ _ _ _ g l
    · exact fun n c hc g l => splat_apply _ _ (splat_eq n (k0_off52_eq k c hc)) _ _ _ _ g l
    · exact fun n c hc g l => splat_apply _ _ (splat_eq n (k0_off52_eq k c hc)) _ _ _ _ g l
    · intro n
      have h16 := n.isLt
      match n with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => rfl
      | ⟨9, _⟩ => rfl
      | ⟨10, _⟩ => rfl
      | ⟨11, _⟩ => rfl
      | ⟨12, _⟩ => rfl
      | ⟨13, _⟩ => rfl
      | ⟨14, _⟩ => rfl
      | ⟨15, _⟩ => rfl
      | ⟨n + 16, h⟩ => exact absurd h (by omega)
    · intro q g l s hq hs
      have e := stores8 arg22.view f22 (p := 0) (r := 8 * k.val) (po := ![0, 0, 0]) rfl inb_S2x2080x128_S1x2080x128_0_0_0 (fun c => k0_off52 k (BitVec.ofNat 32 (c % 8))) (k0_off52_eq k) (by omega)
        (fun c => k0_off52_inb k ⟨c % 8, Nat.mod_lt _ (by decide)⟩) spos_260_1 (out8 ![v11, v14, v17, v20, v23, v26, v29, v32, v35, v38, v41, v44, v47, v50, v53, v56] (lst (w0, w1, w2, w3, w4, w5, w6, w7, w8, w9, w10, w11, w12, w13, w14, w15)) (fun c => ldRow arg20.view X20 ![0, 0, 0] inb_S2x2080x128_S1x2080x128_0_0_0 (k0_off52 k (BitVec.ofNat 32 (c % 8))) (k0_off52_inb k ⟨c % 8, Nat.mod_lt _ (by decide)⟩)) (fun c => ldRow arg21.view X21 ![0, 0, 0] inb_S2x2080x128_S1x2080x128_0_0_0 (k0_off52 k (BitVec.ofNat 32 (c % 8))) (k0_off52_inb k ⟨c % 8, Nat.mod_lt _ (by decide)⟩)) (fun n c => broadcastTo RowS (shapeCast LaneS (shapeCast LaneS (View.readAt (Elt Ideal) arg18.view (Rect.unit (s := SplatS) ![n.val, k0_off52 k (BitVec.ofNat 32 (c % 8)) 0, 0] OneS.size (splat_inb n _ (k0_off52_row k c))).toLoadRect X18 : Vec Ideal OneS .f32) shapeCasts_S1x1x128_S1x128) shapeCasts_S1x128_S1x128) broadcasts_S1x128_S8x128) (fun n c => broadcastTo RowS (shapeCast LaneS (shapeCast LaneS (View.readAt (Elt Ideal) arg19.view (Rect.unit (s := SplatS) ![n.val, k0_off52 k (BitVec.ofNat 32 (c % 8)) 0, 0] OneS.size (splat_inb n _ (k0_off52_row k c))).toLoadRect X19 : Vec Ideal OneS .f32) shapeCasts_S1x1x128_S1x128) shapeCasts_S1x128_S1x128) broadcasts_S1x128_S8x128)) q s g l hq hs
      refine Eq.trans (congrArg (fun L => prow (arg22.view.read (Elt Ideal) (arg22.view.writes (Elt Ideal) f22 L)) q g l s) ?_) e
      clear e
      refine congrArg₂ List.cons ?p7 (congrArg₂ List.cons ?p6 (congrArg₂ List.cons ?p5 (congrArg₂ List.cons ?p4 (congrArg₂ List.cons ?p3 (congrArg₂ List.cons ?p2 (congrArg₂ List.cons ?p1 (congrArg₂ List.cons ?p0 rfl)))))))
      case p7 => rfl
      case p6 => rfl
      case p5 => rfl
      case p4 => rfl
      case p3 => rfl
      case p2 => rfl
      case p1 => rfl
      case p0 => rfl
end Cert.KernelIdeal.Value
-- ==== Proof.Value.Pre.lean ====
module

public import proofs.«01_k».proof.Proof.Value.ScanLoop0
public import Idealize.ShloMosaic.Lib.KernelVsHost
public import Idealize.ShloMosaic.Lib.WritesUnit
public import Idealize.ShloMosaic.Lib.Pipeline.Value
@[expose] public section
set_option maxRecDepth 16384
set_option maxHeartbeats 4000000
set_option sl_exec.squeezeSlice true
noncomputable section
/-! The vectors that the loops before and after the scan compute, read at an index. -/
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan

abbrev ScS : Shape := ⟨3, ![1, 256, 64]⟩
abbrev BlS : Shape := ⟨3, ![1, 256, 2048]⟩
abbrev PaS : Shape := ⟨2, ![1, 2048]⟩
instance : Pos ScS := ⟨by decide⟩
instance : Pos BlS := ⟨by decide⟩
instance : Pos PaS := ⟨by decide⟩

theorem slices_col (n : ℕ) : S32x128.Slices ![0, n % 16] S32x1 := by
  have h : ∀ n : Fin 16, S32x128.Slices ![0, n.val] S32x1 := by decide
  exact h ⟨n % 16, Nat.mod_lt _ (by decide)⟩

/-- Thirty-two rows of codes times column `n` of the scales. -/
def dq (roll : FVec Ideal S32x128 .f32) (c : Vec Ideal S1x32x128 .fp8e4m3) (n : ℕ) : FVec Ideal S32x128 .f32 :=
  mulf (extf .f32 (shapeCast S32x128 c shapeCasts_S1x32x128_S32x128 : FVec Ideal S32x128 .fp8e4m3) bitsLt_fp8e4m3_f32)
    (broadcastTo S32x128 (shapeCast S32x1 (extractStridedSlice S32x1 ![0, n % 16] roll (slices_col n)) shapeCasts_S32x1_S32x1) broadcasts_S32x1_S32x128)

/-- The kernel's softplus, of thirty-two rows. -/
def softV (v : FVec Ideal S32x128 .f32) : FVec Ideal S32x128 .f32 :=
  addf (maximumf v (broadcast S32x128 (Scalar.ofBits .f32 0x00000000#32)))
    (addf (mulf (mulf (log (addf (broadcast S32x128 (Scalar.ofBits .f32 0x3F800000#32)) (exp2 (mulf (absf v) (broadcast S32x128 (Named.named κ "neg_log2_e" 0xBFB8AA3B#32))))))
        (broadcast S32x128 (Named.named κ "log2_e" 0x3FB8AA3B#32))) (broadcast S32x128 (Named.named κ "ln_2" 0x3F317218#32)))
      (subf (exp2 (mulf (absf v) (broadcast S32x128 (Named.named κ "neg_log2_e" 0xBFB8AA3B#32))))
        (subf (addf (broadcast S32x128 (Scalar.ofBits .f32 0x3F800000#32)) (exp2 (mulf (absf v) (broadcast S32x128 (Named.named κ "neg_log2_e" 0xBFB8AA3B#32)))))
          (broadcast S32x128 (Scalar.ofBits .f32 0x3F800000#32)))))
/-- The kernel's softplus of one number. -/
def softE (v : EReal) : EReal := softV (fun _ => v) (ix2 0 0)
theorem softV_apply (v : FVec Ideal S32x128 .f32) (i : S32x128.Idx) : softV v i = softE (v i) := rfl

/-- A row of parameters under every row. -/
def parV (b : Vec Ideal S1x128 .f32) : FVec Ideal S32x128 .f32 :=
  broadcastTo S32x128 (shapeCast S1x128 b shapeCasts_S1x128_S1x128) broadcasts_S1x128_S32x128

/-- Thirty-two rows of step sizes. -/
def dlV (roll : FVec Ideal S32x128 .f32) (c : Vec Ideal S1x32x128 .fp8e4m3) (b : Vec Ideal S1x128 .f32) (n : ℕ) : FVec Ideal S32x128 .f32 :=
  softV (addf (dq roll c n) (parV b))

/-- The kernel's gated output, of thirty-two rows. -/
def gateV (ys d x z : FVec Ideal S32x128 .f32) : FVec Ideal S32x128 .f32 :=
  mulf (addf ys (mulf d x)) (divf z (addf (broadcast S32x128 (Scalar.ofBits .f32 0x3F800000#32)) (exp2 (mulf z (broadcast S32x128 (Named.named κ "neg_log2_e" 0xBFB8AA3B#32))))))
/-- The kernel's gated output, of one number. -/
def gateE (ys d x z : EReal) : EReal := gateV (fun _ => ys) (fun _ => d) (fun _ => x) (fun _ => z) (ix2 0 0)
theorem gateV_apply (ys d x z : FVec Ideal S32x128 .f32) (i : S32x128.Idx) : gateV ys d x z i = gateE (ys i) (d i) (x i) (z i) := rfl

/-- Thirty-two rows of gated outputs, as stored. -/
def outV (roll : FVec Ideal S32x128 .f32) (c : Vec Ideal S1x32x128 .fp8e4m3) (ys : Vec Ideal S1x32x128 .f32) (z : Vec Ideal S1x32x128 .bf16) (d : Vec Ideal S1x128 .f32) (n : ℕ) :
    FVec Ideal S1x32x128 .bf16 :=
  shapeCast S1x32x128 (truncf .bf16 (gateV (shapeCast S32x128 ys shapeCasts_S1x32x128_S32x128) (parV d) (dq roll c n)
    (extf .f32 (shapeCast S32x128 z shapeCasts_S1x32x128_S32x128 : FVec Ideal S32x128 .bf16) bitsLt_bf16_f32)) bitsLt_bf16_f32) shapeCasts_S32x128_S1x32x128

theorem cast31 {α : Type} (x : S1x32x128.Idx → α) (r : Fin 32) (l : Fin 128) : shapeCast S32x128 x shapeCasts_S1x32x128_S32x128 (ix2 r l) = x (ix3 0 r l) := by
  pointwise
theorem cast13 {α : Type} (x : S32x128.Idx → α) (r : Fin 32) (l : Fin 128) : shapeCast S1x32x128 x shapeCasts_S32x128_S1x32x128 (ix3 0 r l) = x (ix2 r l) := by
  pointwise
theorem dq_apply (roll : FVec Ideal S32x128 .f32) (c : Vec Ideal S1x32x128 .fp8e4m3) (n : ℕ) (r : Fin 32) (l : Fin 128) :
    dq roll c n (ix2 r l) = c (ix3 0 r l) * roll (ix2 r ⟨n % 16, by omega⟩) := by
  show shapeCast S32x128 c shapeCasts_S1x32x128_S32x128 (ix2 r l) * _ = _
  rw [cast31]
  congr 1
  refine (by pointwise : _ = roll (ix2 r ⟨0 + n % 16, by omega⟩)).trans ?_
  congr 1; congr 1; exact Fin.ext (Nat.zero_add _)
theorem parV_apply (b : Vec Ideal S1x128 .f32) (r : Fin 32) (l : Fin 128) : parV b (ix2 r l) = b (ix2 0 l) := by
  pointwise [parV]
theorem dlV_apply (roll : FVec Ideal S32x128 .f32) (c : Vec Ideal S1x32x128 .fp8e4m3) (b : Vec Ideal S1x128 .f32) (n : ℕ) (i : S32x128.Idx) :
    dlV roll c b n i = softE (dq roll c n i + parV b i) := rfl
theorem outV_apply (roll : FVec Ideal S32x128 .f32) (c : Vec Ideal S1x32x128 .fp8e4m3) (ys : Vec Ideal S1x32x128 .f32) (z : Vec Ideal S1x32x128 .bf16) (d : Vec Ideal S1x128 .f32) (n : ℕ) (r : Fin 32) (l : Fin 128) :
    outV roll c ys z d n (ix3 0 r l) = gateE (ys (ix3 0 r l)) (parV d (ix2 r l)) (dq roll c n (ix2 r l)) (z (ix3 0 r l)) := by
  refine (cast13 _ r l).trans ?_
  refine (gateV_apply _ _ _ _ (ix2 r l)).trans ?_
  rw [cast31]
  exact congrArg (gateE _ _ _) (cast31 z r l)
/-- The rolled scales: column `n` is column `n + 16 a` of the block. -/
theorem roll_apply (a : Fin 4) (v : Vec Ideal S1x32x64 .f32) (r : Fin 32) (n : Fin 16) :
    k0_pay76 (F := Ideal) (BitVec.ofNat 32 a.val) v (ix2 r ⟨n.val, by omega⟩) = v (ix3 0 r ⟨n.val + 16 * a.val, by omega⟩) := by
  have hn := n.isLt
  have ha := a.isLt
  unfold k0_pay76
  dsimp only
  refine (dynamicRotate_apply (1 : Fin 2) _ _ _ _ (ix2 r (⟨n.val + 16 * a.val, by omega⟩ : Fin 128)) fun b => ?_).trans ?_
  · match b with
    | ⟨0, _⟩ => rfl
    | ⟨1, _⟩ =>
      have h : ∀ (a : Fin 4) (n : Fin 16), n.val + 16 * a.val = (n.val + 128 - (Scalar.select (Scalar.andi (Scalar.xori (Scalar.cmpi .slt (Scalar.remsi (Scalar.subi 128#32 (Scalar.muli (BitVec.ofNat 32 a.val) 16#32)) (Scalar.select (Scalar.cmpi .eq 128#32 0#32) 1#32 128#32)) 0#32) (Scalar.cmpi .slt (Scalar.select (Scalar.cmpi .eq 128#32 0#32) 1#32 128#32) 0#32)) (Scalar.cmpi .ne (Scalar.remsi (Scalar.subi 128#32 (Scalar.muli (BitVec.ofNat 32 a.val) 16#32)) (Scalar.select (Scalar.cmpi .eq 128#32 0#32) 1#32 128#32)) 0#32)) (Scalar.addi (Scalar.remsi (Scalar.subi 128#32 (Scalar.muli (BitVec.ofNat 32 a.val) 16#32)) (Scalar.select (Scalar.cmpi .eq 128#32 0#32) 1#32 128#32)) (Scalar.select (Scalar.cmpi .eq 128#32 0#32) 1#32 128#32)) (Scalar.remsi (Scalar.subi 128#32 (Scalar.muli (BitVec.ofNat 32 a.val) 16#32)) (Scalar.select (Scalar.cmpi .eq 128#32 0#32) 1#32 128#32)) : BitVec 32).toNat % 128) % 128 := by decide +kernel
      exact h a n
  · refine (concatenate_pair_apply_left (t := S32x128) (s₁ := S32x64) (s₂ := S32x64) (1 : Fin 2) _ _ _ _ rfl (ix2 r (⟨n.val + 16 * a.val, by omega⟩ : Fin 64)) fun b => ?_).trans ?_
    · match b with
      | ⟨0, _⟩ => rfl
      | ⟨1, _⟩ => rfl
    · pointwise

/-- A box of ones' strides, read at an index. -/
theorem ld3 {sig : RefSig} {κ : Kind} {sp : Space} {s : Shape} [Pos s] {e : EltTy} {Val : EltTy → Type} (v : View sig κ sp s e) (f : v.ty.Contents Val) {off off' size : Fin s.rank → ℕ}
    (h : off = off') (inb) (x : (Rect.unit (s := s) off size inb).shape.Idx) : v.readAt Val (Rect.unit (s := s) off size inb).toLoadRect f x = rd (v.read Val f) fun a => off' a + (x a).val := by
  subst h
  exact eq_rd (v.read Val f) ((Rect.unit (s := s) off size inb).emb x) _ fun a => by show off a + 1 * (x a).val = off a + (x a).val; omega

/-- Two pieces of the same box and payload. -/
theorem piece_eq {s : Shape} {e : EltTy} {Val : EltTy → Type} {off off' size : Fin s.rank → ℕ} (h : off = off') (inb) (inb') {w w' : (⟨s.rank, size⟩ : Shape).Idx → Val e} (hw : w = w') :
    (⟨Rect.unit (s := s) off size inb, w⟩ : View.Piece Val s e) = ⟨Rect.unit (s := s) off' size inb', w'⟩ := by
  subst h; subst hw; rfl

/-- The offset of column block `n`'s rows in the strided planes. -/
def poff (k n : ℕ) : Fin 3 → ℕ := ![n % 2, 260 * (n / 2) + 32 * k, 0]
theorem poff_inb (k : ℕ) (hk : k < 8) (n : ℕ) (hn : n < 16) : ∀ a, poff k n a + S1x32x128.size a ≤ PlaneS.size a := fun a => by
  match a with
  | ⟨0, _⟩ => show n % 2 + 1 ≤ 2; omega
  | ⟨1, _⟩ => show 260 * (n / 2) + 32 * k + 32 ≤ 2080; omega
  | ⟨2, _⟩ => show 0 + 128 ≤ 128; omega

/-- The pieces of the first `n` column blocks, the last one first. -/
def planePcs (k : ℕ) (hk : k < 8) (w : ℕ → FVec Ideal S1x32x128 .f32) : (n : ℕ) → n ≤ 16 → List (View.Piece (Elt Ideal) PlaneS .f32)
  | 0, _ => []
  | n + 1, h => ⟨Rect.unit (s := PlaneS) (poff k n) S1x32x128.size (poff_inb k hk n h), w n⟩ :: planePcs k hk w n (Nat.le_of_succ_le h)

theorem planePcs_read {sig : RefSig} {κ : Kind} {sp : Space} (v : View sig κ sp PlaneS .f32) (f : v.ty.Contents (Elt Ideal)) (k : ℕ) (hk : k < 8) (w : ℕ → FVec Ideal S1x32x128 .f32)
    (n : ℕ) (hn : n ≤ 16) (p : Fin 2) (g : Fin 8) (l : Fin 128) (s : ℕ) (hs : s < 256) :
    prow (v.read (Elt Ideal) (v.writes (Elt Ideal) f (planePcs k hk w n hn))) p g l s
      = if h : 2 * g.val + p.val < n ∧ 32 * k ≤ s ∧ s < 32 * k + 32 then w (2 * g + p) (ix3 0 ⟨s - 32 * k, by omega⟩ l) else prow (v.read (Elt Ideal) f) p g l s := by
  have hg := g.isLt
  have hp := p.isLt
  have hl := l.isLt
  induction n with
  | zero => rw [dif_neg (by omega)]; rfl
  | succ n ih =>
    have t0 : (tot PlaneS ![p, g * 260 + s, l] 0).val = p := tot_val _ _ hp
    have t1 : (tot PlaneS ![p, g * 260 + s, l] 1).val = g * 260 + s := tot_val (s := PlaneS) ![p, g * 260 + s, l] 1 (by show g.val * 260 + s < 2080; omega)
    have t2 : (tot PlaneS ![p, g * 260 + s, l] 2).val = l := tot_val (s := PlaneS) ![p, g * 260 + s, l] 2 hl
    have ih := ih (Nat.le_of_succ_le hn)
    unfold prow rd at ih ⊢
    generalize tot PlaneS ![p, g * 260 + s, l] = y at t0 t1 t2 ih ⊢
    by_cases h : 2 * g.val + p.val = n ∧ 32 * k ≤ s ∧ s < 32 * k + 32
    · rw [dif_pos (by omega)]
      obtain ⟨h1, h2, h3⟩ := h
      have hw : w n = w (2 * g + p) := by rw [h1]
      rw [← hw]
      refine View.read_writes_cons_unit_of_mem v f (poff_inb k hk n hn) (w n) _ y (ix3 0 ⟨s - 32 * k, by omega⟩ l) rfl fun a => ?_
      match a with
      | ⟨0, _⟩ => exact t0.trans (show p.val = n % 2 + 0 by omega)
      | ⟨1, _⟩ => exact t1.trans (show g.val * 260 + s = 260 * (n / 2) + 32 * k + (s - 32 * k) by omega)
      | ⟨2, _⟩ => exact t2.trans (show l.val = 0 + l.val by omega)
    · have e : (if h : 2 * g.val + p.val < n + 1 ∧ 32 * k ≤ s ∧ s < 32 * k + 32 then w (2 * g + p) (ix3 0 ⟨s - 32 * k, by omega⟩ l) else v.read (Elt Ideal) f y)
          = (if h : 2 * g.val + p.val < n ∧ 32 * k ≤ s ∧ s < 32 * k + 32 then w (2 * g + p) (ix3 0 ⟨s - 32 * k, by omega⟩ l) else v.read (Elt Ideal) f y) := by
        by_cases h' : 2 * g.val + p.val < n ∧ 32 * k ≤ s ∧ s < 32 * k + 32
        · rw [dif_pos h', dif_pos (by omega)]
        · rw [dif_neg h', dif_neg (by omega)]
      rw [e, ← ih]
      by_cases h0 : p.val = n % 2
      · refine View.read_writes_cons_unit_of_not_mem v f (poff_inb k hk n hn) (w n) _ y rfl 1 ?_
        rw [t1]
        show g.val * 260 + s < 260 * (n / 2) + 32 * k ∨ 260 * (n / 2) + 32 * k + 32 ≤ g.val * 260 + s
        omega
      · refine View.read_writes_cons_unit_of_not_mem v f (poff_inb k hk n hn) (w n) _ y rfl 0 ?_
        rw [t0]
        show p.val < n % 2 ∨ n % 2 + 1 ≤ p.val
        omega

/-- The offset of column block `n`'s rows in a block of activations. -/
def boff (k n : ℕ) : Fin 3 → ℕ := ![0, 32 * k, 128 * n]
theorem boff_inb (k : ℕ) (hk : k < 8) (n : ℕ) (hn : n < 16) : ∀ a, boff k n a + S1x32x128.size a ≤ BlS.size a := fun a => by
  match a with
  | ⟨0, _⟩ => show 0 + 1 ≤ 1; omega
  | ⟨1, _⟩ => show 32 * k + 32 ≤ 256; omega
  | ⟨2, _⟩ => show 128 * n + 128 ≤ 2048; omega
/-- The pieces of the first `n` column blocks of a block of outputs, the last one first. -/
def blockPcs (k : ℕ) (hk : k < 8) (w : ℕ → FVec Ideal S1x32x128 .bf16) : (n : ℕ) → n ≤ 16 → List (View.Piece (Elt Ideal) BlS .bf16)
  | 0, _ => []
  | n + 1, h => ⟨Rect.unit (s := BlS) (boff k n) S1x32x128.size (boff_inb k hk n h), w n⟩ :: blockPcs k hk w n (Nat.le_of_succ_le h)

theorem blockPcs_read {sig : RefSig} {κ : Kind} {sp : Space} (v : View sig κ sp BlS .bf16) (f : v.ty.Contents (Elt Ideal)) (k : ℕ) (hk : k < 8) (w : ℕ → FVec Ideal S1x32x128 .bf16)
    (n : ℕ) (hn : n ≤ 16) (m : ℕ) (hm : m < 16) (l : Fin 128) (s : ℕ) (hs : s < 256) :
    rd (v.read (Elt Ideal) (v.writes (Elt Ideal) f (blockPcs k hk w n hn))) ![0, s, 128 * m + l]
      = if h : m < n ∧ 32 * k ≤ s ∧ s < 32 * k + 32 then w m (ix3 0 ⟨s - 32 * k, by omega⟩ l) else rd (v.read (Elt Ideal) f) ![0, s, 128 * m + l] := by
  have hl := l.isLt
  induction n with
  | zero => rw [dif_neg (by omega)]; rfl
  | succ n ih =>
    have t0 : (tot BlS ![0, s, 128 * m + l] 0).val = 0 := tot_val (s := BlS) ![0, s, 128 * m + l] 0 Nat.one_pos
    have t1 : (tot BlS ![0, s, 128 * m + l] 1).val = s := tot_val (s := BlS) ![0, s, 128 * m + l] 1 hs
    have t2 : (tot BlS ![0, s, 128 * m + l] 2).val = 128 * m + l := tot_val (s := BlS) ![0, s, 128 * m + l] 2 (by show 128 * m + l.val < 2048; omega)
    have ih := ih (Nat.le_of_succ_le hn)
    unfold rd at ih ⊢
    generalize tot BlS ![0, s, 128 * m + l] = y at t0 t1 t2 ih ⊢
    by_cases h : m = n ∧ 32 * k ≤ s ∧ s < 32 * k + 32
    · rw [dif_pos (by omega)]
      obtain ⟨h1, h2, h3⟩ := h
      subst h1
      refine View.read_writes_cons_unit_of_mem v f (boff_inb k hk m hn) (w m) _ y (ix3 0 ⟨s - 32 * k, by omega⟩ l) rfl fun a => ?_
      match a with
      | ⟨0, _⟩ => exact t0.trans (show 0 = 0 + 0 by omega)
      | ⟨1, _⟩ => exact t1.trans (show s = 32 * k + (s - 32 * k) by omega)
      | ⟨2, _⟩ => exact t2.trans (show 128 * m + l.val = 128 * m + l.val from rfl)
    · have e : (if h : m < n + 1 ∧ 32 * k ≤ s ∧ s < 32 * k + 32 then w m (ix3 0 ⟨s - 32 * k, by omega⟩ l) else v.read (Elt Ideal) f y)
          = (if h : m < n ∧ 32 * k ≤ s ∧ s < 32 * k + 32 then w m (ix3 0 ⟨s - 32 * k, by omega⟩ l) else v.read (Elt Ideal) f y) := by
        by_cases h' : m < n ∧ 32 * k ≤ s ∧ s < 32 * k + 32
        · rw [dif_pos h', dif_pos (by omega)]
        · rw [dif_neg h', dif_neg (by omega)]
      rw [e, ← ih]
      by_cases h0 : m = n
      · refine View.read_writes_cons_unit_of_not_mem v f (boff_inb k hk n hn) (w n) _ y rfl 1 ?_
        rw [t1]
        show s < 32 * k ∨ 32 * k + 32 ≤ s
        omega
      · refine View.read_writes_cons_unit_of_not_mem v f (boff_inb k hk n hn) (w n) _ y rfl 2 ?_
        rw [t2]
        show 128 * m + l.val < 128 * n ∨ 128 * n + 128 ≤ 128 * m + l.val
        omega
end Cert.KernelIdeal.Value
-- ==== Proof.Value.PreLoop.lean ====
module

public import proofs.«01_k».proof.Proof.Value.Pre
@[expose] public section
set_option maxRecDepth 16384
set_option maxHeartbeats 4000000
set_option sl_exec.squeezeSlice true
noncomputable section
/-! The loop before the scan: the step sizes, and the step sizes times the dequantised inputs. -/
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan

theorem pa_inb (n : ℕ) : ∀ a, (![0, 128 * (n % 16)] : Fin 2 → ℕ) a + S1x128.size a ≤ PaS.size a := fun a => by
  match a with
  | ⟨0, _⟩ => show 0 + 1 ≤ 1; omega
  | ⟨1, _⟩ => show 128 * (n % 16) + 128 ≤ 2048; omega

/-- A dequantised number of a block: the code times its scale. -/
def deqE (x : BlS.Idx → EReal) (sc : ScS.Idx → EReal) (a m l s : ℕ) : EReal := rd x ![0, s, 128 * m + l] * rd sc ![0, s, m + 16 * a]
/-- A step size of a block. -/
def dlE (x5 : BlS.Idx → EReal) (x6 : ScS.Idx → EReal) (x14 : PaS.Idx → EReal) (a m l s : ℕ) : EReal := softE (deqE x5 x6 a m l s + rd x14 ![0, 128 * m + l])

theorem deq_at {sig : RefSig} {κ κ' : Kind} {sp sp' : Space} (v : View sig κ sp BlS .fp8e4m3) (f : v.ty.Contents (Elt Ideal)) (u : View sig κ' sp' ScS .f32) (f' : u.ty.Contents (Elt Ideal)) (a : Fin 4) (k n : ℕ) (hn : n < 16)
    {o o' : Fin 3 → ℕ} (ho : o = boff k n) (ho' : o' = ![0, 32 * k, 0]) (inb) (inb') (r : Fin 32) (l : Fin 128) :
    dq (k0_pay76 (F := Ideal) (BitVec.ofNat 32 a.val) (u.readAt (Elt Ideal) (Rect.unit (s := ScS) o' S1x32x64.size inb').toLoadRect f'))
      (v.readAt (Elt Ideal) (Rect.unit (s := BlS) o S1x32x128.size inb).toLoadRect f) n (ix2 r l)
    = deqE (v.read (Elt Ideal) f) (u.read (Elt Ideal) f') a n l (32 * k + r) := by
  rw [dq_apply]
  have e : (⟨n % 16, by omega⟩ : Fin 128) = ⟨(⟨n % 16, by omega⟩ : Fin 16).val, by omega⟩ := rfl
  rw [e, roll_apply a _ r ⟨n % 16, by omega⟩]
  unfold deqE
  congr 1
  · refine (ld3 v f ho inb _).trans ?_
    congr 1; funext b
    match b with
    | ⟨0, _⟩ => rfl
    | ⟨1, _⟩ => rfl
    | ⟨2, _⟩ => rfl
  · refine (ld3 u f' ho' inb' _).trans ?_
    congr 1; funext b
    match b with
    | ⟨0, _⟩ => rfl
    | ⟨1, _⟩ => rfl
    | ⟨2, _⟩ => show 0 + (n % 16 + 16 * a.val) = n + 16 * a.val; omega

theorem par_at {sig : RefSig} {κ : Kind} {sp : Space} (v : View sig κ sp PaS .f32) (f : v.ty.Contents (Elt Ideal)) (n : ℕ) (hn : n < 16) (inb) (r : Fin 32) (l : Fin 128) :
    parV (v.readAt (Elt Ideal) (Rect.unit (s := PaS) ![0, 128 * (n % 16)] S1x128.size inb).toLoadRect f) (ix2 r l) = rd (v.read (Elt Ideal) f) ![0, 128 * n + l] := by
  rw [parV_apply]
  refine (ld3 v f rfl inb _).trans ?_
  congr 1; funext b
  match b with
  | ⟨0, _⟩ => rfl
  | ⟨1, _⟩ => show 128 * (n % 16) + l.val = 128 * n + l.val; omega

/-- What holds before trip `k` of the loop before the scan. -/
def PreFact (arg2 : BitVec 32) (x3 : BlS.Idx → EReal) (x4 : ScS.Idx → EReal) (x5 : BlS.Idx → EReal) (x6 : ScS.Idx → EReal) (x14 : PaS.Idx → EReal) (k : ℕ) (f20 f21 : PlaneS.Idx → EReal) : Prop :=
  ∀ a : Fin 4, arg2 = BitVec.ofNat 32 a.val → ∀ (p : Fin 2) (g : Fin 8) (l : Fin 128) (s : ℕ), s < 32 * k →
    prow f20 p g l s = dlE x5 x6 x14 a (2 * g + p) l s ∧ prow f21 p g l s = dlE x5 x6 x14 a (2 * g + p) l s * deqE x3 x4 a (2 * g + p) l s

theorem PreFact.zero (arg2 x3 x4 x5 x6 x14 f20 f21) : PreFact arg2 x3 x4 x5 x6 x14 0 f20 f21 :=
  fun _ _ _ _ _ s h => absurd h (Nat.not_lt_zero s)

theorem PreFact.step {arg2 : BitVec 32} {x3 : BlS.Idx → EReal} {x4 : ScS.Idx → EReal} {x5 : BlS.Idx → EReal} {x6 : ScS.Idx → EReal} {x14 : PaS.Idx → EReal} {k : ℕ} (hk : k < 8) {f20 f21 g20 g21 : PlaneS.Idx → EReal}
    (h : PreFact arg2 x3 x4 x5 x6 x14 k f20 f21) (wd wx : ℕ → FVec Ideal S32x128 .f32)
    (hd : ∀ a : Fin 4, arg2 = BitVec.ofNat 32 a.val → ∀ (n : ℕ), n < 16 → ∀ (r : Fin 32) (l : Fin 128), wd n (ix2 r l) = dlE x5 x6 x14 a n l (32 * k + r))
    (hx : ∀ a : Fin 4, arg2 = BitVec.ofNat 32 a.val → ∀ (n : ℕ), n < 16 → ∀ (r : Fin 32) (l : Fin 128), wx n (ix2 r l) = deqE x3 x4 a n l (32 * k + r))
    (h20 : ∀ (p : Fin 2) (g : Fin 8) (l : Fin 128) (s : ℕ), s < 256 → prow g20 p g l s
      = if h : 2 * g.val + p.val < 16 ∧ 32 * k ≤ s ∧ s < 32 * k + 32 then shapeCast S1x32x128 (wd (2 * g + p)) shapeCasts_S32x128_S1x32x128 (ix3 0 ⟨s - 32 * k, by omega⟩ l) else prow f20 p g l s)
    (h21 : ∀ (p : Fin 2) (g : Fin 8) (l : Fin 128) (s : ℕ), s < 256 → prow g21 p g l s
      = if h : 2 * g.val + p.val < 16 ∧ 32 * k ≤ s ∧ s < 32 * k + 32 then shapeCast S1x32x128 (mulf (wd (2 * g + p)) (wx (2 * g + p))) shapeCasts_S32x128_S1x32x128 (ix3 0 ⟨s - 32 * k, by omega⟩ l) else prow f21 p g l s) :
    PreFact arg2 x3 x4 x5 x6 x14 (k + 1) g20 g21 := by
  intro a ha p g l s hs
  have hg := g.isLt
  have hp := p.isLt
  rw [h20 p g l s (by omega), h21 p g l s (by omega)]
  by_cases c : 2 * g.val + p.val < 16 ∧ 32 * k ≤ s ∧ s < 32 * k + 32
  · rw [dif_pos c, dif_pos c, cast13, cast13]
    have e : s = 32 * k + (⟨s - 32 * k, by omega⟩ : Fin 32).val := by show s = 32 * k + (s - 32 * k); omega
    have e1 := hd a ha (2 * g + p) (by omega) ⟨s - 32 * k, by omega⟩ l
    have e2 := hx a ha (2 * g + p) (by omega) ⟨s - 32 * k, by omega⟩ l
    rw [← e] at e1 e2
    exact ⟨e1, congrArg₂ (· * ·) e1 e2⟩
  · rw [dif_neg c, dif_neg c]
    exact h a ha p g l s (by omega)

/-- The offset of column block `n` in trip `k`, as printed. -/
def t1offs (k : Fin k0_t1_loop.trips) : ℕ → Fin 3 → ℕ
  | 0 => k0_off2 k
  | 1 => k0_off4 k
  | 2 => k0_off6 k
  | 3 => k0_off7 k
  | 4 => k0_off8 k
  | 5 => k0_off9 k
  | 6 => k0_off10 k
  | 7 => k0_off11 k
  | 8 => k0_off12 k
  | 9 => k0_off13 k
  | 10 => k0_off14 k
  | 11 => k0_off15 k
  | 12 => k0_off16 k
  | 13 => k0_off17 k
  | 14 => k0_off18 k
  | _ => k0_off19 k
theorem t1offs_eq (k : Fin k0_t1_loop.trips) (n : ℕ) (hn : n < 16) : t1offs k n = boff k n := by
  have h : ∀ (k : Fin k0_t1_loop.trips) (n : Fin 16), t1offs k n.val = boff k n.val := by decide +kernel
  exact h k ⟨n, hn⟩
theorem t1_lt (k : Fin k0_t1_loop.trips) : k.val < 8 := Nat.lt_of_lt_of_le k.isLt k0_t1_abs.2.1
theorem t1offs_inb (k : Fin k0_t1_loop.trips) (n : ℕ) : ∀ a, t1offs k (n % 16) a + S1x32x128.size a ≤ BlS.size a := by
  rw [t1offs_eq k _ (Nat.mod_lt _ (by decide))]
  exact boff_inb k (t1_lt k) _ (Nat.mod_lt _ (by decide))
theorem t1plane_eq (k : Fin k0_t1_loop.trips) (n : ℕ) (hn : n < 16) : (if n % 2 = 0 then k0_off3 k (BitVec.ofNat 32 (260 * (n / 2))) else k0_off5 k (BitVec.ofNat 32 (260 * (n / 2)))) = poff k n := by
  have h : ∀ (k : Fin k0_t1_loop.trips) (n : Fin 16), (if n.val % 2 = 0 then k0_off3 k (BitVec.ofNat 32 (260 * (n.val / 2))) else k0_off5 k (BitVec.ofNat 32 (260 * (n.val / 2)))) = poff k n := by decide +kernel
  exact h k ⟨n, hn⟩
theorem t1sc_eq (k : Fin k0_t1_loop.trips) : k0_off1 k = ![0, 32 * k.val, 0] := by
  have h : ∀ (k : Fin k0_t1_loop.trips), k0_off1 k = ![0, 32 * k.val, 0] := by decide +kernel
  exact h k
/-- The loop before the scan. -/
@[sl_loop] noncomputable def loopInv_k0_t1 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (arg2 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg14 : BufTy.Contents (Elt Ideal) arg14.view.ty) :
    LoopTy_k0_t1 (F := Ideal) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 where
  inv := fun k _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg14.view.loc (c : Thread nD τ) ↦[arg14.view.set]{fullShare} X_arg14) ∗ (∃ f20 f21, ⌜cnd k (PreFact arg2 (arg3.view.read (Elt Ideal) X_arg3) (arg4.view.read (Elt Ideal) X_arg4) (arg5.view.read (Elt Ideal) X_arg5) (arg6.view.read (Elt Ideal) X_arg6) (arg14.view.read (Elt Ideal) X_arg14) k (arg20.view.read (Elt Ideal) f20) (arg21.view.read (Elt Ideal) f21)) = True⌝ ∗ (arg20.view.loc (c : Thread nD τ) ↦[arg20.view.set]{fullShare} f20) ∗ (arg21.view.loc (c : Thread nD τ) ↦[arg21.view.set]{fullShare} f21)))
  step := fun k acc => by
    have hk : k.val < 8 := t1_lt k
    unfold k0_t1_body
    iintro ⟨H3, H4, H5, H6, H14, ⟨%f20, %f21, %hf, H20, H21⟩⟩
    replace hf := cnd_use (P := fun k => PreFact arg2 (arg3.view.read (Elt Ideal) X_arg3) (arg4.view.read (Elt Ideal) X_arg4) (arg5.view.read (Elt Ideal) X_arg5) (arg6.view.read (Elt Ideal) X_arg6) (arg14.view.read (Elt Ideal) X_arg14) k (arg20.view.read (Elt Ideal) f20) (arg21.view.read (Elt Ideal) f21)) (fun h => by rw [h]; exact PreFact.zero _ _ _ _ _ _ _ _) hf
    sl_exec
    sl_step
    isplitl [H3]; · iexact H3
    isplitl [H4]; · iexact H4
    isplitl [H5]; · iexact H5
    isplitl [H6]; · iexact H6
    isplitl [H14]; · iexact H14
    iexists _; iexists _; isplitr; swap; (isplitl [H20]; (· iexact H20); (iexact H21))
    ipureintro
    refine eq_true (PreFact.step (k := k.val) hk hf (fun n => dlV (k0_pay76 (F := Ideal) arg2 (arg6.view.readAt (Elt Ideal) (Rect.unit (s := ScS) (k0_off1 k) S1x32x64.size (k0_off1_inb k)).toLoadRect X_arg6)) (arg5.view.readAt (Elt Ideal) (Rect.unit (s := BlS) (t1offs k (n % 16)) S1x32x128.size (t1offs_inb k n)).toLoadRect X_arg5) (arg14.view.readAt (Elt Ideal) (Rect.unit (s := PaS) ![0, 128 * (n % 16)] S1x128.size (pa_inb n)).toLoadRect X_arg14) n) (fun n => dq (k0_pay76 (F := Ideal) arg2 (arg4.view.readAt (Elt Ideal) (Rect.unit (s := ScS) (k0_off1 k) S1x32x64.size (k0_off1_inb k)).toLoadRect X_arg4)) (arg3.view.readAt (Elt Ideal) (Rect.unit (s := BlS) (t1offs k (n % 16)) S1x32x128.size (t1offs_inb k n)).toLoadRect X_arg3) n) ?_ ?_ ?_ ?_)
    · intro a ha n hn r l
      subst ha
      exact (dlV_apply _ _ _ n (ix2 r l)).trans (congrArg softE (congrArg₂ (· + ·)
        (deq_at arg5.view X_arg5 arg6.view X_arg6 a k n hn ((congrArg (t1offs k) (Nat.mod_eq_of_lt hn)).trans (t1offs_eq k n hn)) (t1sc_eq k) _ _ r l)
        (par_at arg14.view X_arg14 n hn _ r l)))
    · intro a ha n hn r l
      subst ha
      exact deq_at arg3.view X_arg3 arg4.view X_arg4 a k n hn ((congrArg (t1offs k) (Nat.mod_eq_of_lt hn)).trans (t1offs_eq k n hn)) (t1sc_eq k) _ _ r l
    · intro p g l s hs
      have e := planePcs_read arg20.view f20 k hk (fun n => shapeCast S1x32x128 ((fun n => dlV (k0_pay76 (F := Ideal) arg2 (arg6.view.readAt (Elt Ideal) (Rect.unit (s := ScS) (k0_off1 k) S1x32x64.size (k0_off1_inb k)).toLoadRect X_arg6)) (arg5.view.readAt (Elt Ideal) (Rect.unit (s := BlS) (t1offs k (n % 16)) S1x32x128.size (t1offs_inb k n)).toLoadRect X_arg5) (arg14.view.readAt (Elt Ideal) (Rect.unit (s := PaS) ![0, 128 * (n % 16)] S1x128.size (pa_inb n)).toLoadRect X_arg14) n) n) shapeCasts_S32x128_S1x32x128) 16 (Nat.le_refl _) p g l s hs
      refine Eq.trans (congrArg (fun L => prow (arg20.view.read (Elt Ideal) (arg20.view.writes (Elt Ideal) f20 L)) p g l s) ?_) e
      clear e
      refine congrArg₂ List.cons ?p15 (congrArg₂ List.cons ?p14 (congrArg₂ List.cons ?p13 (congrArg₂ List.cons ?p12 (congrArg₂ List.cons ?p11 (congrArg₂ List.cons ?p10 (congrArg₂ List.cons ?p9 (congrArg₂ List.cons ?p8 (congrArg₂ List.cons ?p7 (congrArg₂ List.cons ?p6 (congrArg₂ List.cons ?p5 (congrArg₂ List.cons ?p4 (congrArg₂ List.cons ?p3 (congrArg₂ List.cons ?p2 (congrArg₂ List.cons ?p1 (congrArg₂ List.cons ?p0 (rfl))))))))))))))))
      case p15 => exact piece_eq (s := PlaneS) (e := .f32) (Val := Elt Ideal) (size := S1x32x128.size) (t1plane_eq k 15 (by decide)) _ _ rfl
      case p14 => exact piece_eq (s := PlaneS) (e := .f32) (Val := Elt Ideal) (size := S1x32x128.size) (t1plane_eq k 14 (by decide)) _ _ rfl
      case p13 => exact piece_eq (s := PlaneS) (e := .f32) (Val := Elt Ideal) (size := S1x32x128.size) (t1plane_eq k 13 (by decide)) _ _ rfl
      case p12 => exact piece_eq (s := PlaneS) (e := .f32) (Val := Elt Ideal) (size := S1x32x128.size) (t1plane_eq k 12 (by decide)) _ _ rfl
      case p11 => exact piece_eq (s := PlaneS) (e := .f32) (Val := Elt Ideal) (size := S1x32x128.size) (t1plane_eq k 11 (by decide)) _ _ rfl
      case p10 => exact piece_eq (s := PlaneS) (e := .f32) (Val := Elt Ideal) (size := S1x32x128.size) (t1plane_eq k 10 (by decide)) _ _ rfl
      case p9 => exact piece_eq (s := PlaneS) (e := .f32) (Val := Elt Ideal) (size := S1x32x128.size) (t1plane_eq k 9 (by decide)) _ _ rfl
      case p8 => exact piece_eq (s := PlaneS) (e := .f32) (Val := Elt Ideal) (size := S1x32x128.size) (t1plane_eq k 8 (by decide)) _ _ rfl
      case p7 => exact piece_eq (s := PlaneS) (e := .f32) (Val := Elt Ideal) (size := S1x32x128.size) (t1plane_eq k 7 (by decide)) _ _ rfl
      case p6 => exact piece_eq (s := PlaneS) (e := .f32) (Val := Elt Ideal) (size := S1x32x128.size) (t1plane_eq k 6 (by decide)) _ _ rfl
      case p5 => exact piece_eq (s := PlaneS) (e := .f32) (Val := Elt Ideal) (size := S1x32x128.size) (t1plane_eq k 5 (by decide)) _ _ rfl
      case p4 => exact piece_eq (s := PlaneS) (e := .f32) (Val := Elt Ideal) (size := S1x32x128.size) (t1plane_eq k 4 (by decide)) _ _ rfl
      case p3 => exact piece_eq (s := PlaneS) (e := .f32) (Val := Elt Ideal) (size := S1x32x128.size) (t1plane_eq k 3 (by decide)) _ _ rfl
      case p2 => exact piece_eq (s := PlaneS) (e := .f32) (Val := Elt Ideal) (size := S1x32x128.size) (t1plane_eq k 2 (by decide)) _ _ rfl
      case p1 => exact piece_eq (s := PlaneS) (e := .f32) (Val := Elt Ideal) (size := S1x32x128.size) (t1plane_eq k 1 (by decide)) _ _ rfl
      case p0 => exact piece_eq (s := PlaneS) (e := .f32) (Val := Elt Ideal) (size := S1x32x128.size) (t1plane_eq k 0 (by decide)) _ _ rfl
    · intro p g l s hs
      have e := planePcs_read arg21.view f21 k hk (fun n => shapeCast S1x32x128 (mulf ((fun n => dlV (k0_pay76 (F := Ideal) arg2 (arg6.view.readAt (Elt Ideal) (Rect.unit (s := ScS) (k0_off1 k) S1x32x64.size (k0_off1_inb k)).toLoadRect X_arg6)) (arg5.view.readAt (Elt Ideal) (Rect.unit (s := BlS) (t1offs k (n % 16)) S1x32x128.size (t1offs_inb k n)).toLoadRect X_arg5) (arg14.view.readAt (Elt Ideal) (Rect.unit (s := PaS) ![0, 128 * (n % 16)] S1x128.size (pa_inb n)).toLoadRect X_arg14) n) n) ((fun n => dq (k0_pay76 (F := Ideal) arg2 (arg4.view.readAt (Elt Ideal) (Rect.unit (s := ScS) (k0_off1 k) S1x32x64.size (k0_off1_inb k)).toLoadRect X_arg4)) (arg3.view.readAt (Elt Ideal) (Rect.unit (s := BlS) (t1offs k (n % 16)) S1x32x128.size (t1offs_inb k n)).toLoadRect X_arg3) n) n)) shapeCasts_S32x128_S1x32x128) 16 (Nat.le_refl _) p g l s hs
      refine Eq.trans (congrArg (fun L => prow (arg21.view.read (Elt Ideal) (arg21.view.writes (Elt Ideal) f21 L)) p g l s) ?_) e
      clear e
      refine congrArg₂ List.cons ?p15 (congrArg₂ List.cons ?p14 (congrArg₂ List.cons ?p13 (congrArg₂ List.cons ?p12 (congrArg₂ List.cons ?p11 (congrArg₂ List.cons ?p10 (congrArg₂ List.cons ?p9 (congrArg₂ List.cons ?p8 (congrArg₂ List.cons ?p7 (congrArg₂ List.cons ?p6 (congrArg₂ List.cons ?p5 (congrArg₂ List.cons ?p4 (congrArg₂ List.cons ?p3 (congrArg₂ List.cons ?p2 (congrArg₂ List.cons ?p1 (congrArg₂ List.cons ?p0 (rfl))))))))))))))))
      case p15 => exact piece_eq (s := PlaneS) (e := .f32) (Val := Elt Ideal) (size := S1x32x128.size) (t1plane_eq k 15 (by decide)) _ _ rfl
      case p14 => exact piece_eq (s := PlaneS) (e := .f32) (Val := Elt Ideal) (size := S1x32x128.size) (t1plane_eq k 14 (by decide)) _ _ rfl
      case p13 => exact piece_eq (s := PlaneS) (e := .f32) (Val := Elt Ideal) (size := S1x32x128.size) (t1plane_eq k 13 (by decide)) _ _ rfl
      case p12 => exact piece_eq (s := PlaneS) (e := .f32) (Val := Elt Ideal) (size := S1x32x128.size) (t1plane_eq k 12 (by decide)) _ _ rfl
      case p11 => exact piece_eq (s := PlaneS) (e := .f32) (Val := Elt Ideal) (size := S1x32x128.size) (t1plane_eq k 11 (by decide)) _ _ rfl
      case p10 => exact piece_eq (s := PlaneS) (e := .f32) (Val := Elt Ideal) (size := S1x32x128.size) (t1plane_eq k 10 (by decide)) _ _ rfl
      case p9 => exact piece_eq (s := PlaneS) (e := .f32) (Val := Elt Ideal) (size := S1x32x128.size) (t1plane_eq k 9 (by decide)) _ _ rfl
      case p8 => exact piece_eq (s := PlaneS) (e := .f32) (Val := Elt Ideal) (size := S1x32x128.size) (t1plane_eq k 8 (by decide)) _ _ rfl
      case p7 => exact piece_eq (s := PlaneS) (e := .f32) (Val := Elt Ideal) (size := S1x32x128.size) (t1plane_eq k 7 (by decide)) _ _ rfl
      case p6 => exact piece_eq (s := PlaneS) (e := .f32) (Val := Elt Ideal) (size := S1x32x128.size) (t1plane_eq k 6 (by decide)) _ _ rfl
      case p5 => exact piece_eq (s := PlaneS) (e := .f32) (Val := Elt Ideal) (size := S1x32x128.size) (t1plane_eq k 5 (by decide)) _ _ rfl
      case p4 => exact piece_eq (s := PlaneS) (e := .f32) (Val := Elt Ideal) (size := S1x32x128.size) (t1plane_eq k 4 (by decide)) _ _ rfl
      case p3 => exact piece_eq (s := PlaneS) (e := .f32) (Val := Elt Ideal) (size := S1x32x128.size) (t1plane_eq k 3 (by decide)) _ _ rfl
      case p2 => exact piece_eq (s := PlaneS) (e := .f32) (Val := Elt Ideal) (size := S1x32x128.size) (t1plane_eq k 2 (by decide)) _ _ rfl
      case p1 => exact piece_eq (s := PlaneS) (e := .f32) (Val := Elt Ideal) (size := S1x32x128.size) (t1plane_eq k 1 (by decide)) _ _ rfl
      case p0 => exact piece_eq (s := PlaneS) (e := .f32) (Val := Elt Ideal) (size := S1x32x128.size) (t1plane_eq k 0 (by decide)) _ _ rfl
end Cert.KernelIdeal.Value
-- ==== Proof.Value.PostLoop.lean ====
module

public import proofs.«01_k».proof.Proof.Value.PreLoop
@[expose] public section
set_option maxRecDepth 16384
set_option maxHeartbeats 4000000
set_option sl_exec.squeezeSlice true
noncomputable section
/-! The loop after the scan: the outputs, gated. -/
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan

/-- What holds before trip `k` of the loop after the scan. -/
def PostFact (arg2 : BitVec 32) (x3 : BlS.Idx → EReal) (x4 : ScS.Idx → EReal) (x11 : BlS.Idx → EReal) (x13 : PaS.Idx → EReal) (x22 : PlaneS.Idx → EReal) (k : ℕ) (f15 : BlS.Idx → EReal) : Prop :=
  ∀ a : Fin 4, arg2 = BitVec.ofNat 32 a.val → ∀ (p : Fin 2) (g : Fin 8) (l : Fin 128) (s : ℕ), s < 32 * k →
    rd f15 ![0, s, 128 * (2 * g + p) + l] = gateE (prow x22 p g l s) (rd x13 ![0, 128 * (2 * g + p) + l]) (deqE x3 x4 a (2 * g + p) l s) (rd x11 ![0, s, 128 * (2 * g + p) + l])

theorem PostFact.zero (arg2 x3 x4 x11 x13 x22 f15) : PostFact arg2 x3 x4 x11 x13 x22 0 f15 :=
  fun _ _ _ _ _ s h => absurd h (Nat.not_lt_zero s)

theorem PostFact.step {arg2 : BitVec 32} {x3 : BlS.Idx → EReal} {x4 : ScS.Idx → EReal} {x11 : BlS.Idx → EReal} {x13 : PaS.Idx → EReal} {x22 : PlaneS.Idx → EReal} {k : ℕ} (hk : k < 8) {f15 g15 : BlS.Idx → EReal}
    (h : PostFact arg2 x3 x4 x11 x13 x22 k f15) (w : ℕ → FVec Ideal S1x32x128 .bf16)
    (hw : ∀ a : Fin 4, arg2 = BitVec.ofNat 32 a.val → ∀ (p : Fin 2) (g : Fin 8) (r : Fin 32) (l : Fin 128), w (2 * g + p) (ix3 0 r l)
      = gateE (prow x22 p g l (32 * k + r)) (rd x13 ![0, 128 * (2 * g + p) + l]) (deqE x3 x4 a (2 * g + p) l (32 * k + r)) (rd x11 ![0, 32 * k + r, 128 * (2 * g + p) + l]))
    (h15 : ∀ (m : ℕ), m < 16 → ∀ (l : Fin 128) (s : ℕ), s < 256 → rd g15 ![0, s, 128 * m + l]
      = if h : m < 16 ∧ 32 * k ≤ s ∧ s < 32 * k + 32 then w m (ix3 0 ⟨s - 32 * k, by omega⟩ l) else rd f15 ![0, s, 128 * m + l]) :
    PostFact arg2 x3 x4 x11 x13 x22 (k + 1) g15 := by
  intro a ha p g l s hs
  have hg := g.isLt
  have hp := p.isLt
  rw [h15 (2 * g + p) (by omega) l s (by omega)]
  by_cases c : 2 * g.val + p.val < 16 ∧ 32 * k ≤ s ∧ s < 32 * k + 32
  · rw [dif_pos c]
    have e : s = 32 * k + (⟨s - 32 * k, by omega⟩ : Fin 32).val := by show s = 32 * k + (s - 32 * k); omega
    have e1 := hw a ha p g ⟨s - 32 * k, by omega⟩ l
    rw [← e] at e1
    exact e1
  · rw [dif_neg c]
    exact h a ha p g l s (by omega)

/-- The offset of column block `n` in trip `k`, as printed. -/
def t4offs (k : Fin k0_t4_loop.trips) : ℕ → Fin 3 → ℕ
  | 0 => k0_off119 k
  | 1 => k0_off121 k
  | 2 => k0_off123 k
  | 3 => k0_off124 k
  | 4 => k0_off125 k
  | 5 => k0_off126 k
  | 6 => k0_off127 k
  | 7 => k0_off128 k
  | 8 => k0_off129 k
  | 9 => k0_off130 k
  | 10 => k0_off131 k
  | 11 => k0_off132 k
  | 12 => k0_off133 k
  | 13 => k0_off134 k
  | 14 => k0_off135 k
  | _ => k0_off136 k
theorem t4offs_eq (k : Fin k0_t4_loop.trips) (n : ℕ) (hn : n < 16) : t4offs k n = boff k n := by
  have h : ∀ (k : Fin k0_t4_loop.trips) (n : Fin 16), t4offs k n.val = boff k n.val := by decide +kernel
  exact h k ⟨n, hn⟩
theorem t4_lt (k : Fin k0_t4_loop.trips) : k.val < 8 := Nat.lt_of_lt_of_le k.isLt k0_t4_abs.2.1
theorem t4offs_inb (k : Fin k0_t4_loop.trips) (n : ℕ) : ∀ a, t4offs k (n % 16) a + S1x32x128.size a ≤ BlS.size a := by
  rw [t4offs_eq k _ (Nat.mod_lt _ (by decide))]
  exact boff_inb k (t4_lt k) _ (Nat.mod_lt _ (by decide))
theorem t4plane_eq (k : Fin k0_t4_loop.trips) (n : ℕ) (hn : n < 16) : (if n % 2 = 0 then k0_off120 k (BitVec.ofNat 32 (260 * (n / 2))) else k0_off122 k (BitVec.ofNat 32 (260 * (n / 2)))) = poff k n := by
  have h : ∀ (k : Fin k0_t4_loop.trips) (n : Fin 16), (if n.val % 2 = 0 then k0_off120 k (BitVec.ofNat 32 (260 * (n.val / 2))) else k0_off122 k (BitVec.ofNat 32 (260 * (n.val / 2)))) = poff k n := by decide +kernel
  exact h k ⟨n, hn⟩
theorem t4plane_inb (k : Fin k0_t4_loop.trips) (n : ℕ) : ∀ a, (if n % 16 % 2 = 0 then k0_off120 k (BitVec.ofNat 32 (260 * (n % 16 / 2))) else k0_off122 k (BitVec.ofNat 32 (260 * (n % 16 / 2)))) a + S1x32x128.size a ≤ PlaneS.size a := by
  rw [t4plane_eq k _ (Nat.mod_lt _ (by decide))]
  exact poff_inb k (t4_lt k) _ (Nat.mod_lt _ (by decide))
theorem t4sc_eq (k : Fin k0_t4_loop.trips) : k0_off118 k = ![0, 32 * k.val, 0] := by
  have h : ∀ (k : Fin k0_t4_loop.trips), k0_off118 k = ![0, 32 * k.val, 0] := by decide +kernel
  exact h k
/-- The loop after the scan. -/
@[sl_loop] noncomputable def loopInv_k0_t4 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (arg2 : BitVec 32) (c0_i32_445 : BitVec 32) (c1_i32_447 : BitVec 32) (X_arg3 : BufTy.Contents (Elt Ideal) arg3.view.ty) (X_arg4 : BufTy.Contents (Elt Ideal) arg4.view.ty) (X_arg11 : BufTy.Contents (Elt Ideal) arg11.view.ty) (X_arg13 : BufTy.Contents (Elt Ideal) arg13.view.ty) (X_arg22 : BufTy.Contents (Elt Ideal) arg22.view.ty) :
    LoopTy_k0_t4 (F := Ideal) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 c0_i32_445 c1_i32_447 where
  inv := fun k _ => iprop((arg3.view.loc (c : Thread nD τ) ↦[arg3.view.set]{fullShare} X_arg3) ∗ (arg4.view.loc (c : Thread nD τ) ↦[arg4.view.set]{fullShare} X_arg4) ∗ (arg11.view.loc (c : Thread nD τ) ↦[arg11.view.set]{fullShare} X_arg11) ∗ (arg13.view.loc (c : Thread nD τ) ↦[arg13.view.set]{fullShare} X_arg13) ∗ (arg22.view.loc (c : Thread nD τ) ↦[arg22.view.set]{fullShare} X_arg22) ∗ (∃ f15, ⌜cnd k (PostFact arg2 (arg3.view.read (Elt Ideal) X_arg3) (arg4.view.read (Elt Ideal) X_arg4) (arg11.view.read (Elt Ideal) X_arg11) (arg13.view.read (Elt Ideal) X_arg13) (arg22.view.read (Elt Ideal) X_arg22) k (arg15.view.read (Elt Ideal) f15)) = True⌝ ∗ (arg15.view.loc (c : Thread nD τ) ↦[arg15.view.set]{fullShare} f15)))
  step := fun k acc => by
    have hk : k.val < 8 := t4_lt k
    unfold k0_t4_body
    iintro ⟨H3, H4, H11, H13, H22, ⟨%f15, %hf, H15⟩⟩
    replace hf := cnd_use (P := fun k => PostFact arg2 (arg3.view.read (Elt Ideal) X_arg3) (arg4.view.read (Elt Ideal) X_arg4) (arg11.view.read (Elt Ideal) X_arg11) (arg13.view.read (Elt Ideal) X_arg13) (arg22.view.read (Elt Ideal) X_arg22) k (arg15.view.read (Elt Ideal) f15)) (fun h => by rw [h]; exact PostFact.zero _ _ _ _ _ _ _) hf
    sl_exec
    sl_step
    isplitl [H3]; · iexact H3
    isplitl [H4]; · iexact H4
    isplitl [H11]; · iexact H11
    isplitl [H13]; · iexact H13
    isplitl [H22]; · iexact H22
    iexists _; isplitr; swap; (· iexact H15)
    ipureintro
    refine eq_true (PostFact.step (k := k.val) hk hf (fun n => outV (k0_pay76 (F := Ideal) arg2 (arg4.view.readAt (Elt Ideal) (Rect.unit (s := ScS) (k0_off118 k) S1x32x64.size (k0_off118_inb k)).toLoadRect X_arg4)) (arg3.view.readAt (Elt Ideal) (Rect.unit (s := BlS) (t4offs k (n % 16)) S1x32x128.size (t4offs_inb k n)).toLoadRect X_arg3) (arg22.view.readAt (Elt Ideal) (Rect.unit (s := PlaneS) (if n % 16 % 2 = 0 then k0_off120 k (BitVec.ofNat 32 (260 * (n % 16 / 2))) else k0_off122 k (BitVec.ofNat 32 (260 * (n % 16 / 2)))) S1x32x128.size (t4plane_inb k n)).toLoadRect X_arg22) (arg11.view.readAt (Elt Ideal) (Rect.unit (s := BlS) (t4offs k (n % 16)) S1x32x128.size (t4offs_inb k n)).toLoadRect X_arg11) (arg13.view.readAt (Elt Ideal) (Rect.unit (s := PaS) ![0, 128 * (n % 16)] S1x128.size (pa_inb n)).toLoadRect X_arg13) n) ?_ ?_)
    · intro a ha p g r l
      subst ha
      have hg := g.isLt
      have hp := p.isLt
      have hr := r.isLt
      have hn : 2 * g.val + p.val < 16 := by omega
      have eo : t4offs k ((2 * g.val + p.val) % 16) = boff k (2 * g.val + p.val) := (congrArg (t4offs k) (Nat.mod_eq_of_lt hn)).trans (t4offs_eq k _ hn)
      refine (outV_apply _ _ _ _ _ _ r l).trans ?_
      refine congr (congr (congr (congrArg gateE ?_) (par_at arg13.view X_arg13 _ hn _ r l)) (deq_at arg3.view X_arg3 arg4.view X_arg4 a k _ hn eo (t4sc_eq k) _ _ r l)) ?_
      · refine (ld3 arg22.view X_arg22 (t4plane_eq k ((2 * g.val + p.val) % 16) (Nat.mod_lt _ (by decide))) _ _).trans ?_
        unfold prow
        congr 1; funext b
        match b with
        | ⟨0, _⟩ => show (2 * g.val + p.val) % 16 % 2 + 0 = p.val; omega
        | ⟨1, _⟩ => show 260 * ((2 * g.val + p.val) % 16 / 2) + 32 * k.val + r.val = g.val * 260 + (32 * k.val + r.val); omega
        | ⟨2, _⟩ => show 0 + l.val = l.val; omega
      · refine (ld3 arg11.view X_arg11 eo _ _).trans ?_
        congr 1; funext b
        match b with
        | ⟨0, _⟩ => rfl
        | ⟨1, _⟩ => rfl
        | ⟨2, _⟩ => rfl
    · intro m hm l s hs
      have e := blockPcs_read arg15.view f15 k hk (fun n => outV (k0_pay76 (F := Ideal) arg2 (arg4.view.readAt (Elt Ideal) (Rect.unit (s := ScS) (k0_off118 k) S1x32x64.size (k0_off118_inb k)).toLoadRect X_arg4)) (arg3.view.readAt (Elt Ideal) (Rect.unit (s := BlS) (t4offs k (n % 16)) S1x32x128.size (t4offs_inb k n)).toLoadRect X_arg3) (arg22.view.readAt (Elt Ideal) (Rect.unit (s := PlaneS) (if n % 16 % 2 = 0 then k0_off120 k (BitVec.ofNat 32 (260 * (n % 16 / 2))) else k0_off122 k (BitVec.ofNat 32 (260 * (n % 16 / 2)))) S1x32x128.size (t4plane_inb k n)).toLoadRect X_arg22) (arg11.view.readAt (Elt Ideal) (Rect.unit (s := BlS) (t4offs k (n % 16)) S1x32x128.size (t4offs_inb k n)).toLoadRect X_arg11) (arg13.view.readAt (Elt Ideal) (Rect.unit (s := PaS) ![0, 128 * (n % 16)] S1x128.size (pa_inb n)).toLoadRect X_arg13) n) 16 (Nat.le_refl _) m hm l s hs
      refine Eq.trans (congrArg (fun L => rd (arg15.view.read (Elt Ideal) (arg15.view.writes (Elt Ideal) f15 L)) ![0, s, 128 * m + l.val]) ?_) e
      clear e
      refine congrArg₂ List.cons ?p15 (congrArg₂ List.cons ?p14 (congrArg₂ List.cons ?p13 (congrArg₂ List.cons ?p12 (congrArg₂ List.cons ?p11 (congrArg₂ List.cons ?p10 (congrArg₂ List.cons ?p9 (congrArg₂ List.cons ?p8 (congrArg₂ List.cons ?p7 (congrArg₂ List.cons ?p6 (congrArg₂ List.cons ?p5 (congrArg₂ List.cons ?p4 (congrArg₂ List.cons ?p3 (congrArg₂ List.cons ?p2 (congrArg₂ List.cons ?p1 (congrArg₂ List.cons ?p0 (rfl))))))))))))))))
      case p15 => exact piece_eq (s := BlS) (e := .bf16) (Val := Elt Ideal) (size := S1x32x128.size) (t4offs_eq k 15 (by decide)) _ _ rfl
      case p14 => exact piece_eq (s := BlS) (e := .bf16) (Val := Elt Ideal) (size := S1x32x128.size) (t4offs_eq k 14 (by decide)) _ _ rfl
      case p13 => exact piece_eq (s := BlS) (e := .bf16) (Val := Elt Ideal) (size := S1x32x128.size) (t4offs_eq k 13 (by decide)) _ _ rfl
      case p12 => exact piece_eq (s := BlS) (e := .bf16) (Val := Elt Ideal) (size := S1x32x128.size) (t4offs_eq k 12 (by decide)) _ _ rfl
      case p11 => exact piece_eq (s := BlS) (e := .bf16) (Val := Elt Ideal) (size := S1x32x128.size) (t4offs_eq k 11 (by decide)) _ _ rfl
      case p10 => exact piece_eq (s := BlS) (e := .bf16) (Val := Elt Ideal) (size := S1x32x128.size) (t4offs_eq k 10 (by decide)) _ _ rfl
      case p9 => exact piece_eq (s := BlS) (e := .bf16) (Val := Elt Ideal) (size := S1x32x128.size) (t4offs_eq k 9 (by decide)) _ _ rfl
      case p8 => exact piece_eq (s := BlS) (e := .bf16) (Val := Elt Ideal) (size := S1x32x128.size) (t4offs_eq k 8 (by decide)) _ _ rfl
      case p7 => exact piece_eq (s := BlS) (e := .bf16) (Val := Elt Ideal) (size := S1x32x128.size) (t4offs_eq k 7 (by decide)) _ _ rfl
      case p6 => exact piece_eq (s := BlS) (e := .bf16) (Val := Elt Ideal) (size := S1x32x128.size) (t4offs_eq k 6 (by decide)) _ _ rfl
      case p5 => exact piece_eq (s := BlS) (e := .bf16) (Val := Elt Ideal) (size := S1x32x128.size) (t4offs_eq k 5 (by decide)) _ _ rfl
      case p4 => exact piece_eq (s := BlS) (e := .bf16) (Val := Elt Ideal) (size := S1x32x128.size) (t4offs_eq k 4 (by decide)) _ _ rfl
      case p3 => exact piece_eq (s := BlS) (e := .bf16) (Val := Elt Ideal) (size := S1x32x128.size) (t4offs_eq k 3 (by decide)) _ _ rfl
      case p2 => exact piece_eq (s := BlS) (e := .bf16) (Val := Elt Ideal) (size := S1x32x128.size) (t4offs_eq k 2 (by decide)) _ _ rfl
      case p1 => exact piece_eq (s := BlS) (e := .bf16) (Val := Elt Ideal) (size := S1x32x128.size) (t4offs_eq k 1 (by decide)) _ _ rfl
      case p0 => exact piece_eq (s := BlS) (e := .bf16) (Val := Elt Ideal) (size := S1x32x128.size) (t4offs_eq k 0 (by decide)) _ _ rfl
end Cert.KernelIdeal.Value
-- ==== Proof.Value.Store.lean ====
module

public import proofs.«01_k».proof.Proof.Value.Pre
public import proofs.«01_k».proof.Proof.Value.Trip
@[expose] public section
set_option maxRecDepth 16384
set_option maxHeartbeats 1000000
noncomputable section
/-! Loads and stores of the scratch arrays around the scan, read at natural coordinates. -/
namespace Cert.KernelIdeal.Value
open Cert.KernelIdeal.Gen
open Idealize.ShloMosaic
open Cert.Scan

abbrev HsS : Shape := ⟨6, ![1, 4, 2, 16, 8, 128]⟩
abbrev AsS : Shape := ⟨5, ![4, 2, 16, 8, 128]⟩
instance : Pos HsS := ⟨by decide⟩
instance : Pos AsS := ⟨by decide⟩
abbrev BcS : Shape := ⟨3, ![1, 256, 16]⟩
abbrev BsS : Shape := ⟨3, ![1, 1, 256]⟩
instance : Pos BcS := ⟨by decide⟩
abbrev CoS : Shape := ⟨2, ![128, 16]⟩
instance : Pos CoS := ⟨by decide⟩
instance : Pos BsS := ⟨by decide⟩

/-- A whole array written, read anywhere. -/
theorem whole_read {sig : RefSig} {κ : Kind} {sp : Space} {s : Shape} [Pos s] {e : EltTy} {Val : EltTy → Type} (v : View sig κ sp s e) (f : v.ty.Contents Val) {off : Fin s.rank → ℕ}
    (h : ∀ a, off a = 0) (inb) (w : s.Idx → Val e) (c : Fin s.rank → ℕ) :
    rd (v.read Val (v.writes Val f [⟨Rect.unit (s := s) off s.size inb, w⟩])) c = rd w c := by
  unfold rd
  refine View.read_writes_cons_unit_of_mem v f inb w _ (tot s c) (tot s c) rfl fun a => ?_
  rw [h a, Nat.zero_add]

/-- A whole array loaded. -/
theorem whole_load {sig : RefSig} {κ : Kind} {sp : Space} {s : Shape} [Pos s] {e : EltTy} {Val : EltTy → Type} (v : View sig κ sp s e) (f : v.ty.Contents Val) {off : Fin s.rank → ℕ}
    (h : ∀ a, off a = 0) (inb) : v.readAt Val (Rect.unit (s := s) off s.size inb).toLoadRect f = v.read Val f := by
  funext x
  refine congrArg (v.read Val f) (funext fun a => Fin.ext ?_)
  show off a + 1 * (x a).val = (x a).val
  rw [h a]; omega

theorem a_cast (X : FVec Ideal S1x1x1x8x128 .f32) (hc) (g : Fin 8) (l : Fin 128) : (shapeCast RowS X hc : VV) (ix2 g l) = X (ix5 0 0 0 g l) := by
  pointwise; done

/-- The rows of coefficients that the scan loads. -/
theorem a_load {sig : RefSig} {κ : Kind} {sp : Space} (v : View sig κ sp AsS .f32) (f : v.ty.Contents (Elt Ideal)) {off : Fin 5 → ℕ} {a p n : ℕ} (h : off = ![a, p, n, 0, 0]) (inb) (hc) (g : Fin 8) (l : Fin 128) :
    (shapeCast RowS (v.readAt (Elt Ideal) (Rect.unit (s := AsS) off S1x1x1x8x128.size inb).toLoadRect f : Vec Ideal S1x1x1x8x128 .f32) hc : VV) (ix2 g l)
      = rd (v.read (Elt Ideal) f) ![a, p, n, g, l] := by
  refine (a_cast _ hc g l).trans ((ld3 v f h inb _).trans (congrArg _ (funext fun b => ?_)))
  match b with
  | ⟨0, _⟩ => rfl
  | ⟨1, _⟩ => rfl
  | ⟨2, _⟩ => rfl
  | ⟨3, _⟩ => show 0 + g.val = g.val; omega
  | ⟨4, _⟩ => show 0 + l.val = l.val; omega

theorem h_cast (X : FVec Ideal S1x1x1x1x8x128 .f32) (hc) (g : Fin 8) (l : Fin 128) : (shapeCast RowS X hc : VV) (ix2 g l) = X (ix6 0 0 0 0 g l) := by
  pointwise; done

/-- The rows of states that the scan loads. -/
theorem h_load {sig : RefSig} {κ : Kind} {sp : Space} (v : View sig κ sp HsS .f32) (f : v.ty.Contents (Elt Ideal)) {off : Fin 6 → ℕ} {a p n : ℕ} (h : off = ![0, a, p, n, 0, 0]) (inb) (hc) (g : Fin 8) (l : Fin 128) :
    (shapeCast RowS (v.readAt (Elt Ideal) (Rect.unit (s := HsS) off S1x1x1x1x8x128.size inb).toLoadRect f : Vec Ideal S1x1x1x1x8x128 .f32) hc : VV) (ix2 g l)
      = rd (v.read (Elt Ideal) f) ![0, a, p, n, g, l] := by
  refine (h_cast _ hc g l).trans ((ld3 v f h inb _).trans (congrArg _ (funext fun b => ?_)))
  match b with
  | ⟨0, _⟩ => rfl
  | ⟨1, _⟩ => rfl
  | ⟨2, _⟩ => rfl
  | ⟨3, _⟩ => rfl
  | ⟨4, _⟩ => show 0 + g.val = g.val; omega
  | ⟨5, _⟩ => show 0 + l.val = l.val; omega

/-- Rows as the box of states that is stored. -/
def hV (w : VV) : FVec Ideal S1x1x1x1x8x128 .f32 := shapeCast S1x1x1x1x8x128 w rfl
theorem hV_apply (w : VV) (g : Fin 8) (l : Fin 128) : hV w (ix6 0 0 0 0 g l) = w (ix2 g l) := by
  unfold hV; pointwise; done

/-- The box of states `m`. -/
def hoff (a m : ℕ) : Fin 6 → ℕ := ![0, a, m / 16, m % 16, 0, 0]
theorem hoff_inb (a : ℕ) (ha : a < 4) (m : ℕ) (hm : m < 32) : ∀ b, hoff a m b + S1x1x1x1x8x128.size b ≤ HsS.size b := fun b => by
  match b with
  | ⟨0, _⟩ => show 0 + 1 ≤ 1; omega
  | ⟨1, _⟩ => show a + 1 ≤ 4; omega
  | ⟨2, _⟩ => show m / 16 + 1 ≤ 2; omega
  | ⟨3, _⟩ => show m % 16 + 1 ≤ 16; omega
  | ⟨4, _⟩ => show 0 + 8 ≤ 8; omega
  | ⟨5, _⟩ => show 0 + 128 ≤ 128; omega

/-- The stores of the first `m` boxes of states, the last one first. -/
def hPcs (a : ℕ) (ha : a < 4) (w : ℕ → VV) : (m : ℕ) → m ≤ 32 → List (View.Piece (Elt Ideal) HsS .f32)
  | 0, _ => []
  | m + 1, h => ⟨Rect.unit (s := HsS) (hoff a m) S1x1x1x1x8x128.size (hoff_inb a ha m h), hV (w m)⟩ :: hPcs a ha w m (Nat.le_of_succ_le h)

theorem hPcs_read {sig : RefSig} {κ : Kind} {sp : Space} (v : View sig κ sp HsS .f32) (f : v.ty.Contents (Elt Ideal)) (a : ℕ) (ha : a < 4) (w : ℕ → VV)
    (M : ℕ) (hM : M ≤ 32) (k : Fin 4) (p : Fin 2) (n : Fin 16) (g : Fin 8) (l : Fin 128) :
    rd (v.read (Elt Ideal) (v.writes (Elt Ideal) f (hPcs a ha w M hM))) ![0, k, p, n, g, l]
      = if k.val = a ∧ 16 * p.val + n.val < M then w (16 * p + n) (ix2 g l) else rd (v.read (Elt Ideal) f) ![0, k, p, n, g, l] := by
  have hk := k.isLt
  have hp := p.isLt
  have hn := n.isLt
  induction M with
  | zero => rw [if_neg (by omega)]; rfl
  | succ m ih =>
    have t0 : (tot HsS ![0, k, p, n, g, l] 0).val = 0 := tot_val (s := HsS) ![0, k, p, n, g, l] 0 Nat.one_pos
    have t1 : (tot HsS ![0, k, p, n, g, l] 1).val = k := tot_val (s := HsS) ![0, k, p, n, g, l] 1 k.isLt
    have t2 : (tot HsS ![0, k, p, n, g, l] 2).val = p := tot_val (s := HsS) ![0, k, p, n, g, l] 2 p.isLt
    have t3 : (tot HsS ![0, k, p, n, g, l] 3).val = n := tot_val (s := HsS) ![0, k, p, n, g, l] 3 n.isLt
    have t4 : (tot HsS ![0, k, p, n, g, l] 4).val = g := tot_val (s := HsS) ![0, k, p, n, g, l] 4 g.isLt
    have t5 : (tot HsS ![0, k, p, n, g, l] 5).val = l := tot_val (s := HsS) ![0, k, p, n, g, l] 5 l.isLt
    have ih := ih (Nat.le_of_succ_le hM)
    unfold rd at ih ⊢
    generalize tot HsS ![0, k, p, n, g, l] = y at t0 t1 t2 t3 t4 t5 ih ⊢
    by_cases h : k.val = a ∧ 16 * p.val + n.val = m
    · rw [if_pos (by omega)]
      obtain ⟨h1, h2⟩ := h
      have hw : w m = w (16 * p + n) := by rw [h2]
      rw [← hw, ← hV_apply (w m) g l]
      refine View.read_writes_cons_unit_of_mem v f (hoff_inb a ha m hM) (hV (w m)) _ y (ix6 0 0 0 0 g l) rfl fun b => ?_
      match b with
      | ⟨0, _⟩ => exact t0.trans (show 0 = 0 + 0 by omega)
      | ⟨1, _⟩ => exact t1.trans (show k.val = a + 0 by omega)
      | ⟨2, _⟩ => exact t2.trans (show p.val = m / 16 + 0 by omega)
      | ⟨3, _⟩ => exact t3.trans (show n.val = m % 16 + 0 by omega)
      | ⟨4, _⟩ => exact t4.trans (show g.val = 0 + g.val by omega)
      | ⟨5, _⟩ => exact t5.trans (show l.val = 0 + l.val by omega)
    · have e : (if k.val = a ∧ 16 * p.val + n.val < m + 1 then w (16 * p + n) (ix2 g l) else v.read (Elt Ideal) f y)
          = (if k.val = a ∧ 16 * p.val + n.val < m then w (16 * p + n) (ix2 g l) else v.read (Elt Ideal) f y) := by
        by_cases h' : k.val = a ∧ 16 * p.val + n.val < m
        · rw [if_pos h', if_pos (by omega)]
        · rw [if_neg h', if_neg (by omega)]
      rw [e, ← ih]
      by_cases h1 : k.val = a
      · by_cases h2 : p.val = m / 16
        · refine View.read_writes_cons_unit_of_not_mem v f (hoff_inb a ha m hM) (hV (w m)) _ y rfl 3 ?_
          rw [t3]; show n.val < m % 16 ∨ m % 16 + 1 ≤ n.val; omega
        · refine View.read_writes_cons_unit_of_not_mem v f (hoff_inb a ha m hM) (hV (w m)) _ y rfl 2 ?_
          rw [t2]; show p.val < m / 16 ∨ m / 16 + 1 ≤ p.val; omega
      · refine View.read_writes_cons_unit_of_not_mem v f (hoff_inb a ha m hM) (hV (w m)) _ y rfl 1 ?_
        rw [t1]; show k.val < a ∨ a + 1 ≤ k.val; omega

/-- The box `m` of a splat array. -/
def soff (m : ℕ) : Fin 3 → ℕ := ![m % 16, 128 * (m / 16), 0]
theorem soff_inb (m : ℕ) (hm : m < 32) : ∀ b, soff m b + S1x128x128.size b ≤ SplatS.size b := fun b => by
  match b with
  | ⟨0, _⟩ => show m % 16 + 1 ≤ 16; omega
  | ⟨1, _⟩ => show 128 * (m / 16) + 128 ≤ 256; omega
  | ⟨2, _⟩ => show 0 + 128 ≤ 128; omega
/-- Column `n` of a block, repeated over the lanes. -/
def sV (M : FVec Ideal S128x16 .f32) (n : ℕ) : FVec Ideal S1x128x128 .f32 := fun x => rd (s := CoS) M ![(x 1).val, n]
theorem sV_eq (M : FVec Ideal S128x16 .f32) (n : ℕ) (hn : n < 16) (hs) (h1) (h2) (h3) :
    shapeCast S1x128x128 (broadcastTo S128x128 (shapeCast S128x1 (extractStridedSlice S128x1 ![0, n] M hs) h1) h2) h3 = sV M n := by
  funext x
  obtain ⟨x0, x1, x2, rfl⟩ : ∃ (x0 : Fin 1) (x1 : Fin 128) (x2 : Fin 128), x = ix3 x0 x1 x2 := ⟨x 0, x 1, x 2, by funext b; match b with | ⟨0, _⟩ => rfl | ⟨1, _⟩ => rfl | ⟨2, _⟩ => rfl⟩
  pointwise
  refine eq_rd (s := CoS) M _ _ fun b => ?_
  match b with
  | ⟨0, _⟩ => rfl
  | ⟨1, _⟩ => rfl
/-- The stores of the first `m` boxes of a splat array, the last one first. -/
def sPcs (M : ℕ → FVec Ideal S128x16 .f32) : (m : ℕ) → m ≤ 32 → List (View.Piece (Elt Ideal) SplatS .f32)
  | 0, _ => []
  | m + 1, h => ⟨Rect.unit (s := SplatS) (soff m) S1x128x128.size (soff_inb m h), sV (M (m / 16)) (m % 16)⟩ :: sPcs M m (Nat.le_of_succ_le h)

theorem sPcs_read {sig : RefSig} {κ : Kind} {sp : Space} (v : View sig κ sp SplatS .f32) (f : v.ty.Contents (Elt Ideal)) (M : ℕ → FVec Ideal S128x16 .f32)
    (m : ℕ) (hm : m ≤ 32) (n : Fin 16) (s : ℕ) (hs : s < 256) (l : Fin 128) :
    rd (v.read (Elt Ideal) (v.writes (Elt Ideal) f (sPcs M m hm))) ![n, s, l]
      = if 16 * (s / 128) + n.val < m then rd (s := CoS) (M (s / 128)) ![s % 128, n] else rd (v.read (Elt Ideal) f) ![n, s, l] := by
  have hn := n.isLt
  induction m with
  | zero => rw [if_neg (by omega)]; rfl
  | succ m ih =>
    have t0 : (tot SplatS ![n, s, l] 0).val = n := tot_val (s := SplatS) ![n, s, l] 0 n.isLt
    have t1 : (tot SplatS ![n, s, l] 1).val = s := tot_val (s := SplatS) ![n, s, l] 1 hs
    have t2 : (tot SplatS ![n, s, l] 2).val = l := tot_val (s := SplatS) ![n, s, l] 2 l.isLt
    have ih := ih (Nat.le_of_succ_le hm)
    generalize hV : rd (s := CoS) (M (s / 128)) ![s % 128, n] = V at ih ⊢
    unfold rd at ih ⊢
    generalize tot SplatS ![n, s, l] = y at t0 t1 t2 ih ⊢
    by_cases h : 16 * (s / 128) + n.val = m
    · rw [if_pos (by omega), ← hV]
      have e : rd (s := CoS) (M (s / 128)) ![s % 128, n] = sV (M (m / 16)) (m % 16) (ix3 0 ⟨s % 128, by omega⟩ l) := by
        unfold sV
        rw [show m / 16 = s / 128 by omega, show m % 16 = n.val by omega]
        rfl
      rw [e]
      refine View.read_writes_cons_unit_of_mem v f (soff_inb m hm) (sV (M (m / 16)) (m % 16)) _ y (ix3 0 ⟨s % 128, by omega⟩ l) rfl fun b => ?_
      match b with
      | ⟨0, _⟩ => exact t0.trans (show n.val = m % 16 + 0 by omega)
      | ⟨1, _⟩ => exact t1.trans (show s = 128 * (m / 16) + s % 128 by omega)
      | ⟨2, _⟩ => exact t2.trans (show l.val = 0 + l.val by omega)
    · have e : (if 16 * (s / 128) + n.val < m + 1 then V else v.read (Elt Ideal) f y)
          = (if 16 * (s / 128) + n.val < m then V else v.read (Elt Ideal) f y) := by
        by_cases h' : 16 * (s / 128) + n.val < m
        · rw [if_pos h', if_pos (by omega)]
        · rw [if_neg h', if_neg (by omega)]
      rw [e, ← ih]
      by_cases h1 : n.val = m % 16
      · refine View.read_writes_cons_unit_of_not_mem v f (soff_inb m hm) (sV (M (m / 16)) (m % 16)) _ y rfl 1 ?_
        rw [t1]; show s < 128 * (m / 16) ∨ 128 * (m / 16) + 128 ≤ s; omega
      · refine View.read_writes_cons_unit_of_not_mem v f (soff_inb m hm) (sV (M (m / 16)) (m % 16)) _ y rfl 0 ?_
        rw [t0]; show n.val < m % 16 ∨ m % 16 + 1 ≤ n.val; omega

/-- Half a block of B or C, dequantized. -/
theorem bc_apply {sig : RefSig} {κ κ' : Kind} {sp sp' : Space} (v : View sig κ sp BcS .fp8e4m3) (f : v.ty.Contents (Elt Ideal)) (u : View sig κ' sp' BsS .f32) (f' : u.ty.Contents (Elt Ideal))
    {o o' : Fin 3 → ℕ} {c : ℕ} (ho : o = ![0, 128 * c, 0]) (ho' : o' = ![0, 0, 128 * c]) (inb) (inb') (r : Fin 128) (n : Fin 16) :
    k0_pay2 (F := Ideal) (u.readAt (Elt Ideal) (Rect.unit (s := BsS) o' S1x1x128.size inb').toLoadRect f')
      (v.readAt (Elt Ideal) (Rect.unit (s := BcS) o S1x128x16.size inb).toLoadRect f) (ix2 r n)
    = rd (v.read (Elt Ideal) f) ![0, 128 * c + r, n] * rd (u.read (Elt Ideal) f') ![0, 0, 128 * c + r] := by
  unfold k0_pay2
  pointwise
  subst ho; subst ho'
  refine congrArg₂ (· * ·) (eq_rd (s := BcS) (v.read (Elt Ideal) f) _ _ fun b => ?_) (eq_rd (s := BsS) (u.read (Elt Ideal) f') _ _ fun b => ?_)
  · match b with
    | ⟨0, _⟩ => rfl
    | ⟨1, _⟩ => show 128 * c + 1 * r.val = _; rw [Nat.one_mul]; rfl
    | ⟨2, _⟩ => show 0 + 1 * n.val = n.val; omega
  · match b with
    | ⟨0, _⟩ => rfl
    | ⟨1, _⟩ => rfl
    | ⟨2, _⟩ => show 128 * c + 1 * r.val = _; rw [Nat.one_mul]; rfl
end Cert.KernelIdeal.Value
-- ==== Proof.Value.Point.lean ====
module

public import proofs.«01_k».proof.Proof.Value.PostLoop
public import proofs.«01_k».proof.Proof.Value.Store
@[expose] public section
noncomputable section
/-! What one grid point computes: the coefficients, the splat arrays, the states after its 256 steps and the outputs. -/
namespace Cert.KernelIdeal.Value
open Cert.KernelIdeal.Gen
open Idealize.ShloMosaic
open Cert.Scan

theorem cnd_of {k : ℕ} (hk : 0 < k) {P : Prop} (h : cnd k P = True) : P := by
  cases k with
  | zero => exact absurd hk (Nat.lt_irrefl 0)
  | succ k => exact of_eq_true h

/-- A whole array written, as an array. -/
theorem whole_write {sig : RefSig} {κ : Kind} {sp : Space} {s : Shape} {e : EltTy} {Val : EltTy → Type} (v : View sig κ sp s e) (f : v.ty.Contents Val) {off : Fin s.rank → ℕ}
    (h : ∀ a, off a = 0) (inb) (w : s.Idx → Val e) :
    v.read Val (v.writes Val f [⟨Rect.unit (s := s) off s.size inb, w⟩]) = w :=
  funext fun y => View.read_writes_cons_unit_of_mem v f inb w _ y y rfl fun a => by rw [h a, Nat.zero_add]

/-- What a state of column block `2 g + p` is after `t` of the point's steps. -/
def stE (x3 : BlS.Idx → EReal) (x4 : ScS.Idx → EReal) (x5 : BlS.Idx → EReal) (x6 : ScS.Idx → EReal) (x14 : PaS.Idx → EReal) (A : AsS.Idx → EReal) (H0 : HsS.Idx → EReal) (B : SplatS.Idx → EReal)
    (a : Fin 4) (p : Fin 2) (n : Fin 16) (g : Fin 8) (l : Fin 128) (t : ℕ) : EReal :=
  hs (rd A ![a, p, n, g, l]) (rd H0 ![0, a, p, n, g, l]) (dlE x5 x6 x14 a (2 * g + p) l) (fun s => dlE x5 x6 x14 a (2 * g + p) l s * deqE x3 x4 a (2 * g + p) l s) (srow B n l) t

/-- What one grid point leaves. -/
structure PointFact (a : Fin 4) (first : Prop) [Decidable first] (x3 : BlS.Idx → EReal) (x4 : ScS.Idx → EReal) (x5 : BlS.Idx → EReal) (x6 : ScS.Idx → EReal) (x7 : BcS.Idx → EReal) (x8 : BsS.Idx → EReal)
    (x9 : BcS.Idx → EReal) (x10 : BsS.Idx → EReal) (x11 : BlS.Idx → EReal) (x12 : AsS.Idx → EReal) (x13 x14 : PaS.Idx → EReal) (X16 : HsS.Idx → EReal) (X17 : AsS.Idx → EReal) (X18 X19 : SplatS.Idx → EReal)
    (Y : BlS.Idx → EReal) (H : HsS.Idx → EReal) (A : AsS.Idx → EReal) (B C : SplatS.Idx → EReal) : Prop where
  hA : A = if first then k0_pay679 (F := Ideal) x12 else X17
  hB : ∀ (n : Fin 16) (s : ℕ) (l : Fin 128), s < 256 → rd B ![n, s, l] = if a.val = 0 then rd x7 ![0, s, n] * rd x8 ![0, 0, s] else rd X18 ![n, s, l]
  hC : ∀ (n : Fin 16) (s : ℕ) (l : Fin 128), s < 256 → rd C ![n, s, l] = if a.val = 0 then rd x9 ![0, s, n] * rd x10 ![0, 0, s] else rd X19 ![n, s, l]
  hH : ∀ (k : Fin 4) (p : Fin 2) (n : Fin 16) (g : Fin 8) (l : Fin 128), rd H ![0, k, p, n, g, l]
    = if k.val = a.val then stE x3 x4 x5 x6 x14 A (if first then k0_pay680 (F := Ideal) else X16) B a p n g l 256 else rd (if first then k0_pay680 (F := Ideal) else X16) ![0, k, p, n, g, l]
  hY : ∀ (p : Fin 2) (g : Fin 8) (l : Fin 128) (s : ℕ), s < 256 → rd Y ![0, s, 128 * (2 * g + p) + l]
    = gateE (dot16 fun n => stE x3 x4 x5 x6 x14 A (if first then k0_pay680 (F := Ideal) else X16) B a p n g l (s + 1) * srow C n l s)
      (rd x13 ![0, 128 * (2 * g + p) + l]) (deqE x3 x4 a (2 * g + p) l s) (rd x11 ![0, s, 128 * (2 * g + p) + l])

/-- From what the four loops kept. -/
theorem PointFact.of {a : Fin 4} {first : Prop} [Decidable first] {x3 : BlS.Idx → EReal} {x4 : ScS.Idx → EReal} {x5 : BlS.Idx → EReal} {x6 : ScS.Idx → EReal} {x7 : BcS.Idx → EReal} {x8 : BsS.Idx → EReal}
    {x9 : BcS.Idx → EReal} {x10 : BsS.Idx → EReal} {x11 : BlS.Idx → EReal} {x12 : AsS.Idx → EReal} {x13 x14 : PaS.Idx → EReal} {X16 : HsS.Idx → EReal} {X17 : AsS.Idx → EReal} {X18 X19 : SplatS.Idx → EReal}
    {Y : BlS.Idx → EReal} {H : HsS.Idx → EReal} {A : AsS.Idx → EReal} {B C : SplatS.Idx → EReal} {x20 x21 y1 y2 : PlaneS.Idx → EReal} {av0 av1 hv0 hv1 w0 w1 : Fin 16 → VV} {K1 K2 K3 K4 : ℕ} {H0 : HsS.Idx → EReal}
    (h5 : PreFact (BitVec.ofNat 32 a.val) x3 x4 x5 x6 x14 K1 x20 x21) (h13 : Fact 0 B C x20 x21 y1 av0 hv0 K2 w0 y1) (h22 : Fact 1 B C x20 x21 y1 av1 hv1 K3 w1 y2)
    (h28 : PostFact (BitVec.ofNat 32 a.val) x3 x4 x11 x13 y2 K4 Y)
    (hA : A = if first then k0_pay679 (F := Ideal) x12 else X17) (hH0 : H0 = if first then k0_pay680 (F := Ideal) else X16)
    (hB : ∀ (n : Fin 16) (s : ℕ) (l : Fin 128), s < 256 → rd B ![n, s, l] = if a.val = 0 then rd x7 ![0, s, n] * rd x8 ![0, 0, s] else rd X18 ![n, s, l])
    (hC : ∀ (n : Fin 16) (s : ℕ) (l : Fin 128), s < 256 → rd C ![n, s, l] = if a.val = 0 then rd x9 ![0, s, n] * rd x10 ![0, 0, s] else rd X19 ![n, s, l])
    (ha0 : ∀ (n : Fin 16) (g : Fin 8) (l : Fin 128), av0 n (ix2 g l) = rd A ![a, 0, n, g, l]) (ha1 : ∀ (n : Fin 16) (g : Fin 8) (l : Fin 128), av1 n (ix2 g l) = rd A ![a, 1, n, g, l])
    (hh0 : ∀ (n : Fin 16) (g : Fin 8) (l : Fin 128), hv0 n (ix2 g l) = rd H0 ![0, a, 0, n, g, l]) (hh1 : ∀ (n : Fin 16) (g : Fin 8) (l : Fin 128), hv1 n (ix2 g l) = rd H0 ![0, a, 1, n, g, l])
    (hw : ∀ (k : Fin 4) (p : Fin 2) (n : Fin 16) (g : Fin 8) (l : Fin 128), rd H ![0, k, p, n, g, l] = if k.val = a.val then (if p.val = 0 then w0 n else w1 n) (ix2 g l) else rd H0 ![0, k, p, n, g, l])
    (k1 : K1 = 8) (k2 : K2 = 32) (k3 : K3 = 32) (k4 : K4 = 8) :
    PointFact a first x3 x4 x5 x6 x7 x8 x9 x10 x11 x12 x13 x14 X16 X17 X18 X19 Y H A B C := by
  subst k1 k2 k3 k4
  have st0 : ∀ (n : Fin 16) (g : Fin 8) (l : Fin 128) (t : ℕ), t ≤ 256 → hst 0 B x20 x21 av0 hv0 n g l t = stE x3 x4 x5 x6 x14 A H0 B a 0 n g l t := fun n g l t ht => by
    unfold hst stE
    rw [ha0, hh0]
    exact hs_congr _ _ t fun s hs => ⟨(h5 a rfl 0 g l s (by omega)).1, (h5 a rfl 0 g l s (by omega)).2, rfl⟩
  have st1 : ∀ (n : Fin 16) (g : Fin 8) (l : Fin 128) (t : ℕ), t ≤ 256 → hst 1 B x20 x21 av1 hv1 n g l t = stE x3 x4 x5 x6 x14 A H0 B a 1 n g l t := fun n g l t ht => by
    unfold hst stE
    rw [ha1, hh1]
    exact hs_congr _ _ t fun s hs => ⟨(h5 a rfl 1 g l s (by omega)).1, (h5 a rfl 1 g l s (by omega)).2, rfl⟩
  refine ⟨hA, hB, hC, fun k p n g l => ?_, fun p g l s hs => ?_⟩
  · rw [← hH0, hw k p n g l]
    split
    · match p with
      | 0 => exact (h13.st n g l).trans <| st0 n g l 256 (Nat.le_refl _)
      | 1 => exact (h22.st n g l).trans <| st1 n g l 256 (Nat.le_refl _)
    · rfl
  · rw [← hH0, h28 a rfl p g l s (by omega)]
    congr 1
    match p with
    | 0 =>
      refine (h22.keep 0 g l s (by decide) (by omega) (by decide)).trans ((h13.out g l s (by omega)).trans ?_)
      congr 1; funext n
      rw [st0 n g l (s + 1) (by omega)]
    | 1 =>
      refine (h22.out g l s (by omega)).trans ?_
      congr 1; funext n
      rw [st1 n g l (s + 1) (by omega)]
end Cert.KernelIdeal.Value
-- ==== Proof.Value.Reads.lean ====
module

public import proofs.«01_k».proof.Proof.Value.Point
public import proofs.«01_k».proof.Proof.Gen.KernelIdeal.Points
public import Idealize.ShloMosaic.Lib.Pipeline.ValueKit
@[expose] public section
set_option maxRecDepth 16384
noncomputable section
/-! The input blocks of a grid point, in the arguments' coordinates. -/
namespace Cert.KernelIdeal.Value
open Cert.KernelIdeal.Gen
open Idealize.ShloMosaic Idealize.ShloMosaic.TcCoe Idealize.ShloMosaic.Tactic
open Cert.Scan

abbrev XaS : Shape := ⟨3, ![2, 16384, 8192]⟩
abbrev XsS : Shape := ⟨3, ![2, 16384, 64]⟩
abbrev BaS : Shape := ⟨3, ![2, 16384, 16]⟩
abbrev BtS : Shape := ⟨2, ![2, 16384]⟩
abbrev AlS : Shape := ⟨2, ![8192, 16]⟩
abbrev DaS : Shape := ⟨1, ![8192]⟩
instance : Pos XaS := ⟨by decide⟩
instance : Pos XsS := ⟨by decide⟩
instance : Pos BaS := ⟨by decide⟩
instance : Pos BtS := ⟨by decide⟩
instance : Pos AlS := ⟨by decide⟩
instance : Pos DaS := ⟨by decide⟩

theorem gc : ∀ t : Fin cfg0.N, (grid0.coords t 0).val = t.val / 256 ∧ (grid0.coords t 1).val = t.val / 4 % 64 ∧ (grid0.coords t 2).val = t.val % 4 :=
  (by decide +kernel : ∀ t : Fin grid0.N, _)
theorem x0 : ∀ t : Fin cfg0.N, win0_0.index t = ![t.val / 256, t.val / 4 % 64, t.val % 4] := (by decide +kernel : ∀ t : Fin grid0.N, _)
theorem x2 : ∀ t : Fin cfg0.N, win0_2.index t = ![t.val / 256, t.val / 4 % 64, t.val % 4] := (by decide +kernel : ∀ t : Fin grid0.N, _)
theorem x8 : ∀ t : Fin cfg0.N, win0_8.index t = ![t.val / 256, t.val / 4 % 64, t.val % 4] := (by decide +kernel : ∀ t : Fin grid0.N, _)
theorem x12 : ∀ t : Fin cfg0.N, win0_12.index t = ![t.val / 256, t.val / 4 % 64, t.val % 4] := (by decide +kernel : ∀ t : Fin grid0.N, _)
theorem x1 : ∀ t : Fin cfg0.N, win0_1.index t = ![t.val / 256, t.val / 4 % 64, 0] := (by decide +kernel : ∀ t : Fin grid0.N, _)
theorem x3 : ∀ t : Fin cfg0.N, win0_3.index t = ![t.val / 256, t.val / 4 % 64, 0] := (by decide +kernel : ∀ t : Fin grid0.N, _)
theorem x4 : ∀ t : Fin cfg0.N, win0_4.index t = ![t.val / 256, t.val / 4 % 64, 0] := (by decide +kernel : ∀ t : Fin grid0.N, _)
theorem x6 : ∀ t : Fin cfg0.N, win0_6.index t = ![t.val / 256, t.val / 4 % 64, 0] := (by decide +kernel : ∀ t : Fin grid0.N, _)
theorem x5 : ∀ t : Fin cfg0.N, win0_5.index t = ![t.val / 256 * 64 + t.val / 4 % 64, 0, 0] := (by decide +kernel : ∀ t : Fin grid0.N, _)
theorem x7 : ∀ t : Fin cfg0.N, win0_7.index t = ![t.val / 256 * 64 + t.val / 4 % 64, 0, 0] := (by decide +kernel : ∀ t : Fin grid0.N, _)
theorem x9 : ∀ t : Fin cfg0.N, win0_9.index t = ![0, 0, 0, 0, 0] := (by decide +kernel : ∀ t : Fin grid0.N, _)
theorem x10 : ∀ t : Fin cfg0.N, win0_10.index t = ![0, t.val % 4] := (by decide +kernel : ∀ t : Fin grid0.N, _)
theorem x11 : ∀ t : Fin cfg0.N, win0_11.index t = ![0, t.val % 4] := (by decide +kernel : ∀ t : Fin grid0.N, _)
theorem x13 : ∀ t : Fin cfg0.N, win0_13.index t = ![t.val / 256, 0, 0, 0, 0, 0] := (by decide +kernel : ∀ t : Fin grid0.N, _)

variable (m : (ℓ : Loc nD τ sig) → Buf (Elt Ideal) ℓ) (c : Dev nD) (t : Fin cfg0.N)

/-- An argument of the launch. -/
abbrev arg (b : Ref sig .tc) : Buf (Elt Ideal) ((c.tc : Thread nD τ).loc b) := m ((c.tc : Thread nD τ).loc b)

theorem in0 (s d : ℕ) (hs : s < 256) (hd : d < 2048) :
    rd (s := BlS) (iblk m c 0 t) ![0, s, d] = rd (s := XaS) (arg m c main_arg0) ![t.val / 256, 256 * (t.val / 4 % 64) + s, 2048 * (t.val % 4) + d] := by
  have h1 : (tot BlS ![0, s, d] 1).val = s := tot_val (s := BlS) _ 1 hs
  have h2 : (tot BlS ![0, s, d] 2).val = d := tot_val (s := BlS) _ 2 hd
  refine (congrFun (V_main_arg0 m c) ((win0_0.blk t).view.emb (tot BlS ![0, s, d]))).trans (eq_rd (s := XaS) _ _ _ fun a => ?_)
  match a with
  | ⟨0, _⟩ => blk_simp [x0]
  | ⟨1, _⟩ => blk_simp [x0]; exact (congrArg (t.val / 4 % 64 * 256 + ·) h1).trans (by omega)
  | ⟨2, _⟩ => blk_simp [x0]; exact (congrArg (t.val % 4 * 2048 + ·) h2).trans (by omega)

theorem in2 (s d : ℕ) (hs : s < 256) (hd : d < 2048) :
    rd (s := BlS) (iblk m c 2 t) ![0, s, d] = rd (s := XaS) (arg m c main_arg2) ![t.val / 256, 256 * (t.val / 4 % 64) + s, 2048 * (t.val % 4) + d] := by
  have h1 : (tot BlS ![0, s, d] 1).val = s := tot_val (s := BlS) _ 1 hs
  have h2 : (tot BlS ![0, s, d] 2).val = d := tot_val (s := BlS) _ 2 hd
  refine (congrFun (V_main_arg2 m c) ((win0_2.blk t).view.emb (tot BlS ![0, s, d]))).trans (eq_rd (s := XaS) _ _ _ fun a => ?_)
  match a with
  | ⟨0, _⟩ => blk_simp [x2]
  | ⟨1, _⟩ => blk_simp [x2]; exact (congrArg (t.val / 4 % 64 * 256 + ·) h1).trans (by omega)
  | ⟨2, _⟩ => blk_simp [x2]; exact (congrArg (t.val % 4 * 2048 + ·) h2).trans (by omega)

theorem in8 (s d : ℕ) (hs : s < 256) (hd : d < 2048) :
    rd (s := BlS) (iblk m c 8 t) ![0, s, d] = rd (s := XaS) (arg m c main_arg8) ![t.val / 256, 256 * (t.val / 4 % 64) + s, 2048 * (t.val % 4) + d] := by
  have h1 : (tot BlS ![0, s, d] 1).val = s := tot_val (s := BlS) _ 1 hs
  have h2 : (tot BlS ![0, s, d] 2).val = d := tot_val (s := BlS) _ 2 hd
  refine (congrFun (V_main_arg8 m c) ((win0_8.blk t).view.emb (tot BlS ![0, s, d]))).trans (eq_rd (s := XaS) _ _ _ fun a => ?_)
  match a with
  | ⟨0, _⟩ => blk_simp [x8]
  | ⟨1, _⟩ => blk_simp [x8]; exact (congrArg (t.val / 4 % 64 * 256 + ·) h1).trans (by omega)
  | ⟨2, _⟩ => blk_simp [x8]; exact (congrArg (t.val % 4 * 2048 + ·) h2).trans (by omega)

theorem in1 (s d : ℕ) (hs : s < 256) (hd : d < 64) :
    rd (s := ScS) (iblk m c 1 t) ![0, s, d] = rd (s := XsS) (arg m c main_arg1) ![t.val / 256, 256 * (t.val / 4 % 64) + s, d] := by
  have h1 : (tot ScS ![0, s, d] 1).val = s := tot_val (s := ScS) _ 1 hs
  have h2 : (tot ScS ![0, s, d] 2).val = d := tot_val (s := ScS) _ 2 hd
  refine (congrFun (V_main_arg1 m c) ((win0_1.blk t).view.emb (tot ScS ![0, s, d]))).trans (eq_rd (s := XsS) _ _ _ fun a => ?_)
  match a with
  | ⟨0, _⟩ => blk_simp [x1]
  | ⟨1, _⟩ => blk_simp [x1]; exact (congrArg (t.val / 4 % 64 * 256 + ·) h1).trans (by omega)
  | ⟨2, _⟩ => blk_simp [x1]; exact h2

theorem in3 (s d : ℕ) (hs : s < 256) (hd : d < 64) :
    rd (s := ScS) (iblk m c 3 t) ![0, s, d] = rd (s := XsS) (arg m c main_arg3) ![t.val / 256, 256 * (t.val / 4 % 64) + s, d] := by
  have h1 : (tot ScS ![0, s, d] 1).val = s := tot_val (s := ScS) _ 1 hs
  have h2 : (tot ScS ![0, s, d] 2).val = d := tot_val (s := ScS) _ 2 hd
  refine (congrFun (V_main_arg3 m c) ((win0_3.blk t).view.emb (tot ScS ![0, s, d]))).trans (eq_rd (s := XsS) _ _ _ fun a => ?_)
  match a with
  | ⟨0, _⟩ => blk_simp [x3]
  | ⟨1, _⟩ => blk_simp [x3]; exact (congrArg (t.val / 4 % 64 * 256 + ·) h1).trans (by omega)
  | ⟨2, _⟩ => blk_simp [x3]; exact h2

theorem in4 (s d : ℕ) (hs : s < 256) (hd : d < 16) :
    rd (s := BcS) (iblk m c 4 t) ![0, s, d] = rd (s := BaS) (arg m c main_arg4) ![t.val / 256, 256 * (t.val / 4 % 64) + s, d] := by
  have h1 : (tot BcS ![0, s, d] 1).val = s := tot_val (s := BcS) _ 1 hs
  have h2 : (tot BcS ![0, s, d] 2).val = d := tot_val (s := BcS) _ 2 hd
  refine (congrFun (V_main_arg4 m c) ((win0_4.blk t).view.emb (tot BcS ![0, s, d]))).trans (eq_rd (s := BaS) _ _ _ fun a => ?_)
  match a with
  | ⟨0, _⟩ => blk_simp [x4]
  | ⟨1, _⟩ => blk_simp [x4]; exact (congrArg (t.val / 4 % 64 * 256 + ·) h1).trans (by omega)
  | ⟨2, _⟩ => blk_simp [x4]; exact h2

theorem in6 (s d : ℕ) (hs : s < 256) (hd : d < 16) :
    rd (s := BcS) (iblk m c 6 t) ![0, s, d] = rd (s := BaS) (arg m c main_arg6) ![t.val / 256, 256 * (t.val / 4 % 64) + s, d] := by
  have h1 : (tot BcS ![0, s, d] 1).val = s := tot_val (s := BcS) _ 1 hs
  have h2 : (tot BcS ![0, s, d] 2).val = d := tot_val (s := BcS) _ 2 hd
  refine (congrFun (V_main_arg6 m c) ((win0_6.blk t).view.emb (tot BcS ![0, s, d]))).trans (eq_rd (s := BaS) _ _ _ fun a => ?_)
  match a with
  | ⟨0, _⟩ => blk_simp [x6]
  | ⟨1, _⟩ => blk_simp [x6]; exact (congrArg (t.val / 4 % 64 * 256 + ·) h1).trans (by omega)
  | ⟨2, _⟩ => blk_simp [x6]; exact h2

theorem in5 (s : ℕ) (hs : s < 256) :
    rd (s := BsS) (iblk m c 5 t) ![0, 0, s] = rd (s := BtS) (arg m c main_arg5) ![t.val / 256, 256 * (t.val / 4 % 64) + s] := by
  have h2 : (tot BsS ![0, 0, s] 2).val = s := tot_val (s := BsS) _ 2 hs
  have e0 : (((win0_5.blk t).view.emb (tot BsS ![0, 0, s])) 0).val = t.val / 256 * 64 + t.val / 4 % 64 := by blk_simp [x5]
  have e2 : (((win0_5.blk t).view.emb (tot BsS ![0, 0, s])) 2).val = s := by blk_simp [x5]; exact h2
  show V m c main_v2 ((win0_5.blk t).view.emb (tot BsS ![0, 0, s])) = _
  generalize (win0_5.blk t).view.emb (tot BsS ![0, 0, s]) = y at e0 e2 ⊢
  unfold V V0
  simp only [hostOps0, List.flatten_cons, List.flatten_nil, List.append_nil]
  entry_read
  pointwise
  refine eq_rd (s := BtS) _ _ _ fun a => ?_
  match a with
  | ⟨0, _⟩ => show (y 0).val / 64 = t.val / 256; rw [e0]; omega
  | ⟨1, _⟩ => show (y 0).val % 64 * 256 + (y 2).val = 256 * (t.val / 4 % 64) + s; rw [e0, e2]; omega

theorem in7 (s : ℕ) (hs : s < 256) :
    rd (s := BsS) (iblk m c 7 t) ![0, 0, s] = rd (s := BtS) (arg m c main_arg7) ![t.val / 256, 256 * (t.val / 4 % 64) + s] := by
  have h2 : (tot BsS ![0, 0, s] 2).val = s := tot_val (s := BsS) _ 2 hs
  have e0 : (((win0_7.blk t).view.emb (tot BsS ![0, 0, s])) 0).val = t.val / 256 * 64 + t.val / 4 % 64 := by blk_simp [x7]
  have e2 : (((win0_7.blk t).view.emb (tot BsS ![0, 0, s])) 2).val = s := by blk_simp [x7]; exact h2
  show V m c main_v3 ((win0_7.blk t).view.emb (tot BsS ![0, 0, s])) = _
  generalize (win0_7.blk t).view.emb (tot BsS ![0, 0, s]) = y at e0 e2 ⊢
  unfold V V0
  simp only [hostOps0, List.flatten_cons, List.flatten_nil, List.append_nil]
  entry_read
  pointwise
  refine eq_rd (s := BtS) _ _ _ fun a => ?_
  match a with
  | ⟨0, _⟩ => show (y 0).val / 64 = t.val / 256; rw [e0]; omega
  | ⟨1, _⟩ => show (y 0).val % 64 * 256 + (y 2).val = 256 * (t.val / 4 % 64) + s; rw [e0, e2]; omega

theorem in9 (a p n g l : ℕ) (ha : a < 4) (hp : p < 2) (hn : n < 16) (hg : g < 8) (hl : l < 128) :
    rd (s := AsS) (iblk m c 9 t) ![a, p, n, g, l] = rd (s := AlS) (arg m c main_arg9) ![2048 * a + 128 * (2 * g + p) + l, n] := by
  have h0 : (tot AsS ![a, p, n, g, l] 0).val = a := tot_val (s := AsS) _ 0 ha
  have h1 : (tot AsS ![a, p, n, g, l] 1).val = p := tot_val (s := AsS) _ 1 hp
  have h2 : (tot AsS ![a, p, n, g, l] 2).val = n := tot_val (s := AsS) _ 2 hn
  have h3 : (tot AsS ![a, p, n, g, l] 3).val = g := tot_val (s := AsS) _ 3 hg
  have h4 : (tot AsS ![a, p, n, g, l] 4).val = l := tot_val (s := AsS) _ 4 hl
  have e0 : (((win0_9.blk t).view.emb (tot AsS ![a, p, n, g, l])) 0).val = a := by blk_simp [x9]; exact h0
  have e1 : (((win0_9.blk t).view.emb (tot AsS ![a, p, n, g, l])) 1).val = p := by blk_simp [x9]; exact h1
  have e2 : (((win0_9.blk t).view.emb (tot AsS ![a, p, n, g, l])) 2).val = n := by blk_simp [x9]; exact h2
  have e3 : (((win0_9.blk t).view.emb (tot AsS ![a, p, n, g, l])) 3).val = g := by blk_simp [x9]; exact h3
  have e4 : (((win0_9.blk t).view.emb (tot AsS ![a, p, n, g, l])) 4).val = l := by blk_simp [x9]; exact h4
  show V m c main_v1 ((win0_9.blk t).view.emb (tot AsS ![a, p, n, g, l])) = _
  generalize (win0_9.blk t).view.emb (tot AsS ![a, p, n, g, l]) = y at e0 e1 e2 e3 e4 ⊢
  unfold V V0
  simp only [hostOps0, List.flatten_cons, List.flatten_nil, List.append_nil]
  entry_read
  pointwise
  refine eq_rd (s := AlS) _ _ _ fun i => ?_
  match i with
  | ⟨0, _⟩ => show (y 0).val * 2048 + (y 3).val * 256 + (y 1).val * 128 + (y 4).val = 2048 * a + 128 * (2 * g + p) + l; rw [e0, e1, e3, e4]; omega
  | ⟨1, _⟩ => exact e2

theorem in10 (d : ℕ) (hd : d < 2048) :
    rd (s := PaS) (iblk m c 10 t) ![0, d] = rd (s := DaS) (arg m c main_arg10) ![2048 * (t.val % 4) + d] := by
  have h1 : (tot PaS ![0, d] 1).val = d := tot_val (s := PaS) _ 1 hd
  have e1 : (((win0_10.blk t).view.emb (tot PaS ![0, d])) 1).val = 2048 * (t.val % 4) + d := by
    blk_simp [x10]; exact (congrArg (t.val % 4 * 2048 + ·) h1).trans (by omega)
  show V m c main_v4 ((win0_10.blk t).view.emb (tot PaS ![0, d])) = _
  generalize (win0_10.blk t).view.emb (tot PaS ![0, d]) = y at e1 ⊢
  unfold V V0
  simp only [hostOps0, List.flatten_cons, List.flatten_nil, List.append_nil]
  entry_read
  pointwise
  refine eq_rd (s := DaS) _ _ _ fun a => ?_
  match a with
  | ⟨0, _⟩ => exact e1

theorem in11 (d : ℕ) (hd : d < 2048) :
    rd (s := PaS) (iblk m c 11 t) ![0, d] = rd (s := DaS) (arg m c main_arg11) ![2048 * (t.val % 4) + d] := by
  have h1 : (tot PaS ![0, d] 1).val = d := tot_val (s := PaS) _ 1 hd
  have e1 : (((win0_11.blk t).view.emb (tot PaS ![0, d])) 1).val = 2048 * (t.val % 4) + d := by
    blk_simp [x11]; exact (congrArg (t.val % 4 * 2048 + ·) h1).trans (by omega)
  show V m c main_v5 ((win0_11.blk t).view.emb (tot PaS ![0, d])) = _
  generalize (win0_11.blk t).view.emb (tot PaS ![0, d]) = y at e1 ⊢
  unfold V V0
  simp only [hostOps0, List.flatten_cons, List.flatten_nil, List.append_nil]
  entry_read
  pointwise
  refine eq_rd (s := DaS) _ _ _ fun a => ?_
  match a with
  | ⟨0, _⟩ => exact e1
end Cert.KernelIdeal.Value
-- ==== Proof.Value.Spec.lean ====
module

public import proofs.«01_k».proof.Proof.Value.Reads
@[expose] public section
set_option maxRecDepth 16384
noncomputable section
/-! The whole scan as a function of the launch's arguments, and one grid point's share of it. -/
namespace Cert.KernelIdeal.Value
open Cert.KernelIdeal.Gen
open Idealize.ShloMosaic Idealize.ShloMosaic.TcCoe Idealize.ShloMosaic.Tactic
open Cert.Scan

/-- The arguments' arrays. -/
structure Args where
  X : XaS.Idx → EReal
  Xs : XsS.Idx → EReal
  Dt : XaS.Idx → EReal
  Ds : XsS.Idx → EReal
  B : BaS.Idx → EReal
  Bs : BtS.Idx → EReal
  C : BaS.Idx → EReal
  Cs : BtS.Idx → EReal
  Z : XaS.Idx → EReal
  Al : AlS.Idx → EReal
  D : DaS.Idx → EReal
  Bi : DaS.Idx → EReal

/-- The kernel's coefficient of a logarithm. -/
def aE (v : EReal) : EReal := (0 - Ideal.exp v) * (Named.named (F := Ideal) κ "log2_e" 0x3FB8AA3B#32 : Ideal .f32)
/-- The first state. -/
def zE : EReal := (Scalar.ofBits .f32 0x00000000#32 : Ideal .f32)
theorem pay679_apply (x : AsS.Idx → EReal) (i : AsS.Idx) : k0_pay679 (F := Ideal) x i = aE (x i) := by
  unfold k0_pay679
  pointwise
  rfl
theorem pay680_apply (i : HsS.Idx) : k0_pay680 (F := Ideal) i = zE := rfl

namespace Args
variable (I : Args)
def xq (b d T : ℕ) : EReal := rd I.X ![b, T, d] * rd I.Xs ![b, T, d / 128]
def tq (b d T : ℕ) : EReal := rd I.Dt ![b, T, d] * rd I.Ds ![b, T, d / 128]
def dl (b d T : ℕ) : EReal := softE (I.tq b d T + rd I.Bi ![d])
def bq (b n T : ℕ) : EReal := rd I.B ![b, T, n] * rd I.Bs ![b, T]
def cq (b n T : ℕ) : EReal := rd I.C ![b, T, n] * rd I.Cs ![b, T]
/-- State `n` of channel `d` of batch `b` after `T` steps. -/
def st (b d n T : ℕ) : EReal := hs (aE (rd I.Al ![d, n])) zE (I.dl b d) (fun s => I.dl b d s * I.xq b d s) (I.bq b n) T
/-- The output at step `T`. -/
def yv (b d T : ℕ) : EReal := gateE (dot16 fun n => I.st b d n (T + 1) * I.cq b n T) (rd I.D ![d]) (I.xq b d T) (rd I.Z ![b, T, d])
end Args

variable (m : (ℓ : Loc nD τ sig) → Buf (Elt Ideal) ℓ) (c : Dev nD) (t : Fin cfg0.N)

/-- A recurrence begun in the middle. -/
theorem hs_tail {a a' h0 z : EReal} {δ u b δ' u' b' : ℕ → EReal} {M : ℕ} (s : ℕ) (ea : a = a') (eh : h0 = hs a' z δ' u' b' M)
    (e : ∀ r, r < s → δ r = δ' (M + r) ∧ u r = u' (M + r) ∧ b r = b' (M + r)) : hs a h0 δ u b s = hs a' z δ' u' b' (M + s) := by
  rw [hs_add, ← eh, ea]
  exact hs_congr _ _ s e

/-- The arguments of a launch. -/
def ins : Args := ⟨arg m c main_arg0, arg m c main_arg1, arg m c main_arg2, arg m c main_arg3, arg m c main_arg4, arg m c main_arg5, arg m c main_arg6, arg m c main_arg7,
  arg m c main_arg8, arg m c main_arg9, arg m c main_arg10, arg m c main_arg11⟩

/-- The states before (`e = 0`) or after (`e = 1`) grid point `t`. -/
def stAt (I : Args) (t e : ℕ) (k p n g l : ℕ) : EReal := I.st (t / 256) (2048 * k + 128 * (2 * g + p) + l) n (256 * (t / 4 % 64 + if k < t % 4 + e then 1 else 0))

theorem xq_blk (k : Fin 4) (hk : k.val = t.val % 4) (q l s : ℕ) (hq : q < 16) (hl : l < 128) (hs : s < 256) :
    deqE (iblk m c 0 t) (iblk m c 1 t) k q l s = (ins m c).xq (t.val / 256) (2048 * (t.val % 4) + 128 * q + l) (256 * (t.val / 4 % 64) + s) := by
  unfold deqE Args.xq
  rw [in0 m c t s _ hs (by omega), in1 m c t s _ hs (by omega), show (2048 * (t.val % 4) + 128 * q + l) / 128 = q + 16 * k.val by omega, Nat.add_assoc]
  rfl
theorem tq_blk (k : Fin 4) (hk : k.val = t.val % 4) (q l s : ℕ) (hq : q < 16) (hl : l < 128) (hs : s < 256) :
    deqE (iblk m c 2 t) (iblk m c 3 t) k q l s = (ins m c).tq (t.val / 256) (2048 * (t.val % 4) + 128 * q + l) (256 * (t.val / 4 % 64) + s) := by
  unfold deqE Args.tq
  rw [in2 m c t s _ hs (by omega), in3 m c t s _ hs (by omega), show (2048 * (t.val % 4) + 128 * q + l) / 128 = q + 16 * k.val by omega, Nat.add_assoc]
  rfl
theorem dl_blk (k : Fin 4) (hk : k.val = t.val % 4) (q l s : ℕ) (hq : q < 16) (hl : l < 128) (hs : s < 256) :
    dlE (iblk m c 2 t) (iblk m c 3 t) (iblk m c 11 t) k q l s = (ins m c).dl (t.val / 256) (2048 * (t.val % 4) + 128 * q + l) (256 * (t.val / 4 % 64) + s) := by
  unfold dlE Args.dl
  rw [tq_blk m c t k hk q l s hq hl hs, in11 m c t _ (by omega), Nat.add_assoc]
  rfl

set_option maxHeartbeats 1000000 in
/-- One grid point, in the arguments' terms. -/
theorem point_step (k : Fin 4) (hk : k.val = t.val % 4) (first : Prop) [Decidable first] (hf : first ↔ t.val % 256 = 0)
    {X16 : HsS.Idx → EReal} {X17 : AsS.Idx → EReal} {X18 X19 : SplatS.Idx → EReal}
    {Y : BlS.Idx → EReal} {H : HsS.Idx → EReal} {A : AsS.Idx → EReal} {B C : SplatS.Idx → EReal}
    (P : PointFact k first (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      X16 X17 X18 X19 Y H A B C)
    (h16 : t.val % 256 ≠ 0 → ∀ (k : Fin 4) (p : Fin 2) (n : Fin 16) (g : Fin 8) (l : Fin 128), rd X16 ![0, k, p, n, g, l] = stAt (ins m c) t 0 k p n g l)
    (h17 : t.val % 256 ≠ 0 → ∀ (k : Fin 4) (p : Fin 2) (n : Fin 16) (g : Fin 8) (l : Fin 128), rd X17 ![k, p, n, g, l] = aE (rd (ins m c).Al ![2048 * k + 128 * (2 * g + p) + l, n]))
    (h18 : t.val % 4 ≠ 0 → ∀ (n : Fin 16) (s : ℕ) (l : Fin 128), s < 256 → rd X18 ![n, s, l] = (ins m c).bq (t.val / 256) n (256 * (t.val / 4 % 64) + s))
    (h19 : t.val % 4 ≠ 0 → ∀ (n : Fin 16) (s : ℕ) (l : Fin 128), s < 256 → rd X19 ![n, s, l] = (ins m c).cq (t.val / 256) n (256 * (t.val / 4 % 64) + s)) :
    (∀ (k : Fin 4) (p : Fin 2) (n : Fin 16) (g : Fin 8) (l : Fin 128), rd A ![k, p, n, g, l] = aE (rd (ins m c).Al ![2048 * k + 128 * (2 * g + p) + l, n]))
    ∧ (∀ (n : Fin 16) (s : ℕ) (l : Fin 128), s < 256 → rd B ![n, s, l] = (ins m c).bq (t.val / 256) n (256 * (t.val / 4 % 64) + s))
    ∧ (∀ (n : Fin 16) (s : ℕ) (l : Fin 128), s < 256 → rd C ![n, s, l] = (ins m c).cq (t.val / 256) n (256 * (t.val / 4 % 64) + s))
    ∧ (∀ (k : Fin 4) (p : Fin 2) (n : Fin 16) (g : Fin 8) (l : Fin 128), rd H ![0, k, p, n, g, l] = stAt (ins m c) t 1 k p n g l)
    ∧ ∀ (p : Fin 2) (g : Fin 8) (l : Fin 128) (s : ℕ), s < 256 → rd Y ![0, s, 128 * (2 * g + p) + l] = (ins m c).yv (t.val / 256) (2048 * (t.val % 4) + 128 * (2 * g + p) + l) (256 * (t.val / 4 % 64) + s) := by
  have hA : ∀ (k : Fin 4) (p : Fin 2) (n : Fin 16) (g : Fin 8) (l : Fin 128), rd A ![k, p, n, g, l] = aE (rd (ins m c).Al ![2048 * k + 128 * (2 * g + p) + l, n]) := fun k p n g l => by
    rw [P.hA]
    split
    · unfold rd
      rw [pay679_apply]
      exact congrArg aE (in9 m c t k p n g l k.isLt p.isLt n.isLt g.isLt l.isLt)
    · rename_i h
      exact h17 (fun e => h (hf.mpr e)) k p n g l
  have hB : ∀ (n : Fin 16) (s : ℕ) (l : Fin 128), s < 256 → rd B ![n, s, l] = (ins m c).bq (t.val / 256) n (256 * (t.val / 4 % 64) + s) := fun n s l hs => by
    rw [P.hB n s l hs]
    split
    · rw [in4 m c t s n hs n.isLt, in5 m c t s hs]; rfl
    · rename_i h
      exact h18 (fun e => h (hk.trans e)) n s l hs
  have hC : ∀ (n : Fin 16) (s : ℕ) (l : Fin 128), s < 256 → rd C ![n, s, l] = (ins m c).cq (t.val / 256) n (256 * (t.val / 4 % 64) + s) := fun n s l hs => by
    rw [P.hC n s l hs]
    split
    · rw [in6 m c t s n hs n.isLt, in7 m c t s hs]; rfl
    · rename_i h
      exact h19 (fun e => h (hk.trans e)) n s l hs
  have h0 : ∀ (k : Fin 4) (p : Fin 2) (n : Fin 16) (g : Fin 8) (l : Fin 128), rd (if first then k0_pay680 (F := Ideal) else X16) ![0, k, p, n, g, l] = stAt (ins m c) t 0 k p n g l := fun k p n g l => by
    split
    · rename_i h
      have e := hf.mp h
      unfold stAt
      rw [show t.val / 4 % 64 = 0 by omega, show t.val % 4 = 0 by omega, if_neg (by omega)]
      rfl
    · rename_i h
      exact h16 (fun e => h (hf.mpr e)) k p n g l
  have hS : ∀ (p : Fin 2) (n : Fin 16) (g : Fin 8) (l : Fin 128) (s : ℕ), s ≤ 256 →
      stE (iblk m c 0 t) (iblk m c 1 t) (iblk m c 2 t) (iblk m c 3 t) (iblk m c 11 t) A (if first then k0_pay680 (F := Ideal) else X16) B k p n g l s
      = (ins m c).st (t.val / 256) (2048 * (t.val % 4) + 128 * (2 * g + p) + l) n (256 * (t.val / 4 % 64) + s) := fun p n g l s hs => by
    have q1 := p.isLt
    have q2 := g.isLt
    refine hs_tail s ((hA k p n g l).trans (by rw [hk, Nat.add_assoc])) ((h0 k p n g l).trans ?_) fun r hr => ⟨?_, ?_, ?_⟩
    · unfold stAt
      rw [if_neg (by omega), hk]
      rfl
    · exact dl_blk m c t k hk _ _ r (by omega) l.isLt (by omega)
    · exact congrArg₂ (· * ·) (dl_blk m c t k hk _ _ r (by omega) l.isLt (by omega)) (xq_blk m c t k hk _ _ r (by omega) l.isLt (by omega))
    · exact hB n r l (by omega)
  refine ⟨hA, hB, hC, fun k' p n g l => ?_, fun p g l s hs => ?_⟩
  · rw [P.hH k' p n g l]
    split
    · rename_i h
      rw [hS p n g l 256 (Nat.le_refl _)]
      unfold stAt
      rw [if_pos (by omega), h, hk]
      rfl
    · rename_i h
      rw [h0]
      unfold stAt
      by_cases h1 : k'.val < t.val % 4
      · rw [if_pos (by omega), if_pos (by omega)]
      · rw [if_neg (by omega), if_neg (by omega)]
  · have q1 := p.isLt
    have q2 := g.isLt
    rw [P.hY p g l s hs]
    unfold Args.yv
    rw [in10 m c t _ (by omega), in8 m c t s _ hs (by omega), xq_blk m c t k hk _ _ s (by omega) l.isLt hs]
    have e : (fun n : Fin 16 => stE (iblk m c 0 t) (iblk m c 1 t) (iblk m c 2 t) (iblk m c 3 t) (iblk m c 11 t) A (if first then k0_pay680 (F := Ideal) else X16) B k p n g l (s + 1) * srow C n l s)
        = fun n : Fin 16 => (ins m c).st (t.val / 256) (2048 * (t.val % 4) + 128 * (2 * g + p) + l) n (256 * (t.val / 4 % 64) + s + 1) * (ins m c).cq (t.val / 256) n (256 * (t.val / 4 % 64) + s) :=
      funext fun n => congrArg₂ (· * ·) (hS p n g l (s + 1) (by omega)) (hC n s l hs)
    rw [e]
    simp only [Nat.add_assoc]
    rfl
end Cert.KernelIdeal.Value
-- ==== Proof.Value.Eqs.lean ====
module

public import proofs.«01_k».proof.Proof.Value.Spec
@[expose] public section
set_option maxRecDepth 16384
noncomputable section
/-! The kernel's spellings of the exponential, the softplus and the gate, and the textbook ones. -/
namespace Cert.KernelIdeal.Value
open Cert.KernelIdeal.Gen
open Idealize.ShloMosaic Idealize.ShloMosaic.TcCoe Idealize.ShloMosaic.Tactic
open Cert.Scan

/-- One over the logarithm of two. -/
def LL : ℝ := (Real.log 2)⁻¹
theorem log2_pos : 0 < Real.log 2 := Real.log_pos (by norm_num)
theorem LL_pos : 0 < LL := inv_pos.mpr log2_pos
theorem named_log2e : (Named.named (F := Ideal) κ "log2_e" 0x3FB8AA3B#32 : Ideal .f32) = ((LL : ℝ) : EReal) := rfl
theorem named_nlog2e : (Named.named (F := Ideal) κ "neg_log2_e" 0xBFB8AA3B#32 : Ideal .f32) = ((-LL : ℝ) : EReal) := rfl
theorem named_ln2 : (Named.named (F := Ideal) κ "ln_2" 0x3F317218#32 : Ideal .f32) = ((Real.log 2 : ℝ) : EReal) := rfl

theorem exp2_LL (x : EReal) : Ideal.exp2 (x * (LL : ℝ)) = Ideal.exp x := by
  induction x with
  | bot => rw [EReal.bot_mul_coe_of_pos LL_pos]; rfl
  | top => rw [EReal.top_mul_coe_of_pos LL_pos]; rfl
  | coe r =>
    rw [← EReal.coe_mul, Ideal.exp2_coe, Ideal.exp_coe]
    congr 1
    show (2 : ℝ) ^ (r * LL) = _
    rw [Real.rpow_def_of_pos (by norm_num)]
    congr 1
    unfold LL
    field_simp [log2_pos.ne']
theorem exp2_nLL (x : EReal) : Ideal.exp2 (x * ((-LL : ℝ) : EReal)) = Ideal.exp (-x) := by
  rw [← exp2_LL (-x), EReal.coe_neg, mul_neg, neg_mul]
theorem exp2_aE (δ v : EReal) : Ideal.exp2 (δ * aE v) = Ideal.exp (δ * (0 - Ideal.exp v)) := by
  unfold aE
  rw [named_log2e, ← mul_assoc, exp2_LL]
theorem zE_eq : zE = 0 := by
  unfold zE
  simp

theorem soft_core (q : ℝ) (hq : 0 ≤ q) :
    Ideal.log (1 + (q : EReal)) * (LL : ℝ) * ((Real.log 2 : ℝ) : EReal) + ((q : EReal) - ((1 + (q : EReal)) - 1)) = Ideal.log (1 + (q : EReal)) := by
  have e1 : (1 : EReal) + q = ((1 + q : ℝ) : EReal) := by rw [EReal.coe_add]; rfl
  have e2 : ((1 + q : ℝ) : EReal) - 1 = ((1 + q - 1 : ℝ) : EReal) := by rw [EReal.coe_sub]; rfl
  rw [e1, e2, Ideal.log_coe, if_neg (by linarith), ← EReal.coe_mul, ← EReal.coe_mul, ← EReal.coe_sub, ← EReal.coe_add]
  congr 1
  unfold LL
  have := log2_pos.ne'
  field_simp
  ring
theorem softE_eq (v : EReal) : softE v = max v 0 + Ideal.log1p (Ideal.exp (0 - (FloatOps.absf (F := Ideal) (φ := .f32) v : EReal))) := by
  have h : softE v = max v 0 + (Ideal.log (1 + Ideal.exp2 ((FloatOps.absf (F := Ideal) (φ := .f32) v : EReal) * ((-LL : ℝ) : EReal))) * (LL : ℝ) * ((Real.log 2 : ℝ) : EReal)
      + (Ideal.exp2 ((FloatOps.absf (F := Ideal) (φ := .f32) v : EReal) * ((-LL : ℝ) : EReal)) - ((1 + Ideal.exp2 ((FloatOps.absf (F := Ideal) (φ := .f32) v : EReal) * ((-LL : ℝ) : EReal))) - 1))) := by
    unfold softE softV
    rw [named_log2e, named_nlog2e, named_ln2]
    pointwise
    rfl
  rw [h, exp2_nLL, zero_sub]
  unfold Ideal.log1p
  have hp : ∃ q : ℝ, 0 ≤ q ∧ Ideal.exp (-(FloatOps.absf (F := Ideal) (φ := .f32) v : EReal)) = (q : EReal) := by
    induction v with
    | bot => exact ⟨0, le_refl _, by show Ideal.exp (-(max (⊥ : EReal) (-⊥))) = _; simp⟩
    | top => exact ⟨0, le_refl _, by show Ideal.exp (-(max (⊤ : EReal) (-⊤))) = _; simp⟩
    | coe r => exact ⟨Real.exp (-(max r (-r))), (Real.exp_pos _).le, by
      show Ideal.exp (-(max (r : EReal) (-(r : EReal)))) = _
      rw [← EReal.coe_neg, ← EReal.coe_strictMono.monotone.map_max, ← EReal.coe_neg, Ideal.exp_coe]⟩
  obtain ⟨q, hq, e⟩ := hp
  rw [e, soft_core q hq]
theorem gateE_eq (ys d x z : EReal) : gateE ys d x z = (ys + d * x) * (z * Ideal.logistic z) := by
  have h : gateE ys d x z = (ys + d * x) * Ideal.div z (1 + Ideal.exp2 (z * ((-LL : ℝ) : EReal))) := by
    unfold gateE gateV
    rw [named_nlog2e]
    pointwise
    rfl
  rw [h, exp2_nLL]
  congr 1
  induction z with
  | bot =>
    have e : (1 : EReal) + ⊤ = ⊤ := EReal.add_top_of_ne_bot (EReal.coe_ne_bot 1)
    simp [Ideal.div, e]
  | top => simp [Ideal.div]
  | coe r =>
    rw [Ideal.logistic_coe, ← EReal.coe_neg, Ideal.exp_coe]
    have hr := Real.exp_pos (-r)
    rw [show (1 : EReal) + (Real.exp (-r) : ℝ) = ((1 + Real.exp (-r) : ℝ) : EReal) by rw [EReal.coe_add]; rfl, Ideal.div_coe (by positivity), one_div]
theorem dot16_eq (f : Fin 16 → EReal) : dot16 f = ∑ n : Fin 16, f n := by
  simp only [Fin.sum_univ_succ, Fin.sum_univ_zero, add_zero, dot16]
  simp only [← add_assoc]
  rfl
end Cert.KernelIdeal.Value
-- ==== Proof.Value.RefOps.lean ====
module

public import proofs.«01_k».proof.Proof.Gen.ReferenceIdeal.Frame
public import proofs.«01_k».proof.Proof.Gen.ReferenceIdeal.Skeleton
public import proofs.«01_k».proof.Proof.Value.Rows
@[expose] public section
set_option maxRecDepth 16384
noncomputable section
/-! The reference's operations, one element at a time. -/
namespace Cert.ReferenceIdeal.Value
open Cert.ReferenceIdeal.Gen
open Idealize.ShloMosaic Idealize.ShloMosaic.TcCoe Idealize.ShloMosaic.Tactic
open Cert.Scan
theorem pay12_apply (al : S8192x16.Idx → EReal) (h : S2x16x8192.Idx → EReal) (v83 v85 : S2x1x8192.Idx → EReal) (v87 : S2x1x16.Idx → EReal) (b : Fin 2) (n : Fin 16) (d : Fin 8192) :
    k0_pay12 (F := Ideal) al h v83 v85 v87 (ix3 b n d) = Ideal.exp (v83 (ix3 b 0 d) * (0 - Ideal.exp (al (ix2 d n)))) * h (ix3 b n d) + v85 (ix3 b 0 d) * v87 (ix3 b 0 n) := by
  unfold k0_pay12
  pointwise
theorem pay13_apply (al : S8192x16.Idx → EReal) (h : S2x16x8192.Idx → EReal) (v83 v85 : S2x1x8192.Idx → EReal) (v87 v89 : S2x1x16.Idx → EReal) (b : Fin 2) (d : Fin 8192) :
    k0_pay13 (F := Ideal) al h v83 v85 v87 v89 (ix3 b 0 d) = ∑ n : Fin 16, k0_pay12 (F := Ideal) al h v83 v85 v87 (ix3 b n d) * v89 (ix3 b 0 n) := by
  unfold k0_pay13
  pointwise
theorem pay3_apply (x : S2x16384x8192.Idx → EReal) (s : S2x16384x64.Idx → EReal) (b : Fin 2) (T : Fin 16384) (d : Fin 8192) :
    k0_pay3 (F := Ideal) x s (ix3 b T d) = x (ix3 b T d) * s (ix3 b T ⟨d.val / 128, by omega⟩) := by
  unfold k0_pay3
  pointwise
theorem pay4_apply (x : S2x16384x8192.Idx → EReal) (s : S2x16384x64.Idx → EReal) (b : Fin 2) (T : Fin 16384) (d : Fin 8192) :
    k0_pay4 (F := Ideal) x s (ix3 b T d) = x (ix3 b T d) * s (ix3 b T ⟨d.val / 128, by omega⟩) := by
  unfold k0_pay4
  pointwise
theorem pay5_apply (x : S2x16384x16.Idx → EReal) (s : S2x16384.Idx → EReal) (b : Fin 2) (T : Fin 16384) (d : Fin 16) :
    k0_pay5 (F := Ideal) x s (ix3 b T d) = x (ix3 b T d) * s (ix2 b T) := by
  unfold k0_pay5
  pointwise
theorem pay67_apply (x : S2x16384x16.Idx → EReal) (s : S2x16384.Idx → EReal) (b : Fin 2) (T : Fin 16384) (d : Fin 16) :
    k0_pay7 (F := Ideal) (k0_pay6 (F := Ideal) x s) (ix3 b T d) = x (ix3 b T d) * s (ix2 b T) := by
  unfold k0_pay7 k0_pay6
  pointwise
/-- The textbook softplus. -/
def softR (v : EReal) : EReal := max v 0 + Ideal.log1p (Ideal.exp (0 - (FloatOps.absf (F := Ideal) (φ := .f32) v : EReal)))
theorem pay8_apply (x : S2x16384x8192.Idx → EReal) (s : S8192.Idx → EReal) (b : Fin 2) (T : Fin 16384) (d : Fin 8192) :
    k0_pay8 (F := Ideal) x s (ix3 b T d) = softR (x (ix3 b T d) + s (ix1 d)) := by
  unfold k0_pay8
  pointwise
  exact if_neg fun h => h rfl
theorem pay9_apply (x : S2x16384x8192.Idx → EReal) (s : S8192.Idx → EReal) (b : Fin 2) (T : Fin 16384) (d : Fin 8192) :
    k0_pay9 (F := Ideal) x s (ix3 b T d) = softR (x (ix3 b T d) + s (ix1 d)) := by
  refine Eq.trans ?_ (pay8_apply x s b T d)
  unfold k0_pay9
  pointwise
theorem pay10_apply (y x : S2x16384x8192.Idx → EReal) (s : S8192.Idx → EReal) (b : Fin 2) (T : Fin 16384) (d : Fin 8192) :
    k0_pay10 (F := Ideal) y x s (ix3 b T d) = softR (x (ix3 b T d) + s (ix1 d)) * y (ix3 b T d) := by
  rw [← pay8_apply x s b T d]
  unfold k0_pay10
  pointwise
theorem pay11_apply (b : Fin 2) (n : Fin 16) (d : Fin 8192) : k0_pay11 (F := Ideal) (ix3 b n d) = 0 := by
  unfold k0_pay11
  pointwise
theorem pay1_apply (x : S2x16384x8192.Idx → EReal) (z ys : S2x16384x8192.Idx → EReal) (s : S8192.Idx → EReal) (b : Fin 2) (T : Fin 16384) (d : Fin 8192) :
    k0_pay1 (F := Ideal) x z ys s (ix3 b T d) = (ys (ix3 b T d) + s (ix1 d) * x (ix3 b T d)) * (z (ix3 b T d) * Ideal.logistic (z (ix3 b T d))) := by
  unfold k0_pay1
  pointwise
theorem pay2_apply (x : S2x16x8192.Idx → EReal) (b : Fin 2) (n : Fin 16) (d : Fin 8192) :
    k0_pay2 (F := Ideal) x (ix3 b d n) = x (ix3 b n d) := by
  unfold k0_pay2
  pointwise
end Cert.ReferenceIdeal.Value
-- ==== Proof.Value.RefLoop.lean ====
module

public import proofs.«01_k».proof.Proof.Value.RefOps
public import proofs.«01_k».proof.Proof.Value.Trip
public import Idealize.ShloMosaic.Lib.Exec
public import Idealize.ShloMosaic.Lib.WritesUnit
@[expose] public section
set_option maxRecDepth 16384
set_option maxHeartbeats 4000000
set_option sl_exec.squeezeSlice true
noncomputable section
/-! The reference's scan: the states before a step, and the sums stored for the steps before it. -/
namespace Cert.ReferenceIdeal.Value
open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan
instance : Pos S2x16384x8192 := ⟨by decide⟩
instance : Pos S2x16384x16 := ⟨by decide⟩

/-- The recurrence with the reference's exponential. -/
def hR (al : EReal) (δ u b : ℕ → EReal) : ℕ → EReal
  | 0 => 0
  | t + 1 => Ideal.exp (δ t * (0 - Ideal.exp al)) * hR al δ u b t + u t * b t

/-- State `(b, n, d)` after `k` steps. -/
def stR (al : S8192x16.Idx → EReal) (D U : S2x16384x8192.Idx → EReal) (B : S2x16384x16.Idx → EReal) (b n d k : ℕ) (hd : d < 8192) (hn : n < 16) : EReal :=
  hR (al (ix2 ⟨d, hd⟩ ⟨n, hn⟩)) (fun s => rd D ![b, s, d]) (fun s => rd U ![b, s, d]) (fun s => rd B ![b, s, n]) k

/-- What the loop keeps. -/
structure RFact (al : S8192x16.Idx → EReal) (D U : S2x16384x8192.Idx → EReal) (B C : S2x16384x16.Idx → EReal) (k : ℕ) (acc : S2x16x8192.Idx → EReal) (y : S2x16384x8192.Idx → EReal) : Prop where
  st : ∀ (b : Fin 2) (n : Fin 16) (d : Fin 8192), acc (ix3 b n d) = stR al D U B b n d k d.isLt n.isLt
  out : ∀ (b : Fin 2) (d : Fin 8192) (s : ℕ), s < k → rd y ![b, s, d] = ∑ n : Fin 16, stR al D U B b n d (s + 1) d.isLt n.isLt * rd C ![b, s, n]

variable {sg : RefSig} {κ : Kind} {sp : Space}
/-- A row of an array. -/
theorem row_load {s : Shape} [Pos s] (v : View sg κ sp s .f32) (f : v.ty.Contents (Elt Ideal)) {off off' : Fin s.rank → ℕ} {size : Fin s.rank → ℕ} (inb) (ho : off = off') (i : (Rect.unit (s := s) off size inb).toLoadRect.shape.Idx)
    (g : Fin s.rank → ℕ) (hg : ∀ a, off' a + (i a).val = g a) : v.readAt (Elt Ideal) (Rect.unit (s := s) off size inb).toLoadRect f i = rd (v.read (Elt Ideal) f) g := by
  subst ho
  exact eq_rd (v.read (Elt Ideal) f) ((Rect.unit (s := s) off size inb).toLoadRect.idx i) g fun a => by
    rw [← hg a]
    show off a + 1 * (i a).val = _
    rw [Nat.one_mul]

theorem RFact.step {al : S8192x16.Idx → EReal} {D U : S2x16384x8192.Idx → EReal} {B C : S2x16384x16.Idx → EReal} {k : ℕ} {acc : S2x16x8192.Idx → EReal} {y y' : S2x16384x8192.Idx → EReal} (hk : k < 16384)
    (h : RFact al D U B C k acc y) (v83 v85 : S2x1x8192.Idx → EReal) (v87 v89 : S2x1x16.Idx → EReal)
    (h83 : ∀ (b : Fin 2) (d : Fin 8192), v83 (ix3 b 0 d) = rd D ![b, k, d]) (h85 : ∀ (b : Fin 2) (d : Fin 8192), v85 (ix3 b 0 d) = rd U ![b, k, d])
    (h87 : ∀ (b : Fin 2) (n : Fin 16), v87 (ix3 b 0 n) = rd B ![b, k, n]) (h89 : ∀ (b : Fin 2) (n : Fin 16), v89 (ix3 b 0 n) = rd C ![b, k, n])
    (hy : ∀ (b : Fin 2) (d : Fin 8192) (s : ℕ), s < 16384 → rd y' ![b, s, d] = if s = k then k0_pay13 (F := Ideal) al acc v83 v85 v87 v89 (ix3 b 0 d) else rd y ![b, s, d]) :
    RFact al D U B C (k + 1) (k0_pay12 (F := Ideal) al acc v83 v85 v87) y' := by
  have e : ∀ (b : Fin 2) (n : Fin 16) (d : Fin 8192), k0_pay12 (F := Ideal) al acc v83 v85 v87 (ix3 b n d) = stR al D U B b n d (k + 1) d.isLt n.isLt := fun b n d => by
    rw [pay12_apply, h.st, h83, h85, h87]
    rfl
  refine ⟨e, fun b d s hs => ?_⟩
  rw [hy b d s (by omega)]
  split
  · rename_i h'
    subst h'
    rw [pay13_apply]
    exact Finset.sum_congr rfl fun n _ => by rw [e, h89]
  · exact h.out b d s (by omega)

/-- A row stored. -/
theorem row_store (v : View sg κ sp S2x16384x8192 .f32) (f : v.ty.Contents (Elt Ideal)) {off : Fin 3 → ℕ} {k : ℕ} (ho : off = ![0, k, 0]) (hk : k < 16384) (inb) (w : S2x1x8192.Idx → EReal) (b : Fin 2) (d : Fin 8192) (s : ℕ) (hs : s < 16384) :
    rd (v.read (Elt Ideal) (v.writes (Elt Ideal) f [⟨Rect.unit (s := S2x16384x8192) off S2x1x8192.size inb, w⟩])) ![b, s, d] = if s = k then w (ix3 b 0 d) else rd (v.read (Elt Ideal) f) ![b, s, d] := by
  have t0 : (tot S2x16384x8192 ![b, s, d] 0).val = b.val := tot_val (s := S2x16384x8192) ![b, s, d] 0 b.isLt
  have t1 : (tot S2x16384x8192 ![b, s, d] 1).val = s := tot_val (s := S2x16384x8192) ![b, s, d] 1 hs
  have t2 : (tot S2x16384x8192 ![b, s, d] 2).val = d.val := tot_val (s := S2x16384x8192) ![b, s, d] 2 d.isLt
  split
  · rename_i h
    exact View.read_writes_cons_unit_of_mem v f inb w [] (tot S2x16384x8192 ![b, s, d]) (ix3 b 0 d) ho fun a => by
      match a with
      | ⟨0, _⟩ => exact t0.trans (Nat.zero_add _).symm
      | ⟨1, _⟩ => exact t1.trans h
      | ⟨2, _⟩ => exact t2.trans (Nat.zero_add _).symm
  · rename_i h
    exact View.read_writes_cons_unit_of_not_mem v f inb w [] (tot S2x16384x8192 ![b, s, d]) ho 1 (by
      rw [t1]
      show s < k ∨ k + 1 ≤ s
      omega)

/-- The scan loop. -/
@[sl_loop] noncomputable def loopInv (c : Dev nD) (arg0 : Memref sig .tc .vmem S2x16384x8192 .fp8e4m3) (harg0 : arg0.IsWhole) (arg1 : Memref sig .tc .vmem S2x16384x64 .f32) (harg1 : arg1.IsWhole) (arg2 : Memref sig .tc .vmem S2x16384x8192 .fp8e4m3) (harg2 : arg2.IsWhole) (arg3 : Memref sig .tc .vmem S2x16384x64 .f32) (harg3 : arg3.IsWhole) (arg4 : Memref sig .tc .vmem S2x16384x16 .fp8e4m3) (harg4 : arg4.IsWhole) (arg5 : Memref sig .tc .vmem S2x16384 .f32) (harg5 : arg5.IsWhole) (arg6 : Memref sig .tc .vmem S2x16384x16 .fp8e4m3) (harg6 : arg6.IsWhole) (arg7 : Memref sig .tc .vmem S2x16384 .f32) (harg7 : arg7.IsWhole) (arg8 : Memref sig .tc .vmem S2x16384x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x16384x8192 .bf16) (harg12 : arg12.IsWhole) (arg13 : Memref sig .tc .vmem S2x8192x16 .f32) (harg13 : arg13.IsWhole) (arg14 : Memref sig .tc .vmem S2x16384x8192 .f32) (harg14 : arg14.IsWhole) (arg15 : Memref sig .tc .vmem S2x16384x8192 .f32) (harg15 : arg15.IsWhole) (arg16 : Memref sig .tc .vmem S2x16384x16 .f32) (harg16 : arg16.IsWhole) (arg17 : Memref sig .tc .vmem S2x16384x16 .f32) (harg17 : arg17.IsWhole) (arg18 : Memref sig .tc .vmem S2x16384x8192 .f32) (harg18 : arg18.IsWhole) (v7 : FVec Ideal S2x16384x8192 .f32) (v15 : FVec Ideal S2x16384x8192 .f32) (v30 : FVec Ideal S2x16384x16 .f32) (v59 : Vec Ideal S8192x16 .f32)  (X14 : BufTy.Contents (Elt Ideal) arg14.view.ty) (X15 : BufTy.Contents (Elt Ideal) arg15.view.ty) (X16 : BufTy.Contents (Elt Ideal) arg16.view.ty) (X17 : BufTy.Contents (Elt Ideal) arg17.view.ty) :
    Idealize.ShloMosaic.LoopInv (M := MT nD τ sig Unit (Elt Ideal) ℕ (UR sig nD τ) ℕ) Idealize.ShloMosaic.frame (wpE (defs₀ (F := Ideal)) Variants.none (c : Thread nD τ) none) Set.univ
    k0_t1_loop.lb k0_t1_loop.ub k0_t1_loop.st k0_t1_ok (k0_pay11 (F := Ideal)) (k0_t1_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v15 v30 v59) where
  inv := fun k acc => iprop((arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
    ∗ (∃ f, ⌜acc = sel k (k0_pay11 (F := Ideal)) acc⌝ ∗ ⌜cnd k (RFact v59 (arg14.view.read (Elt Ideal) X14) (arg15.view.read (Elt Ideal) X15) (arg16.view.read (Elt Ideal) X16) (arg17.view.read (Elt Ideal) X17) k acc (arg18.view.read (Elt Ideal) f)) = True⌝ ∗ (arg18.view.loc (c : Thread nD τ) ↦[arg18.view.set]{fullShare} f)))
  step := fun k acc => by
    have hk : k.val < 16384 := Nat.lt_of_lt_of_le k.isLt k0_t1_abs.2.1
    unfold k0_t1_body
    iintro ⟨H14, H15, H16, H17, ⟨%f18, %ha, %hf, H18⟩⟩
    replace hf := cnd_use (P := fun k => RFact v59 (arg14.view.read (Elt Ideal) X14) (arg15.view.read (Elt Ideal) X15) (arg16.view.read (Elt Ideal) X16) (arg17.view.read (Elt Ideal) X17) k acc (arg18.view.read (Elt Ideal) f18)) (fun h0 => by
      rw [h0] at ha ⊢
      exact ⟨fun b n d => by rw [ha]; exact pay11_apply b n d, fun b d s h => absurd h (Nat.not_lt_zero s)⟩) hf
    sl_exec
    sl_step
    isplitl [H14]; · iexact H14
    isplitl [H15]; · iexact H15
    isplitl [H16]; · iexact H16
    isplitl [H17]; · iexact H17
    iexists _; isplitr; (· ipureintro; rfl)
    isplitr; swap; (· iexact H18)
    ipureintro
    refine eq_true (RFact.step (k := k.val) hk hf (arg14.view.readAt (Elt Ideal) (Rect.unit (s := S2x16384x8192) (k0_off1 k) S2x1x8192.size (k0_off1_inb k)).toLoadRect X14) (arg15.view.readAt (Elt Ideal) (Rect.unit (s := S2x16384x8192) (k0_off1 k) S2x1x8192.size (k0_off1_inb k)).toLoadRect X15) (arg16.view.readAt (Elt Ideal) (Rect.unit (s := S2x16384x16) (k0_off2 k) S2x1x16.size (k0_off2_inb k)).toLoadRect X16) (arg17.view.readAt (Elt Ideal) (Rect.unit (s := S2x16384x16) (k0_off2 k) S2x1x16.size (k0_off2_inb k)).toLoadRect X17) ?_ ?_ ?_ ?_ ?_)
    · exact fun b d => row_load arg14.view X14 (k0_off1_inb k) (k0_off1_eq k) (ix3 b 0 d) ![b, k.val, d] fun a => by
        match a with
        | ⟨0, _⟩ => exact Nat.zero_add _
        | ⟨1, _⟩ => rfl
        | ⟨2, _⟩ => exact Nat.zero_add _
    · exact fun b d => row_load arg15.view X15 (k0_off1_inb k) (k0_off1_eq k) (ix3 b 0 d) ![b, k.val, d] fun a => by
        match a with
        | ⟨0, _⟩ => exact Nat.zero_add _
        | ⟨1, _⟩ => rfl
        | ⟨2, _⟩ => exact Nat.zero_add _
    · exact fun b n => row_load arg16.view X16 (k0_off2_inb k) (k0_off2_eq k) (ix3 b 0 n) ![b, k.val, n] fun a => by
        match a with
        | ⟨0, _⟩ => exact Nat.zero_add _
        | ⟨1, _⟩ => rfl
        | ⟨2, _⟩ => exact Nat.zero_add _
    · exact fun b n => row_load arg17.view X17 (k0_off2_inb k) (k0_off2_eq k) (ix3 b 0 n) ![b, k.val, n] fun a => by
        match a with
        | ⟨0, _⟩ => exact Nat.zero_add _
        | ⟨1, _⟩ => rfl
        | ⟨2, _⟩ => exact Nat.zero_add _
    · exact fun b d s hs => row_store arg18.view f18 (k0_off1_eq k) hk (k0_off1_inb k) _ b d s hs
end Cert.ReferenceIdeal.Value
-- ==== Proof.Value.RefBody.lean ====
module

public import proofs.«01_k».proof.Proof.Value.RefLoop
public import Idealize.ShloMosaic.Lib.VecWindow
@[expose] public section
set_option maxRecDepth 16384
set_option maxHeartbeats 4000000
set_option sl_exec.squeezeSlice true
noncomputable section
/-! What the reference's body leaves in the two results. -/
namespace Cert.ReferenceIdeal.Value
open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan
local notation "𝕄" => MT nD τ sig Unit (Elt Ideal) ℕ (UR sig nD τ) ℕ

/-- The two results, from the scan's states and sums. -/
def Out (x0 : S2x16384x8192.Idx → EReal) (x1 : S2x16384x64.Idx → EReal) (x2 : S2x16384x8192.Idx → EReal) (x3 : S2x16384x64.Idx → EReal) (x4 : S2x16384x16.Idx → EReal) (x5 : S2x16384.Idx → EReal)
    (x6 : S2x16384x16.Idx → EReal) (x7 : S2x16384.Idx → EReal) (x8 : S2x16384x8192.Idx → EReal) (x9 : S8192x16.Idx → EReal) (x10 x11 : S8192.Idx → EReal) (Y : S2x16384x8192.Idx → EReal) (H : S2x8192x16.Idx → EReal) : Prop :=
  ∃ (acc : S2x16x8192.Idx → EReal) (ys : S2x16384x8192.Idx → EReal),
    RFact x9 (k0_pay9 (F := Ideal) (k0_pay4 (F := Ideal) x2 x3) x11) (k0_pay10 (F := Ideal) (k0_pay3 (F := Ideal) x0 x1) (k0_pay4 (F := Ideal) x2 x3) x11) (k0_pay5 (F := Ideal) x4 x5) (k0_pay7 (F := Ideal) (k0_pay6 (F := Ideal) x6 x7)) 16384 acc ys
    ∧ Y = k0_pay1 (F := Ideal) (k0_pay3 (F := Ideal) x0 x1) x8 ys x10 ∧ H = k0_pay2 (F := Ideal) acc

theorem cnd_of {k : ℕ} (hk : 0 < k) {P : Prop} (h : cnd k P = True) : P := by
  cases k with
  | zero => exact absurd hk (Nat.lt_irrefl 0)
  | succ k => exact of_eq_true h
/-- A whole array stored. -/
theorem whole_eq {sg : RefSig} {κ : Kind} {sp : Space} {s : Shape} {e : EltTy} {Val : EltTy → Type} (v : View sg κ sp s e) (f : v.ty.Contents Val) {off : Fin s.rank → ℕ} (inb : ∀ a, off a + s.size a ≤ s.size a) (L : List (View.Piece Val s e))
    {w w' : s.Idx → Val e} (h : w = w') : v.read Val (v.writes Val f (⟨Rect.unit off s.size inb, w⟩ :: L)) = w' :=
  (View.read_writes_full v f inb w L).trans h
/-- The reference's body. -/
theorem bodyRun (c : Dev nD) (arg0 : Memref sig .tc .vmem S2x16384x8192 .fp8e4m3) (harg0 : arg0.IsWhole) (arg1 : Memref sig .tc .vmem S2x16384x64 .f32) (harg1 : arg1.IsWhole) (arg2 : Memref sig .tc .vmem S2x16384x8192 .fp8e4m3) (harg2 : arg2.IsWhole) (arg3 : Memref sig .tc .vmem S2x16384x64 .f32) (harg3 : arg3.IsWhole) (arg4 : Memref sig .tc .vmem S2x16384x16 .fp8e4m3) (harg4 : arg4.IsWhole) (arg5 : Memref sig .tc .vmem S2x16384 .f32) (harg5 : arg5.IsWhole) (arg6 : Memref sig .tc .vmem S2x16384x16 .fp8e4m3) (harg6 : arg6.IsWhole) (arg7 : Memref sig .tc .vmem S2x16384 .f32) (harg7 : arg7.IsWhole) (arg8 : Memref sig .tc .vmem S2x16384x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x16384x8192 .bf16) (harg12 : arg12.IsWhole) (arg13 : Memref sig .tc .vmem S2x8192x16 .f32) (harg13 : arg13.IsWhole) (arg14 : Memref sig .tc .vmem S2x16384x8192 .f32) (harg14 : arg14.IsWhole) (arg15 : Memref sig .tc .vmem S2x16384x8192 .f32) (harg15 : arg15.IsWhole) (arg16 : Memref sig .tc .vmem S2x16384x16 .f32) (harg16 : arg16.IsWhole) (arg17 : Memref sig .tc .vmem S2x16384x16 .f32) (harg17 : arg17.IsWhole) (arg18 : Memref sig .tc .vmem S2x16384x8192 .f32) (harg18 : arg18.IsWhole) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (Q : sProp 𝕄) :
    (iprop(((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18))
      ∗ ((∃ (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty), (arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ ⌜Out (arg0.view.read (Elt Ideal) X0) (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10) (arg11.view.read (Elt Ideal) X11) (arg12.view.read (Elt Ideal) f12) (arg13.view.read (Elt Ideal) f13)⌝) -∗ Q)))
    ⊢ wp frame (wpE (defs₀ (F := Ideal)) Variants.none c none) Set.univ (cc0__reference_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => Q) := by
  iintro ⟨⟨H0, H1, H2, H3, H4, H5, H6, H7, H8, H9, H10, H11, H12, H13, H14, H15, H16, H17, H18⟩, HQ⟩
  sl_exec
  sl_step
  iapply HQ
  iexists _; iexists _; iexists _; iexists _; iexists _; iexists _; iexists _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  ipureintro
  rename_i acc
  have ht : Scf.trips k0_t1_loop.lb k0_t1_loop.ub k0_t1_loop.st = 16384 := by decide +kernel
  rw [ht] at hL5
  have hF := cnd_of (by decide) hL5
  clear hL5 hL4
  have e7 := congrArg₂ (k0_pay3 (F := Ideal)) (View.readAt_full arg0.view X0 inb_S2x16384x8192_S2x16384x8192_0_0_0) (View.readAt_full arg1.view X1 inb_S2x16384x64_S2x16384x64_0_0_0)
  have e15 := congrArg₂ (k0_pay4 (F := Ideal)) (View.readAt_full arg2.view X2 inb_S2x16384x8192_S2x16384x8192_0_0_0) (View.readAt_full arg3.view X3 inb_S2x16384x64_S2x16384x64_0_0_0)
  have e11 := View.readAt_full arg11.view X11 inb_S8192_S8192_0
  have e9 := View.readAt_full arg9.view X9 inb_S8192x16_S8192x16_0_0
  have h14 := whole_eq (Val := Elt Ideal) arg14.view arg14.view.junk inb_S2x16384x8192_S2x16384x8192_0_0_0 [] (congrArg₂ (k0_pay9 (F := Ideal)) e15 e11)
  have h15 := whole_eq (Val := Elt Ideal) arg15.view arg15.view.junk inb_S2x16384x8192_S2x16384x8192_0_0_0 [] (congr (congrArg₂ (k0_pay10 (F := Ideal)) e7 e15) e11)
  have h16 := whole_eq (Val := Elt Ideal) arg16.view arg16.view.junk inb_S2x16384x16_S2x16384x16_0_0_0 [] (congrArg₂ (k0_pay5 (F := Ideal)) (View.readAt_full arg4.view X4 inb_S2x16384x16_S2x16384x16_0_0_0) (View.readAt_full arg5.view X5 inb_S2x16384_S2x16384_0_0))
  have h17 := whole_eq (Val := Elt Ideal) arg17.view arg17.view.junk inb_S2x16384x16_S2x16384x16_0_0_0 [] (congrArg (k0_pay7 (F := Ideal)) (congrArg₂ (k0_pay6 (F := Ideal)) (View.readAt_full arg6.view X6 inb_S2x16384x16_S2x16384x16_0_0_0) (View.readAt_full arg7.view X7 inb_S2x16384_S2x16384_0_0)))
  refine ⟨acc, arg18.view.read (Elt Ideal) fL0, ?_, ?_, ?_⟩
  · rw [← h14, ← h15, ← h16, ← h17, ← e9]
    exact hF
  · refine (View.read_writes_full (Val := Elt Ideal) arg12.view X12 inb_S2x16384x8192_S2x16384x8192_0_0_0 _ []).trans ?_
    exact congr (congr (congrArg₂ (k0_pay1 (F := Ideal)) e7 (View.readAt_full arg8.view X8 inb_S2x16384x8192_S2x16384x8192_0_0_0)) (View.readAt_full arg18.view fL0 inb_S2x16384x8192_S2x16384x8192_0_0_0)) (View.readAt_full arg10.view X10 inb_S8192_S8192_0)
  · exact View.read_writes_full arg13.view X13 inb_S2x8192x16_S2x8192x16_0_0_0 _ []

end Cert.ReferenceIdeal.Value
-- ==== Proof.Value.RefRun.lean ====
module

public import proofs.«01_k».proof.Proof.Value.RefBody
public import proofs.«01_k».proof.Proof.Gen.ReferenceIdeal.Frame
public import Idealize.ShloMosaic.Lib.Pipeline.ValueKit
public import Idealize.ShloMosaic.Lib.Pipeline.Covers
@[expose] public section
set_option maxRecDepth 16384
noncomputable section
/-! The reference's run, with both results named. -/
namespace Cert.ReferenceIdeal.Value
open Cert.ReferenceIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.Rounds
open Idealize.SL.BI.BIBase Idealize.SL.BI.Laws Idealize.SL.ProofMode Idealize.SL.Sem
open Cert.Scan
local notation "𝕄" => MT nD τ sig Unit (Elt Ideal) ℕ (UR sig nD τ) ℕ

/-- The states after `k` steps, from the arguments. -/
def refSt (x0 : S2x16384x8192.Idx → EReal) (x1 : S2x16384x64.Idx → EReal) (x2 : S2x16384x8192.Idx → EReal) (x3 : S2x16384x64.Idx → EReal) (x4 : S2x16384x16.Idx → EReal) (x5 : S2x16384.Idx → EReal)
    (x9 : S8192x16.Idx → EReal) (x11 : S8192.Idx → EReal) (b n : ℕ) (d : Fin 8192) (hn : n < 16) (k : ℕ) : EReal :=
  stR x9 (k0_pay9 (F := Ideal) (k0_pay4 (F := Ideal) x2 x3) x11) (k0_pay10 (F := Ideal) (k0_pay3 (F := Ideal) x0 x1) (k0_pay4 (F := Ideal) x2 x3) x11) (k0_pay5 (F := Ideal) x4 x5) b n d k d.isLt hn
/-- The outputs, from the arguments. -/
def refY (x0 : S2x16384x8192.Idx → EReal) (x1 : S2x16384x64.Idx → EReal) (x2 : S2x16384x8192.Idx → EReal) (x3 : S2x16384x64.Idx → EReal) (x4 : S2x16384x16.Idx → EReal) (x5 : S2x16384.Idx → EReal)
    (x6 : S2x16384x16.Idx → EReal) (x7 : S2x16384.Idx → EReal) (x8 : S2x16384x8192.Idx → EReal) (x9 : S8192x16.Idx → EReal) (x10 x11 : S8192.Idx → EReal) : S2x16384x8192.Idx → EReal := fun ix =>
  ((∑ n : Fin 16, refSt x0 x1 x2 x3 x4 x5 x9 x11 (ix 0).val n.val (ix 2) n.isLt ((ix 1).val + 1) * rd (k0_pay7 (F := Ideal) (k0_pay6 (F := Ideal) x6 x7)) ![(ix 0).val, (ix 1).val, n.val])
    + x10 (ix1 (ix 2)) * k0_pay3 (F := Ideal) x0 x1 ix) * (x8 ix * Ideal.logistic (x8 ix))
/-- The last states, from the arguments. -/
def refH (x0 : S2x16384x8192.Idx → EReal) (x1 : S2x16384x64.Idx → EReal) (x2 : S2x16384x8192.Idx → EReal) (x3 : S2x16384x64.Idx → EReal) (x4 : S2x16384x16.Idx → EReal) (x5 : S2x16384.Idx → EReal)
    (x9 : S8192x16.Idx → EReal) (x11 : S8192.Idx → EReal) : S2x8192x16.Idx → EReal := fun ix =>
  refSt x0 x1 x2 x3 x4 x5 x9 x11 (ix 0).val (ix 2).val (ix 1) (ix 2).isLt 16384

theorem Out.vals {x0 : S2x16384x8192.Idx → EReal} {x1 : S2x16384x64.Idx → EReal} {x2 : S2x16384x8192.Idx → EReal} {x3 : S2x16384x64.Idx → EReal} {x4 : S2x16384x16.Idx → EReal} {x5 : S2x16384.Idx → EReal}
    {x6 : S2x16384x16.Idx → EReal} {x7 : S2x16384.Idx → EReal} {x8 : S2x16384x8192.Idx → EReal} {x9 : S8192x16.Idx → EReal} {x10 x11 : S8192.Idx → EReal} {Y : S2x16384x8192.Idx → EReal} {H : S2x8192x16.Idx → EReal}
    (h : Out x0 x1 x2 x3 x4 x5 x6 x7 x8 x9 x10 x11 Y H) : Y = refY x0 x1 x2 x3 x4 x5 x6 x7 x8 x9 x10 x11 ∧ H = refH x0 x1 x2 x3 x4 x5 x9 x11 := by
  obtain ⟨acc, ys, hF, hY, hH⟩ := h
  subst hY hH
  constructor
  · funext ix
    obtain ⟨b, T, d, rfl⟩ : ∃ (b : Fin 2) (T : Fin 16384) (d : Fin 8192), ix = ix3 b T d := ⟨_, _, _, eq_ix3 ix⟩
    have e : ys (ix3 b T d) = rd ys ![b.val, T.val, d.val] := eq_rd ys _ _ fun a => by
      match a with
      | ⟨0, _⟩ => rfl
      | ⟨1, _⟩ => rfl
      | ⟨2, _⟩ => rfl
    rw [pay1_apply, e, hF.out b d T.val T.isLt]
    rfl
  · funext ix
    obtain ⟨b, d, n, rfl⟩ : ∃ (b : Fin 2) (d : Fin 8192) (n : Fin 16), ix = ix3 b d n := ⟨_, _, _, eq_ix3 ix⟩
    rw [pay2_apply, hF.st b n d]
    rfl

variable (m : (ℓ : Loc nD τ sig) → Buf (Elt Ideal) ℓ) (ρ : Dev nD → PrngReg)
/-- The proof data of the region. -/
def dats (p : Fin 1) (c : Dev nD) : Dat τ (Elt Ideal) Unit ℕ (UR sig nD τ) ℕ (cfgs p) c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => refY (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | 13 => refH (iblk m c 0 t) (iblk m c 1 t) (iblk m c 2 t) (iblk m c 3 t) (iblk m c 4 t) (iblk m c 5 t) (iblk m c 9 t) (iblk m c 11 t)
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_12 (c : Dev nD) (t : Fin cfg0.N) : (dats m 0 c).after 12 t = refY (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = refH (iblk m c 0 t) (iblk m c 1 t) (iblk m c 2 t) (iblk m c 3 t) (iblk m c 4 t) (iblk m c 5 t) (iblk m c 9 t) (iblk m c 11 t) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
/-- What the library hands the body. -/
def bodyPre (c : Dev nD) (t : Fin cfg0.N) : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))
/-- What the body hands back. -/
def bodyPost (c : Dev nD) (t : Fin cfg0.N) : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t))

set_option maxHeartbeats 1600000 in
/-- The body, from what the library hands it to what it hands back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦA spec0 c from rfl]
  unfold Pipeline.ΦA Dat.owesAt Pipeline.owesWithin
  rw [scopedRest0_eq]
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, after0_12, after0_13]
  unfold owns
  iintro ⟨⟨⟨⟨%s0, HS0⟩, ⟨%s1, HS1⟩, ⟨%s2, HS2⟩, ⟨%s3, HS3⟩, ⟨%s4, HS4⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩⟩
  iapply (bodyRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (win0_13.stage (cfg0.slots t 13)) (hstage0_13 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5 f6 f7 f8 f9 f10 f11 f12 f13 s0 s1 s2 s3 s4 _)
  simp only [Memref.view_whole, View.set_whole]
  isplitl [H0 H1 H2 H3 H4 H5 H6 H7 H8 H9 H10 H11 H12 H13 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    iexact HS4
  iintro ⟨%g12, %g13, %g14, %g15, %g16, %g17, %g18, H0, H1, H2, H3, H4, H5, H6, H7, H8, H9, H10, H11, H12, H13, HS0, HS1, HS2, HS3, HS4, %hP⟩
  have hst := Out.vals (by
    rw [e0, e1, e2, e3, e4, e5, e6, e7, e8, e9, e10, e11] at hP
    exact hP)
  isplitl [Hg HS0 HS1 HS2 HS3 HS4]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg
  isplitl [HW]; · iexact HW
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  isplitl [H10]; · iexists _; isplitr; swap; (· iexact H10); ipureintro; exact e10
  isplitl [H11]; · iexists _; isplitr; swap; (· iexact H11); ipureintro; exact e11
  isplitl [H12]; · iexists _; isplitr; swap; (· iexact H12); ipureintro; exact hst.1
  iexists _; isplitr; swap; (· iexact H13); ipureintro; exact hst.2

/-- The body table's row is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]
/-- The library's body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run of the whole program. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
end Cert.ReferenceIdeal.Value
-- ==== Proof.Value.Link.lean ====
module

public import proofs.«01_k».proof.Proof.Value.Eqs
public import proofs.«01_k».proof.Proof.Value.RefRun
@[expose] public section
set_option maxRecDepth 16384
noncomputable section
/-! The kernel's scan and the reference's, of the same arguments. -/
namespace Cert.Link
open Idealize.ShloMosaic Idealize.ShloMosaic.TcCoe Idealize.ShloMosaic.Tactic
open Cert.Scan
open Cert.KernelIdeal.Value (Args aE zE softE gateE softE_eq gateE_eq dot16_eq exp2_aE zE_eq)
open Cert.ReferenceIdeal.Value
open Cert.ReferenceIdeal (S2x16384x8192 S2x16384x64 S2x16384x16 S2x16384 S8192x16 S8192 S2x8192x16)
open Cert.ReferenceIdeal.Gen (k0_pay3 k0_pay4 k0_pay5 k0_pay6 k0_pay7 k0_pay9 k0_pay10)

theorem rd3 {V : Type} {p q r : ℕ} [Pos (⟨3, ![p, q, r]⟩ : Shape)] (x : (⟨3, ![p, q, r]⟩ : Shape).Idx → V) (i : Fin p) (j : Fin q) (k : Fin r) : rd x ![i.val, j.val, k.val] = x (ix3 i j k) :=
  (eq_rd x (ix3 i j k) ![i.val, j.val, k.val] fun a => by
    match a with
    | ⟨0, _⟩ => rfl
    | ⟨1, _⟩ => rfl
    | ⟨2, _⟩ => rfl).symm
theorem rd2 {V : Type} {p q : ℕ} [Pos (⟨2, ![p, q]⟩ : Shape)] (x : (⟨2, ![p, q]⟩ : Shape).Idx → V) (i : Fin p) (j : Fin q) : rd x ![i.val, j.val] = x (ix2 i j) :=
  (eq_rd x (ix2 i j) ![i.val, j.val] fun a => by
    match a with
    | ⟨0, _⟩ => rfl
    | ⟨1, _⟩ => rfl).symm
theorem rd1 {V : Type} {p : ℕ} [Pos (⟨1, ![p]⟩ : Shape)] (x : (⟨1, ![p]⟩ : Shape).Idx → V) (i : Fin p) : rd x ![i.val] = x (ix1 i) :=
  (eq_rd x (ix1 i) ![i.val] fun a => by
    match a with
    | ⟨0, _⟩ => rfl).symm

theorem hs_hR (al : EReal) {δ u b δ' u' b' : ℕ → EReal} (n : ℕ) (e : ∀ t, t < n → δ t = δ' t ∧ u t = u' t ∧ b t = b' t) :
    hs (aE al) zE δ u b n = hR al δ' u' b' n := by
  induction n with
  | zero => exact zE_eq
  | succ n ih =>
    show Ideal.exp2 (δ n * aE al) * hs (aE al) zE δ u b n + u n * b n = Ideal.exp (δ' n * (0 - Ideal.exp al)) * hR al δ' u' b' n + u' n * b' n
    obtain ⟨e1, e2, e3⟩ := e n (Nat.lt_succ_self n)
    rw [exp2_aE, ih fun t ht => e t (Nat.lt_succ_of_lt ht), e1, e2, e3]

variable (I : Args) (b : Fin 2) (d : Fin 8192)
theorem xq_eq (T : Fin 16384) : I.xq b d T = k0_pay3 (F := Ideal) I.X I.Xs (ix3 b T d) := by
  have h : rd I.Xs ![b.val, T.val, d.val / 128] = I.Xs (ix3 b T ⟨d.val / 128, by omega⟩) := rd3 I.Xs b T ⟨d.val / 128, by omega⟩
  rw [pay3_apply]
  unfold Args.xq
  rw [h, rd3 I.X b T d]
theorem tq_eq (T : Fin 16384) : I.tq b d T = k0_pay4 (F := Ideal) I.Dt I.Ds (ix3 b T d) := by
  have h : rd I.Ds ![b.val, T.val, d.val / 128] = I.Ds (ix3 b T ⟨d.val / 128, by omega⟩) := rd3 I.Ds b T ⟨d.val / 128, by omega⟩
  rw [pay4_apply]
  unfold Args.tq
  rw [h, rd3 I.Dt b T d]
theorem dl_eq (T : Fin 16384) : I.dl b d T = softR (k0_pay4 (F := Ideal) I.Dt I.Ds (ix3 b T d) + I.Bi (ix1 d)) := by
  unfold Args.dl
  rw [softE_eq, tq_eq, rd1 I.Bi d]
  rfl
theorem bq_eq (n : Fin 16) (T : Fin 16384) : I.bq b n T = k0_pay5 (F := Ideal) I.B I.Bs (ix3 b T n) := by
  rw [pay5_apply]
  unfold Args.bq
  rw [rd3 I.B b T n, rd2 I.Bs b T]
theorem cq_eq (n : Fin 16) (T : Fin 16384) : I.cq b n T = k0_pay7 (F := Ideal) (k0_pay6 (F := Ideal) I.C I.Cs) (ix3 b T n) := by
  rw [pay67_apply]
  unfold Args.cq
  rw [rd3 I.C b T n, rd2 I.Cs b T]

/-- The states. -/
theorem st_eq (n : Fin 16) (k : ℕ) (hk : k ≤ 16384) : I.st b d n k = refSt I.X I.Xs I.Dt I.Ds I.B I.Bs I.Al I.Bi b n d n.isLt k := by
  unfold Args.st refSt stR
  rw [rd2 I.Al d n]
  refine hs_hR _ k fun t ht => ?_
  obtain ⟨T, rfl⟩ : ∃ T : Fin 16384, t = T.val := ⟨⟨t, by omega⟩, rfl⟩
  refine ⟨?_, ?_, ?_⟩
  · rw [dl_eq]
    exact ((rd3 (k0_pay9 (F := Ideal) (k0_pay4 (F := Ideal) I.Dt I.Ds) I.Bi) b T d).trans (pay9_apply _ _ b T d)).symm
  · rw [dl_eq, xq_eq]
    exact ((rd3 (k0_pay10 (F := Ideal) (k0_pay3 (F := Ideal) I.X I.Xs) (k0_pay4 (F := Ideal) I.Dt I.Ds) I.Bi) b T d).trans (pay10_apply _ _ _ b T d)).symm
  · rw [bq_eq]
    exact (rd3 (k0_pay5 (F := Ideal) I.B I.Bs) b T n).symm

/-- The outputs. -/
theorem yv_eq (T : Fin 16384) : I.yv b d T = refY I.X I.Xs I.Dt I.Ds I.B I.Bs I.C I.Cs I.Z I.Al I.D I.Bi (ix3 b T d) := by
  unfold Args.yv refY
  rw [gateE_eq, dot16_eq, xq_eq, rd1 I.D d, rd3 I.Z b T d]
  have e : (∑ n : Fin 16, I.st b d n (T.val + 1) * I.cq b n T)
      = ∑ n : Fin 16, refSt I.X I.Xs I.Dt I.Ds I.B I.Bs I.Al I.Bi b.val n.val d n.isLt (T.val + 1) * rd (k0_pay7 (F := Ideal) (k0_pay6 (F := Ideal) I.C I.Cs)) ![b.val, T.val, n.val] :=
    Finset.sum_congr rfl fun n _ => by
      rw [st_eq I b d n (T.val + 1) (by omega), cq_eq]
      exact congrArg _ (rd3 (k0_pay7 (F := Ideal) (k0_pay6 (F := Ideal) I.C I.Cs)) b T n).symm
  rw [e]
  rfl
end Cert.Link
-- ==== Proof.Value.ScanLoop1.lean ====
module

public import proofs.«01_k».proof.Proof.Value.ScanLoop0
@[expose] public section
set_option maxRecDepth 16384
set_option maxHeartbeats 4000000
set_option sl_exec.squeezeSlice true
noncomputable section
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan

theorem k0_off101_lt (k : Fin k0_t3_loop.trips) : k.val < 32 := Nat.lt_of_lt_of_le k.isLt (by decide +kernel)
/-- The row that step `c` of trip `k` reads. -/
theorem k0_off101_eq (k : Fin k0_t3_loop.trips) (c : ℕ) (hc : c < 8) : k0_off101 k (BitVec.ofNat 32 (c % 8)) = ![8 * k.val + c, 0] := by
  have h : ∀ (k : Fin k0_t3_loop.trips) (c : Fin 8), k0_off101 k (BitVec.ofNat 32 c.val) = ![8 * k.val + c.val, 0] := by decide +kernel
  rw [Nat.mod_eq_of_lt hc]
  exact h k ⟨c, hc⟩
theorem k0_off101_row (k : Fin k0_t3_loop.trips) (c : ℕ) : k0_off101 k (BitVec.ofNat 32 (c % 8)) 0 < 256 := by
  have h := k0_off101_eq k (c % 8) (Nat.mod_lt _ (by decide))
  rw [Nat.mod_mod] at h
  rw [h]
  have := k0_off101_lt k
  show 8 * k.val + c % 8 < 256; omega
/-- The scan loop `k0_t3`. -/
@[sl_loop] noncomputable def loopInv_k0_t3 (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole) (v173 : FVec Ideal S8x128 .f32) (v176 : FVec Ideal S8x128 .f32) (v179 : FVec Ideal S8x128 .f32) (v182 : FVec Ideal S8x128 .f32) (v185 : FVec Ideal S8x128 .f32) (v188 : FVec Ideal S8x128 .f32) (v191 : FVec Ideal S8x128 .f32) (v194 : FVec Ideal S8x128 .f32) (v197 : FVec Ideal S8x128 .f32) (v200 : FVec Ideal S8x128 .f32) (v203 : FVec Ideal S8x128 .f32) (v206 : FVec Ideal S8x128 .f32) (v209 : FVec Ideal S8x128 .f32) (v212 : FVec Ideal S8x128 .f32) (v215 : FVec Ideal S8x128 .f32) (v218 : FVec Ideal S8x128 .f32) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (f0 : BufTy.Contents (Elt Ideal) arg22.view.ty) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32) :
    LoopTy_k0_t3 (F := Ideal) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 v173 v176 v179 v182 v185 v188 v191 v194 v197 v200 v203 v206 v209 v212 v215 v218 v173 v173 v173 v173 v173 v173 v173 v173 v173 v173 v173 v173 v173 v173 init where
  inv := fun k acc => iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, (arg22.view.loc (c : Thread nD τ) ↦[arg22.view.set]{fullShare} f) ∗ ⌜f = sel k f0 f⌝ ∗ ⌜acc = sel k init acc⌝ ∗ ⌜cnd k (Fact 1 (arg18.view.read (Elt Ideal) X18) (arg19.view.read (Elt Ideal) X19) (arg20.view.read (Elt Ideal) X20) (arg21.view.read (Elt Ideal) X21) (arg22.view.read (Elt Ideal) f0) ![v173, v176, v179, v182, v185, v188, v191, v194, v197, v200, v203, v206, v209, v212, v215, v218] (lst init) k (lst acc) (arg22.view.read (Elt Ideal) f)) = True⌝))
  step := fun k acc => by
    obtain ⟨w0,w1,w2,w3,w4,w5,w6,w7,w8,w9,w10,w11,w12,w13,w14,w15⟩ := acc
    have hk : k.val < 32 := Nat.lt_of_lt_of_le k.isLt (by decide +kernel)
    unfold k0_t3_body
    iintro ⟨H18, H19, H20, H21, ⟨%f22, H22, %he, %ha, %hf⟩⟩
    replace hf := cnd_use (P := fun k => Fact 1 (arg18.view.read (Elt Ideal) X18) (arg19.view.read (Elt Ideal) X19) (arg20.view.read (Elt Ideal) X20) (arg21.view.read (Elt Ideal) X21) (arg22.view.read (Elt Ideal) f0) ![v173, v176, v179, v182, v185, v188, v191, v194, v197, v200, v203, v206, v209, v212, v215, v218] (lst init) k (lst (w0,w1,w2,w3,w4,w5,w6,w7,w8,w9,w10,w11,w12,w13,w14,w15)) (arg22.view.read (Elt Ideal) f22)) (by intro h; rw [h] at ha he; rw [show f22 = f0 from he, ha]; rw [h]; exact Fact.zero ..) hf
    sl_exec
    sl_step
    isplitl [H18]; · iexact H18
    isplitl [H19]; · iexact H19
    isplitl [H20]; · iexact H20
    isplitl [H21]; · iexact H21
    iexists _; isplitl [H22]; (· iexact H22)
    isplitr; (· ipureintro; rfl)
    isplitr; (· ipureintro; rfl)
    ipureintro
    refine eq_true (Fact.step (k := k.val) hk hf (fun c => ldRow arg20.view X20 ![1, 0, 0] inb_S2x2080x128_S1x2080x128_1_0_0 (k0_off101 k (BitVec.ofNat 32 (c % 8))) (k0_off101_inb k ⟨c % 8, Nat.mod_lt _ (by decide)⟩)) (fun c => ldRow arg21.view X21 ![1, 0, 0] inb_S2x2080x128_S1x2080x128_1_0_0 (k0_off101 k (BitVec.ofNat 32 (c % 8))) (k0_off101_inb k ⟨c % 8, Nat.mod_lt _ (by decide)⟩)) (fun n c => broadcastTo RowS (shapeCast LaneS (shapeCast LaneS (View.readAt (Elt Ideal) arg18.view (Rect.unit (s := SplatS) ![n.val, k0_off101 k (BitVec.ofNat 32 (c % 8)) 0, 0] OneS.size (splat_inb n _ (k0_off101_row k c))).toLoadRect X18 : Vec Ideal OneS .f32) shapeCasts_S1x1x128_S1x128) shapeCasts_S1x128_S1x128) broadcasts_S1x128_S8x128) (fun n c => broadcastTo RowS (shapeCast LaneS (shapeCast LaneS (View.readAt (Elt Ideal) arg19.view (Rect.unit (s := SplatS) ![n.val, k0_off101 k (BitVec.ofNat 32 (c % 8)) 0, 0] OneS.size (splat_inb n _ (k0_off101_row k c))).toLoadRect X19 : Vec Ideal OneS .f32) shapeCasts_S1x1x128_S1x128) shapeCasts_S1x128_S1x128) broadcasts_S1x128_S8x128) ?_ ?_ ?_ ?_ ?_ ?_ (by decide))
    · exact fun c hc g l => str_load _ _ rfl _ (k0_off101_eq k c hc) _ _ _ _ _ g l
    · exact fun c hc g l => str_load _ _ rfl _ (k0_off101_eq k c hc) _ _ _ _ _ g l
    · exact fun n c hc g l => splat_apply _ _ (splat_eq n (k0_off101_eq k c hc)) _ _ _ _ g l
    · exact fun n c hc g l => splat_apply _ _ (splat_eq n (k0_off101_eq k c hc)) _ _ _ _ g l
    · intro n
      have h16 := n.isLt
      match n with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => rfl
      | ⟨9, _⟩ => rfl
      | ⟨10, _⟩ => rfl
      | ⟨11, _⟩ => rfl
      | ⟨12, _⟩ => rfl
      | ⟨13, _⟩ => rfl
      | ⟨14, _⟩ => rfl
      | ⟨15, _⟩ => rfl
      | ⟨n + 16, h⟩ => exact absurd h (by omega)
    · intro q g l s hq hs
      have e := stores8 arg22.view f22 (p := 1) (r := 8 * k.val) (po := ![1, 0, 0]) rfl inb_S2x2080x128_S1x2080x128_1_0_0 (fun c => k0_off101 k (BitVec.ofNat 32 (c % 8))) (k0_off101_eq k) (by omega)
        (fun c => k0_off101_inb k ⟨c % 8, Nat.mod_lt _ (by decide)⟩) spos_260_1 (out8 ![v173, v176, v179, v182, v185, v188, v191, v194, v197, v200, v203, v206, v209, v212, v215, v218] (lst (w0, w1, w2, w3, w4, w5, w6, w7, w8, w9, w10, w11, w12, w13, w14, w15)) (fun c => ldRow arg20.view X20 ![1, 0, 0] inb_S2x2080x128_S1x2080x128_1_0_0 (k0_off101 k (BitVec.ofNat 32 (c % 8))) (k0_off101_inb k ⟨c % 8, Nat.mod_lt _ (by decide)⟩)) (fun c => ldRow arg21.view X21 ![1, 0, 0] inb_S2x2080x128_S1x2080x128_1_0_0 (k0_off101 k (BitVec.ofNat 32 (c % 8))) (k0_off101_inb k ⟨c % 8, Nat.mod_lt _ (by decide)⟩)) (fun n c => broadcastTo RowS (shapeCast LaneS (shapeCast LaneS (View.readAt (Elt Ideal) arg18.view (Rect.unit (s := SplatS) ![n.val, k0_off101 k (BitVec.ofNat 32 (c % 8)) 0, 0] OneS.size (splat_inb n _ (k0_off101_row k c))).toLoadRect X18 : Vec Ideal OneS .f32) shapeCasts_S1x1x128_S1x128) shapeCasts_S1x128_S1x128) broadcasts_S1x128_S8x128) (fun n c => broadcastTo RowS (shapeCast LaneS (shapeCast LaneS (View.readAt (Elt Ideal) arg19.view (Rect.unit (s := SplatS) ![n.val, k0_off101 k (BitVec.ofNat 32 (c % 8)) 0, 0] OneS.size (splat_inb n _ (k0_off101_row k c))).toLoadRect X19 : Vec Ideal OneS .f32) shapeCasts_S1x1x128_S1x128) shapeCasts_S1x128_S1x128) broadcasts_S1x128_S8x128)) q s g l hq hs
      refine Eq.trans (congrArg (fun L => prow (arg22.view.read (Elt Ideal) (arg22.view.writes (Elt Ideal) f22 L)) q g l s) ?_) e
      clear e
      refine congrArg₂ List.cons ?p7 (congrArg₂ List.cons ?p6 (congrArg₂ List.cons ?p5 (congrArg₂ List.cons ?p4 (congrArg₂ List.cons ?p3 (congrArg₂ List.cons ?p2 (congrArg₂ List.cons ?p1 (congrArg₂ List.cons ?p0 rfl)))))))
      case p7 => rfl
      case p6 => rfl
      case p5 => rfl
      case p4 => rfl
      case p3 => rfl
      case p2 => rfl
      case p1 => rfl
      case p0 => rfl
end Cert.KernelIdeal.Value
-- ==== Proof.Value.Offs.lean ====
module

public import proofs.«01_k».proof.Proof.Gen.KernelIdeal.Frame
public import proofs.«01_k».proof.Proof.Gen.KernelIdeal.Skeleton
@[expose] public section
/-! The offsets at which a grid point reads its coefficients and its states, in closed form; and the two conditions of the body. -/
namespace Cert.KernelIdeal.Value
open Cert.KernelIdeal.Gen
open Idealize.ShloMosaic

theorem aoff_0_0 (i : grid0.Coords) : k0_off20 i = ![(i 2).val, 0, 0, 0, 0] := by
  unfold k0_off20; generalize i 2 = k; revert k; decide +kernel
theorem hoff_0_0 (i : grid0.Coords) : k0_off36 i = ![0, (i 2).val, 0, 0, 0, 0] := by
  unfold k0_off36; generalize i 2 = k; revert k; decide +kernel
theorem aoff_0_1 (i : grid0.Coords) : k0_off21 i = ![(i 2).val, 0, 1, 0, 0] := by
  unfold k0_off21; generalize i 2 = k; revert k; decide +kernel
theorem hoff_0_1 (i : grid0.Coords) : k0_off37 i = ![0, (i 2).val, 0, 1, 0, 0] := by
  unfold k0_off37; generalize i 2 = k; revert k; decide +kernel
theorem aoff_0_2 (i : grid0.Coords) : k0_off22 i = ![(i 2).val, 0, 2, 0, 0] := by
  unfold k0_off22; generalize i 2 = k; revert k; decide +kernel
theorem hoff_0_2 (i : grid0.Coords) : k0_off38 i = ![0, (i 2).val, 0, 2, 0, 0] := by
  unfold k0_off38; generalize i 2 = k; revert k; decide +kernel
theorem aoff_0_3 (i : grid0.Coords) : k0_off23 i = ![(i 2).val, 0, 3, 0, 0] := by
  unfold k0_off23; generalize i 2 = k; revert k; decide +kernel
theorem hoff_0_3 (i : grid0.Coords) : k0_off39 i = ![0, (i 2).val, 0, 3, 0, 0] := by
  unfold k0_off39; generalize i 2 = k; revert k; decide +kernel
theorem aoff_0_4 (i : grid0.Coords) : k0_off24 i = ![(i 2).val, 0, 4, 0, 0] := by
  unfold k0_off24; generalize i 2 = k; revert k; decide +kernel
theorem hoff_0_4 (i : grid0.Coords) : k0_off40 i = ![0, (i 2).val, 0, 4, 0, 0] := by
  unfold k0_off40; generalize i 2 = k; revert k; decide +kernel
theorem aoff_0_5 (i : grid0.Coords) : k0_off25 i = ![(i 2).val, 0, 5, 0, 0] := by
  unfold k0_off25; generalize i 2 = k; revert k; decide +kernel
theorem hoff_0_5 (i : grid0.Coords) : k0_off41 i = ![0, (i 2).val, 0, 5, 0, 0] := by
  unfold k0_off41; generalize i 2 = k; revert k; decide +kernel
theorem aoff_0_6 (i : grid0.Coords) : k0_off26 i = ![(i 2).val, 0, 6, 0, 0] := by
  unfold k0_off26; generalize i 2 = k; revert k; decide +kernel
theorem hoff_0_6 (i : grid0.Coords) : k0_off42 i = ![0, (i 2).val, 0, 6, 0, 0] := by
  unfold k0_off42; generalize i 2 = k; revert k; decide +kernel
theorem aoff_0_7 (i : grid0.Coords) : k0_off27 i = ![(i 2).val, 0, 7, 0, 0] := by
  unfold k0_off27; generalize i 2 = k; revert k; decide +kernel
theorem hoff_0_7 (i : grid0.Coords) : k0_off43 i = ![0, (i 2).val, 0, 7, 0, 0] := by
  unfold k0_off43; generalize i 2 = k; revert k; decide +kernel
theorem aoff_0_8 (i : grid0.Coords) : k0_off28 i = ![(i 2).val, 0, 8, 0, 0] := by
  unfold k0_off28; generalize i 2 = k; revert k; decide +kernel
theorem hoff_0_8 (i : grid0.Coords) : k0_off44 i = ![0, (i 2).val, 0, 8, 0, 0] := by
  unfold k0_off44; generalize i 2 = k; revert k; decide +kernel
theorem aoff_0_9 (i : grid0.Coords) : k0_off29 i = ![(i 2).val, 0, 9, 0, 0] := by
  unfold k0_off29; generalize i 2 = k; revert k; decide +kernel
theorem hoff_0_9 (i : grid0.Coords) : k0_off45 i = ![0, (i 2).val, 0, 9, 0, 0] := by
  unfold k0_off45; generalize i 2 = k; revert k; decide +kernel
theorem aoff_0_10 (i : grid0.Coords) : k0_off30 i = ![(i 2).val, 0, 10, 0, 0] := by
  unfold k0_off30; generalize i 2 = k; revert k; decide +kernel
theorem hoff_0_10 (i : grid0.Coords) : k0_off46 i = ![0, (i 2).val, 0, 10, 0, 0] := by
  unfold k0_off46; generalize i 2 = k; revert k; decide +kernel
theorem aoff_0_11 (i : grid0.Coords) : k0_off31 i = ![(i 2).val, 0, 11, 0, 0] := by
  unfold k0_off31; generalize i 2 = k; revert k; decide +kernel
theorem hoff_0_11 (i : grid0.Coords) : k0_off47 i = ![0, (i 2).val, 0, 11, 0, 0] := by
  unfold k0_off47; generalize i 2 = k; revert k; decide +kernel
theorem aoff_0_12 (i : grid0.Coords) : k0_off32 i = ![(i 2).val, 0, 12, 0, 0] := by
  unfold k0_off32; generalize i 2 = k; revert k; decide +kernel
theorem hoff_0_12 (i : grid0.Coords) : k0_off48 i = ![0, (i 2).val, 0, 12, 0, 0] := by
  unfold k0_off48; generalize i 2 = k; revert k; decide +kernel
theorem aoff_0_13 (i : grid0.Coords) : k0_off33 i = ![(i 2).val, 0, 13, 0, 0] := by
  unfold k0_off33; generalize i 2 = k; revert k; decide +kernel
theorem hoff_0_13 (i : grid0.Coords) : k0_off49 i = ![0, (i 2).val, 0, 13, 0, 0] := by
  unfold k0_off49; generalize i 2 = k; revert k; decide +kernel
theorem aoff_0_14 (i : grid0.Coords) : k0_off34 i = ![(i 2).val, 0, 14, 0, 0] := by
  unfold k0_off34; generalize i 2 = k; revert k; decide +kernel
theorem hoff_0_14 (i : grid0.Coords) : k0_off50 i = ![0, (i 2).val, 0, 14, 0, 0] := by
  unfold k0_off50; generalize i 2 = k; revert k; decide +kernel
theorem aoff_0_15 (i : grid0.Coords) : k0_off35 i = ![(i 2).val, 0, 15, 0, 0] := by
  unfold k0_off35; generalize i 2 = k; revert k; decide +kernel
theorem hoff_0_15 (i : grid0.Coords) : k0_off51 i = ![0, (i 2).val, 0, 15, 0, 0] := by
  unfold k0_off51; generalize i 2 = k; revert k; decide +kernel
theorem aoff_1_0 (i : grid0.Coords) : k0_off69 i = ![(i 2).val, 1, 0, 0, 0] := by
  unfold k0_off69; generalize i 2 = k; revert k; decide +kernel
theorem hoff_1_0 (i : grid0.Coords) : k0_off85 i = ![0, (i 2).val, 1, 0, 0, 0] := by
  unfold k0_off85; generalize i 2 = k; revert k; decide +kernel
theorem aoff_1_1 (i : grid0.Coords) : k0_off70 i = ![(i 2).val, 1, 1, 0, 0] := by
  unfold k0_off70; generalize i 2 = k; revert k; decide +kernel
theorem hoff_1_1 (i : grid0.Coords) : k0_off86 i = ![0, (i 2).val, 1, 1, 0, 0] := by
  unfold k0_off86; generalize i 2 = k; revert k; decide +kernel
theorem aoff_1_2 (i : grid0.Coords) : k0_off71 i = ![(i 2).val, 1, 2, 0, 0] := by
  unfold k0_off71; generalize i 2 = k; revert k; decide +kernel
theorem hoff_1_2 (i : grid0.Coords) : k0_off87 i = ![0, (i 2).val, 1, 2, 0, 0] := by
  unfold k0_off87; generalize i 2 = k; revert k; decide +kernel
theorem aoff_1_3 (i : grid0.Coords) : k0_off72 i = ![(i 2).val, 1, 3, 0, 0] := by
  unfold k0_off72; generalize i 2 = k; revert k; decide +kernel
theorem hoff_1_3 (i : grid0.Coords) : k0_off88 i = ![0, (i 2).val, 1, 3, 0, 0] := by
  unfold k0_off88; generalize i 2 = k; revert k; decide +kernel
theorem aoff_1_4 (i : grid0.Coords) : k0_off73 i = ![(i 2).val, 1, 4, 0, 0] := by
  unfold k0_off73; generalize i 2 = k; revert k; decide +kernel
theorem hoff_1_4 (i : grid0.Coords) : k0_off89 i = ![0, (i 2).val, 1, 4, 0, 0] := by
  unfold k0_off89; generalize i 2 = k; revert k; decide +kernel
theorem aoff_1_5 (i : grid0.Coords) : k0_off74 i = ![(i 2).val, 1, 5, 0, 0] := by
  unfold k0_off74; generalize i 2 = k; revert k; decide +kernel
theorem hoff_1_5 (i : grid0.Coords) : k0_off90 i = ![0, (i 2).val, 1, 5, 0, 0] := by
  unfold k0_off90; generalize i 2 = k; revert k; decide +kernel
theorem aoff_1_6 (i : grid0.Coords) : k0_off75 i = ![(i 2).val, 1, 6, 0, 0] := by
  unfold k0_off75; generalize i 2 = k; revert k; decide +kernel
theorem hoff_1_6 (i : grid0.Coords) : k0_off91 i = ![0, (i 2).val, 1, 6, 0, 0] := by
  unfold k0_off91; generalize i 2 = k; revert k; decide +kernel
theorem aoff_1_7 (i : grid0.Coords) : k0_off76 i = ![(i 2).val, 1, 7, 0, 0] := by
  unfold k0_off76; generalize i 2 = k; revert k; decide +kernel
theorem hoff_1_7 (i : grid0.Coords) : k0_off92 i = ![0, (i 2).val, 1, 7, 0, 0] := by
  unfold k0_off92; generalize i 2 = k; revert k; decide +kernel
theorem aoff_1_8 (i : grid0.Coords) : k0_off77 i = ![(i 2).val, 1, 8, 0, 0] := by
  unfold k0_off77; generalize i 2 = k; revert k; decide +kernel
theorem hoff_1_8 (i : grid0.Coords) : k0_off93 i = ![0, (i 2).val, 1, 8, 0, 0] := by
  unfold k0_off93; generalize i 2 = k; revert k; decide +kernel
theorem aoff_1_9 (i : grid0.Coords) : k0_off78 i = ![(i 2).val, 1, 9, 0, 0] := by
  unfold k0_off78; generalize i 2 = k; revert k; decide +kernel
theorem hoff_1_9 (i : grid0.Coords) : k0_off94 i = ![0, (i 2).val, 1, 9, 0, 0] := by
  unfold k0_off94; generalize i 2 = k; revert k; decide +kernel
theorem aoff_1_10 (i : grid0.Coords) : k0_off79 i = ![(i 2).val, 1, 10, 0, 0] := by
  unfold k0_off79; generalize i 2 = k; revert k; decide +kernel
theorem hoff_1_10 (i : grid0.Coords) : k0_off95 i = ![0, (i 2).val, 1, 10, 0, 0] := by
  unfold k0_off95; generalize i 2 = k; revert k; decide +kernel
theorem aoff_1_11 (i : grid0.Coords) : k0_off80 i = ![(i 2).val, 1, 11, 0, 0] := by
  unfold k0_off80; generalize i 2 = k; revert k; decide +kernel
theorem hoff_1_11 (i : grid0.Coords) : k0_off96 i = ![0, (i 2).val, 1, 11, 0, 0] := by
  unfold k0_off96; generalize i 2 = k; revert k; decide +kernel
theorem aoff_1_12 (i : grid0.Coords) : k0_off81 i = ![(i 2).val, 1, 12, 0, 0] := by
  unfold k0_off81; generalize i 2 = k; revert k; decide +kernel
theorem hoff_1_12 (i : grid0.Coords) : k0_off97 i = ![0, (i 2).val, 1, 12, 0, 0] := by
  unfold k0_off97; generalize i 2 = k; revert k; decide +kernel
theorem aoff_1_13 (i : grid0.Coords) : k0_off82 i = ![(i 2).val, 1, 13, 0, 0] := by
  unfold k0_off82; generalize i 2 = k; revert k; decide +kernel
theorem hoff_1_13 (i : grid0.Coords) : k0_off98 i = ![0, (i 2).val, 1, 13, 0, 0] := by
  unfold k0_off98; generalize i 2 = k; revert k; decide +kernel
theorem aoff_1_14 (i : grid0.Coords) : k0_off83 i = ![(i 2).val, 1, 14, 0, 0] := by
  unfold k0_off83; generalize i 2 = k; revert k; decide +kernel
theorem hoff_1_14 (i : grid0.Coords) : k0_off99 i = ![0, (i 2).val, 1, 14, 0, 0] := by
  unfold k0_off99; generalize i 2 = k; revert k; decide +kernel
theorem aoff_1_15 (i : grid0.Coords) : k0_off84 i = ![(i 2).val, 1, 15, 0, 0] := by
  unfold k0_off84; generalize i 2 = k; revert k; decide +kernel
theorem hoff_1_15 (i : grid0.Coords) : k0_off100 i = ![0, (i 2).val, 1, 15, 0, 0] := by
  unfold k0_off100; generalize i 2 = k; revert k; decide +kernel
/-- The first point of a batch. -/
abbrev First (i : grid0.Coords) : Prop := (i 1).val = 0 ∧ (i 2).val = 0
end Cert.KernelIdeal.Value
-- ==== Proof.Value.Body.lean ====
module

public import proofs.«01_k».proof.Proof.Value.ScanLoop1
public import proofs.«01_k».proof.Proof.Value.Point
public import proofs.«01_k».proof.Proof.Value.Offs
@[expose] public section
set_option maxRecDepth 16384
set_option maxHeartbeats 4000000
set_option sl_exec.squeezeSlice true
noncomputable section
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Scan
local notation "𝕄" => MT nD τ sig Unit (Elt Ideal) ℕ (UR sig nD τ) ℕ
/-- Piece `16 p + n` of thirty-two is number `n` of half `p`. -/
theorem pick (f : Fin 2 → Fin 16 → VV) (p : Fin 2) (n : Fin 16) (h) (h') : f ⟨(16 * p.val + n.val) / 16 % 2, h⟩ ⟨(16 * p.val + n.val) % 16, h'⟩ = f p n :=
  congrArg₂ f (Fin.ext (by show (16 * p.val + n.val) / 16 % 2 = p.val; have := p.isLt; have := n.isLt; omega)) (Fin.ext (by show (16 * p.val + n.val) % 16 = n.val; have := n.isLt; omega))
theorem bs_inb (c : ℕ) : ∀ b, (![0, 0, 128 * (c % 2)] : Fin 3 → ℕ) b + S1x1x128.size b ≤ BsS.size b := fun b => by
  match b with
  | ⟨0, _⟩ => show 0 + 1 ≤ 1; omega
  | ⟨1, _⟩ => show 0 + 1 ≤ 1; omega
  | ⟨2, _⟩ => show 128 * (c % 2) + 128 ≤ 256; omega
theorem bc_inb (c : ℕ) : ∀ b, (![0, 128 * (c % 2), 0] : Fin 3 → ℕ) b + S1x128x16.size b ≤ BcS.size b := fun b => by
  match b with
  | ⟨0, _⟩ => show 0 + 1 ≤ 1; omega
  | ⟨1, _⟩ => show 128 * (c % 2) + 128 ≤ 256; omega
  | ⟨2, _⟩ => show 0 + 16 ≤ 16; omega
set_option maxHeartbeats 16000000
/-- One grid point of the body, from any contents to what it leaves. -/
theorem bodyRun (c : Dev nD) (i : grid0.Coords) (arg3 : Memref sig .tc .vmem S1x256x2048 .fp8e4m3) (harg3 : arg3.IsWhole) (arg4 : Memref sig .tc .vmem S1x256x64 .f32) (harg4 : arg4.IsWhole) (arg5 : Memref sig .tc .vmem S1x256x2048 .fp8e4m3) (harg5 : arg5.IsWhole) (arg6 : Memref sig .tc .vmem S1x256x64 .f32) (harg6 : arg6.IsWhole) (arg7 : Memref sig .tc .vmem S1x256x16 .fp8e4m3) (harg7 : arg7.IsWhole) (arg8 : Memref sig .tc .vmem S1x1x256 .f32) (harg8 : arg8.IsWhole) (arg9 : Memref sig .tc .vmem S1x256x16 .fp8e4m3) (harg9 : arg9.IsWhole) (arg10 : Memref sig .tc .vmem S1x1x256 .f32) (harg10 : arg10.IsWhole) (arg11 : Memref sig .tc .vmem S1x256x2048 .bf16) (harg11 : arg11.IsWhole) (arg12 : Memref sig .tc .vmem S4x2x16x8x128 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x256x2048 .bf16) (harg15 : arg15.IsWhole) (arg16 : Memref sig .tc .vmem S1x4x2x16x8x128 .f32) (harg16 : arg16.IsWhole) (arg17 : Memref sig .tc .vmem S4x2x16x8x128 .f32) (harg17 : arg17.IsWhole) (arg18 : Memref sig .tc .vmem S16x256x128 .f32) (harg18 : arg18.IsWhole) (arg19 : Memref sig .tc .vmem S16x256x128 .f32) (harg19 : arg19.IsWhole) (arg20 : Memref sig .tc .vmem S2x2080x128 .f32) (harg20 : arg20.IsWhole) (arg21 : Memref sig .tc .vmem S2x2080x128 .f32) (harg21 : arg21.IsWhole) (arg22 : Memref sig .tc .vmem S2x2080x128 .f32) (harg22 : arg22.IsWhole)  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty) (Q : sProp 𝕄) :
    (iprop(((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22)) ∗ ((∃ f15 f16 f17 f18 f19 f20 f21 f22, (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ ⌜PointFact (i 2) (First i) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10) (arg11.view.read (Elt Ideal) X11) (arg12.view.read (Elt Ideal) X12) (arg13.view.read (Elt Ideal) X13) (arg14.view.read (Elt Ideal) X14) (arg16.view.read (Elt Ideal) X16) (arg17.view.read (Elt Ideal) X17) (arg18.view.read (Elt Ideal) X18) (arg19.view.read (Elt Ideal) X19) (arg15.view.read (Elt Ideal) f15) (arg16.view.read (Elt Ideal) f16) (arg17.view.read (Elt Ideal) f17) (arg18.view.read (Elt Ideal) f18) (arg19.view.read (Elt Ideal) f19)⌝) -∗ Q)) : sProp 𝕄) ⊢ wp frame (wpE (defs₀ (F := Ideal)) Variants.none c none) Set.univ (cc0__body (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => Q) := by
  iintro ⟨⟨H3, H4, H5, H6, H7, H8, H9, H10, H11, H12, H13, H14, H15, H16, H17, H18, H19, H20, H21, H22⟩, HQ⟩
  sl_exec
  rename_i u1 acc0 acc1 u2
  sl_step
  iapply HQ
  iexists _; iexists _; iexists _; iexists _; iexists _; iexists _; iexists _; iexists _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  ipureintro
  have c4 : bodyRun.sl.v4 i = 1#1 ↔ First i := by
    delta bodyRun.sl.v4 bodyRun.sl.v3 bodyRun.sl.v2 bodyRun.sl.v1 bodyRun.sl.v0
    unfold First
    generalize i 1 = b
    generalize i 2 = k
    revert b k
    decide +kernel
  have c7 : bodyRun.sl.v7 i = 1#1 ↔ (i 2).val = 0 := by
    delta bodyRun.sl.v7 bodyRun.sl.v6 bodyRun.sl.v1
    generalize i 2 = k
    revert k
    decide +kernel
  refine PointFact.of (a := i 2) (first := First i) (cnd_of (by decide) hL5) (cnd_of (by decide) hL13) (cnd_of (by decide) hL22) (cnd_of (by decide) hL28) ?hA (H0 := arg16.view.read (Elt Ideal) (if hc : bodyRun.sl.v4 i = 1#1 then arg16.view.writes (Elt Ideal) X16 [⟨Rect.unit (s := HsS) ![0, 0, 0, 0, 0, 0] HsS.size (by decide), k0_pay680 (F := Ideal)⟩] else X16)) ?hH0 ?hB ?hC ?ha0 ?ha1 ?hh0 ?hh1 ?hw (by decide) (by decide) (by decide) (by decide)
  case hA =>
    by_cases h : bodyRun.sl.v4 i = 1#1
    · rw [dif_pos h, if_pos (c4.mp h)]
      refine (whole_write arg17.view X17 (fun b => by fin_cases b <;> rfl) _ _).trans ?_
      exact congrArg (k0_pay679 (F := Ideal)) (whole_load arg12.view X12 (fun b => by fin_cases b <;> rfl) _)
    · rw [dif_neg h, if_neg fun h' => h (c4.mpr h')]
  case hH0 =>
    by_cases h : bodyRun.sl.v4 i = 1#1
    · rw [if_pos (c4.mp h)]
      refine Eq.trans (congrArg (View.read (Elt Ideal) arg16.view) (dif_pos h)) ?_
      exact whole_write arg16.view X16 (fun b => by fin_cases b <;> rfl) _ _
    · rw [if_neg fun h' => h (c4.mpr h')]
      exact congrArg (View.read (Elt Ideal) arg16.view) (dif_neg h)
  case hB =>
    intro n s l hs
    have hn := n.isLt
    by_cases h : bodyRun.sl.v7 i = 1#1
    · rw [dif_pos h, if_pos (c7.mp h)]
      refine Eq.trans (congrArg (fun L => rd (View.read (Elt Ideal) arg18.view (arg18.view.writes (Elt Ideal) X18 L)) ![n, s, l]) (?_ : _ = sPcs (fun c => k0_pay2 (F := Ideal) (arg8.view.readAt (Elt Ideal) (Rect.unit (s := BsS) ![0, 0, 128 * (c % 2)] S1x1x128.size (bs_inb c)).toLoadRect X8) (arg7.view.readAt (Elt Ideal) (Rect.unit (s := BcS) ![0, 128 * (c % 2), 0] S1x128x16.size (bc_inb c)).toLoadRect X7)) 32 (Nat.le_refl _))) ?_
      · refine (congrArg₂ List.cons (piece_eq (s := SplatS) (e := .f32) (Val := Elt Ideal) (size := S1x128x128.size) rfl _ _ (sV_eq _ 15 (by decide) slices_S128x16_o0_15_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 14 (by decide) slices_S128x16_o0_14_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 13 (by decide) slices_S128x16_o0_13_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 12 (by decide) slices_S128x16_o0_12_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 11 (by decide) slices_S128x16_o0_11_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 10 (by decide) slices_S128x16_o0_10_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 9 (by decide) slices_S128x16_o0_9_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 8 (by decide) slices_S128x16_o0_8_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 7 (by decide) slices_S128x16_o0_7_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 6 (by decide) slices_S128x16_o0_6_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 5 (by decide) slices_S128x16_o0_5_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 4 (by decide) slices_S128x16_o0_4_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 3 (by decide) slices_S128x16_o0_3_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 2 (by decide) slices_S128x16_o0_2_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 1 (by decide) slices_S128x16_o0_1_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 0 (by decide) slices_S128x16_o0_0_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 15 (by decide) slices_S128x16_o0_15_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 14 (by decide) slices_S128x16_o0_14_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 13 (by decide) slices_S128x16_o0_13_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 12 (by decide) slices_S128x16_o0_12_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 11 (by decide) slices_S128x16_o0_11_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 10 (by decide) slices_S128x16_o0_10_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 9 (by decide) slices_S128x16_o0_9_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 8 (by decide) slices_S128x16_o0_8_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 7 (by decide) slices_S128x16_o0_7_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 6 (by decide) slices_S128x16_o0_6_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 5 (by decide) slices_S128x16_o0_5_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 4 (by decide) slices_S128x16_o0_4_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 3 (by decide) slices_S128x16_o0_3_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 2 (by decide) slices_S128x16_o0_2_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 1 (by decide) slices_S128x16_o0_1_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 0 (by decide) slices_S128x16_o0_0_S128x1 shapeCasts_S128x1_S128x1 broadcasts_S128x1_S128x128 shapeCasts_S128x128_S1x128x128)) rfl))))))))))))))))))))))))))))))))
      · refine (sPcs_read arg18.view X18 _ 32 _ n s hs l).trans ?_
        rw [if_pos (by omega)]
        refine (congrArg (fun r => rd (s := CoS) _ ![r, n]) rfl).trans ?_
        refine (eq_rd (s := CoS) _ (ix2 ⟨s % 128, by omega⟩ n) _ fun b => by fin_cases b <;> rfl).symm.trans ?_
        refine (bc_apply arg7.view X7 arg8.view X8 rfl rfl _ _ ⟨s % 128, by omega⟩ n).trans ?_
        rw [show 128 * (s / 128 % 2) + (⟨s % 128, by omega⟩ : Fin 128).val = s by show 128 * (s / 128 % 2) + s % 128 = s; omega]
    · rw [dif_neg h, if_neg fun h' => h (c7.mpr h')]
  case hC =>
    intro n s l hs
    have hn := n.isLt
    by_cases h : bodyRun.sl.v7 i = 1#1
    · rw [dif_pos h, if_pos (c7.mp h)]
      refine Eq.trans (congrArg (fun L => rd (View.read (Elt Ideal) arg19.view (arg19.view.writes (Elt Ideal) X19 L)) ![n, s, l]) (?_ : _ = sPcs (fun c => k0_pay2 (F := Ideal) (arg10.view.readAt (Elt Ideal) (Rect.unit (s := BsS) ![0, 0, 128 * (c % 2)] S1x1x128.size (bs_inb c)).toLoadRect X10) (arg9.view.readAt (Elt Ideal) (Rect.unit (s := BcS) ![0, 128 * (c % 2), 0] S1x128x16.size (bc_inb c)).toLoadRect X9)) 32 (Nat.le_refl _))) ?_
      · refine (congrArg₂ List.cons (piece_eq (s := SplatS) (e := .f32) (Val := Elt Ideal) (size := S1x128x128.size) rfl _ _ (sV_eq _ 15 (by decide) slices_S128x16_o0_15_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 14 (by decide) slices_S128x16_o0_14_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 13 (by decide) slices_S128x16_o0_13_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 12 (by decide) slices_S128x16_o0_12_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 11 (by decide) slices_S128x16_o0_11_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 10 (by decide) slices_S128x16_o0_10_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 9 (by decide) slices_S128x16_o0_9_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 8 (by decide) slices_S128x16_o0_8_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 7 (by decide) slices_S128x16_o0_7_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 6 (by decide) slices_S128x16_o0_6_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 5 (by decide) slices_S128x16_o0_5_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 4 (by decide) slices_S128x16_o0_4_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 3 (by decide) slices_S128x16_o0_3_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 2 (by decide) slices_S128x16_o0_2_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 1 (by decide) slices_S128x16_o0_1_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 0 (by decide) slices_S128x16_o0_0_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 15 (by decide) slices_S128x16_o0_15_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 14 (by decide) slices_S128x16_o0_14_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 13 (by decide) slices_S128x16_o0_13_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 12 (by decide) slices_S128x16_o0_12_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 11 (by decide) slices_S128x16_o0_11_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 10 (by decide) slices_S128x16_o0_10_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 9 (by decide) slices_S128x16_o0_9_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 8 (by decide) slices_S128x16_o0_8_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 7 (by decide) slices_S128x16_o0_7_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 6 (by decide) slices_S128x16_o0_6_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 5 (by decide) slices_S128x16_o0_5_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 4 (by decide) slices_S128x16_o0_4_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 3 (by decide) slices_S128x16_o0_3_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 2 (by decide) slices_S128x16_o0_2_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 1 (by decide) slices_S128x16_o0_1_S128x1 shapeCasts_S128x1_S128x1 broadcasts_S128x1_S128x128 shapeCasts_S128x128_S1x128x128)) (congrArg₂ List.cons (piece_eq (s := SplatS) (e := .f32) (Val := Elt Ideal) (size := S1x128x128.size) rfl _ _ (sV_eq _ 0 (by decide) slices_S128x16_o0_0_S128x1 shapeCasts_S128x1_S128x1 broadcasts_S128x1_S128x128 shapeCasts_S128x128_S1x128x128)) rfl))))))))))))))))))))))))))))))))
      · refine (sPcs_read arg19.view X19 _ 32 _ n s hs l).trans ?_
        rw [if_pos (by omega)]
        refine (congrArg (fun r => rd (s := CoS) _ ![r, n]) rfl).trans ?_
        refine (eq_rd (s := CoS) _ (ix2 ⟨s % 128, by omega⟩ n) _ fun b => by fin_cases b <;> rfl).symm.trans ?_
        refine (bc_apply arg9.view X9 arg10.view X10 rfl rfl _ _ ⟨s % 128, by omega⟩ n).trans ?_
        rw [show 128 * (s / 128 % 2) + (⟨s % 128, by omega⟩ : Fin 128).val = s by show 128 * (s / 128 % 2) + s % 128 = s; omega]
    · rw [dif_neg h, if_neg fun h' => h (c7.mpr h')]
  case ha0 =>
    intro n g l
    match n with
    | ⟨0, _⟩ => exact a_load arg17.view _ (aoff_0_0 i) _ _ g l
    | ⟨1, _⟩ => exact a_load arg17.view _ (aoff_0_1 i) _ _ g l
    | ⟨2, _⟩ => exact a_load arg17.view _ (aoff_0_2 i) _ _ g l
    | ⟨3, _⟩ => exact a_load arg17.view _ (aoff_0_3 i) _ _ g l
    | ⟨4, _⟩ => exact a_load arg17.view _ (aoff_0_4 i) _ _ g l
    | ⟨5, _⟩ => exact a_load arg17.view _ (aoff_0_5 i) _ _ g l
    | ⟨6, _⟩ => exact a_load arg17.view _ (aoff_0_6 i) _ _ g l
    | ⟨7, _⟩ => exact a_load arg17.view _ (aoff_0_7 i) _ _ g l
    | ⟨8, _⟩ => exact a_load arg17.view _ (aoff_0_8 i) _ _ g l
    | ⟨9, _⟩ => exact a_load arg17.view _ (aoff_0_9 i) _ _ g l
    | ⟨10, _⟩ => exact a_load arg17.view _ (aoff_0_10 i) _ _ g l
    | ⟨11, _⟩ => exact a_load arg17.view _ (aoff_0_11 i) _ _ g l
    | ⟨12, _⟩ => exact a_load arg17.view _ (aoff_0_12 i) _ _ g l
    | ⟨13, _⟩ => exact a_load arg17.view _ (aoff_0_13 i) _ _ g l
    | ⟨14, _⟩ => exact a_load arg17.view _ (aoff_0_14 i) _ _ g l
    | ⟨15, _⟩ => exact a_load arg17.view _ (aoff_0_15 i) _ _ g l
    | ⟨n + 16, h⟩ => exact absurd h (by omega)
  case ha1 =>
    intro n g l
    match n with
    | ⟨0, _⟩ => exact a_load arg17.view _ (aoff_1_0 i) _ _ g l
    | ⟨1, _⟩ => exact a_load arg17.view _ (aoff_1_1 i) _ _ g l
    | ⟨2, _⟩ => exact a_load arg17.view _ (aoff_1_2 i) _ _ g l
    | ⟨3, _⟩ => exact a_load arg17.view _ (aoff_1_3 i) _ _ g l
    | ⟨4, _⟩ => exact a_load arg17.view _ (aoff_1_4 i) _ _ g l
    | ⟨5, _⟩ => exact a_load arg17.view _ (aoff_1_5 i) _ _ g l
    | ⟨6, _⟩ => exact a_load arg17.view _ (aoff_1_6 i) _ _ g l
    | ⟨7, _⟩ => exact a_load arg17.view _ (aoff_1_7 i) _ _ g l
    | ⟨8, _⟩ => exact a_load arg17.view _ (aoff_1_8 i) _ _ g l
    | ⟨9, _⟩ => exact a_load arg17.view _ (aoff_1_9 i) _ _ g l
    | ⟨10, _⟩ => exact a_load arg17.view _ (aoff_1_10 i) _ _ g l
    | ⟨11, _⟩ => exact a_load arg17.view _ (aoff_1_11 i) _ _ g l
    | ⟨12, _⟩ => exact a_load arg17.view _ (aoff_1_12 i) _ _ g l
    | ⟨13, _⟩ => exact a_load arg17.view _ (aoff_1_13 i) _ _ g l
    | ⟨14, _⟩ => exact a_load arg17.view _ (aoff_1_14 i) _ _ g l
    | ⟨15, _⟩ => exact a_load arg17.view _ (aoff_1_15 i) _ _ g l
    | ⟨n + 16, h⟩ => exact absurd h (by omega)
  case hh0 =>
    intro n g l
    match n with
    | ⟨0, _⟩ => exact h_load arg16.view _ (hoff_0_0 i) _ _ g l
    | ⟨1, _⟩ => exact h_load arg16.view _ (hoff_0_1 i) _ _ g l
    | ⟨2, _⟩ => exact h_load arg16.view _ (hoff_0_2 i) _ _ g l
    | ⟨3, _⟩ => exact h_load arg16.view _ (hoff_0_3 i) _ _ g l
    | ⟨4, _⟩ => exact h_load arg16.view _ (hoff_0_4 i) _ _ g l
    | ⟨5, _⟩ => exact h_load arg16.view _ (hoff_0_5 i) _ _ g l
    | ⟨6, _⟩ => exact h_load arg16.view _ (hoff_0_6 i) _ _ g l
    | ⟨7, _⟩ => exact h_load arg16.view _ (hoff_0_7 i) _ _ g l
    | ⟨8, _⟩ => exact h_load arg16.view _ (hoff_0_8 i) _ _ g l
    | ⟨9, _⟩ => exact h_load arg16.view _ (hoff_0_9 i) _ _ g l
    | ⟨10, _⟩ => exact h_load arg16.view _ (hoff_0_10 i) _ _ g l
    | ⟨11, _⟩ => exact h_load arg16.view _ (hoff_0_11 i) _ _ g l
    | ⟨12, _⟩ => exact h_load arg16.view _ (hoff_0_12 i) _ _ g l
    | ⟨13, _⟩ => exact h_load arg16.view _ (hoff_0_13 i) _ _ g l
    | ⟨14, _⟩ => exact h_load arg16.view _ (hoff_0_14 i) _ _ g l
    | ⟨15, _⟩ => exact h_load arg16.view _ (hoff_0_15 i) _ _ g l
    | ⟨n + 16, h⟩ => exact absurd h (by omega)
  case hh1 =>
    intro n g l
    match n with
    | ⟨0, _⟩ => exact h_load arg16.view _ (hoff_1_0 i) _ _ g l
    | ⟨1, _⟩ => exact h_load arg16.view _ (hoff_1_1 i) _ _ g l
    | ⟨2, _⟩ => exact h_load arg16.view _ (hoff_1_2 i) _ _ g l
    | ⟨3, _⟩ => exact h_load arg16.view _ (hoff_1_3 i) _ _ g l
    | ⟨4, _⟩ => exact h_load arg16.view _ (hoff_1_4 i) _ _ g l
    | ⟨5, _⟩ => exact h_load arg16.view _ (hoff_1_5 i) _ _ g l
    | ⟨6, _⟩ => exact h_load arg16.view _ (hoff_1_6 i) _ _ g l
    | ⟨7, _⟩ => exact h_load arg16.view _ (hoff_1_7 i) _ _ g l
    | ⟨8, _⟩ => exact h_load arg16.view _ (hoff_1_8 i) _ _ g l
    | ⟨9, _⟩ => exact h_load arg16.view _ (hoff_1_9 i) _ _ g l
    | ⟨10, _⟩ => exact h_load arg16.view _ (hoff_1_10 i) _ _ g l
    | ⟨11, _⟩ => exact h_load arg16.view _ (hoff_1_11 i) _ _ g l
    | ⟨12, _⟩ => exact h_load arg16.view _ (hoff_1_12 i) _ _ g l
    | ⟨13, _⟩ => exact h_load arg16.view _ (hoff_1_13 i) _ _ g l
    | ⟨14, _⟩ => exact h_load arg16.view _ (hoff_1_14 i) _ _ g l
    | ⟨15, _⟩ => exact h_load arg16.view _ (hoff_1_15 i) _ _ g l
    | ⟨n + 16, h⟩ => exact absurd h (by omega)
  case hw =>
    intro k p n g l
    have hp := p.isLt
    have hn := n.isLt
    refine Eq.trans (congrArg (fun L => rd (View.read (Elt Ideal) arg16.view (arg16.view.writes (Elt Ideal) _ L)) ![0, k, p, n, g, l]) (?_ : _ = hPcs (i 2).val (i 2).isLt (fun m => (![lst acc0, lst acc1] : Fin 2 → Fin 16 → VV) ⟨m / 16 % 2, Nat.mod_lt _ (by decide)⟩ ⟨m % 16, Nat.mod_lt _ (by decide)⟩) 32 (Nat.le_refl _))) ?_
    · refine (congrArg₂ List.cons (piece_eq (s := HsS) (e := .f32) (Val := Elt Ideal) (size := S1x1x1x1x8x128.size) (hoff_1_15 i) _ _ rfl) (congrArg₂ List.cons (piece_eq (s := HsS) (e := .f32) (Val := Elt Ideal) (size := S1x1x1x1x8x128.size) (hoff_1_14 i) _ _ rfl) (congrArg₂ List.cons (piece_eq (s := HsS) (e := .f32) (Val := Elt Ideal) (size := S1x1x1x1x8x128.size) (hoff_1_13 i) _ _ rfl) (congrArg₂ List.cons (piece_eq (s := HsS) (e := .f32) (Val := Elt Ideal) (size := S1x1x1x1x8x128.size) (hoff_1_12 i) _ _ rfl) (congrArg₂ List.cons (piece_eq (s := HsS) (e := .f32) (Val := Elt Ideal) (size := S1x1x1x1x8x128.size) (hoff_1_11 i) _ _ rfl) (congrArg₂ List.cons (piece_eq (s := HsS) (e := .f32) (Val := Elt Ideal) (size := S1x1x1x1x8x128.size) (hoff_1_10 i) _ _ rfl) (congrArg₂ List.cons (piece_eq (s := HsS) (e := .f32) (Val := Elt Ideal) (size := S1x1x1x1x8x128.size) (hoff_1_9 i) _ _ rfl) (congrArg₂ List.cons (piece_eq (s := HsS) (e := .f32) (Val := Elt Ideal) (size := S1x1x1x1x8x128.size) (hoff_1_8 i) _ _ rfl) (congrArg₂ List.cons (piece_eq (s := HsS) (e := .f32) (Val := Elt Ideal) (size := S1x1x1x1x8x128.size) (hoff_1_7 i) _ _ rfl) (congrArg₂ List.cons (piece_eq (s := HsS) (e := .f32) (Val := Elt Ideal) (size := S1x1x1x1x8x128.size) (hoff_1_6 i) _ _ rfl) (congrArg₂ List.cons (piece_eq (s := HsS) (e := .f32) (Val := Elt Ideal) (size := S1x1x1x1x8x128.size) (hoff_1_5 i) _ _ rfl) (congrArg₂ List.cons (piece_eq (s := HsS) (e := .f32) (Val := Elt Ideal) (size := S1x1x1x1x8x128.size) (hoff_1_4 i) _ _ rfl) (congrArg₂ List.cons (piece_eq (s := HsS) (e := .f32) (Val := Elt Ideal) (size := S1x1x1x1x8x128.size) (hoff_1_3 i) _ _ rfl) (congrArg₂ List.cons (piece_eq (s := HsS) (e := .f32) (Val := Elt Ideal) (size := S1x1x1x1x8x128.size) (hoff_1_2 i) _ _ rfl) (congrArg₂ List.cons (piece_eq (s := HsS) (e := .f32) (Val := Elt Ideal) (size := S1x1x1x1x8x128.size) (hoff_1_1 i) _ _ rfl) (congrArg₂ List.cons (piece_eq (s := HsS) (e := .f32) (Val := Elt Ideal) (size := S1x1x1x1x8x128.size) (hoff_1_0 i) _ _ rfl) (congrArg₂ List.cons (piece_eq (s := HsS) (e := .f32) (Val := Elt Ideal) (size := S1x1x1x1x8x128.size) (hoff_0_15 i) _ _ rfl) (congrArg₂ List.cons (piece_eq (s := HsS) (e := .f32) (Val := Elt Ideal) (size := S1x1x1x1x8x128.size) (hoff_0_14 i) _ _ rfl) (congrArg₂ List.cons (piece_eq (s := HsS) (e := .f32) (Val := Elt Ideal) (size := S1x1x1x1x8x128.size) (hoff_0_13 i) _ _ rfl) (congrArg₂ List.cons (piece_eq (s := HsS) (e := .f32) (Val := Elt Ideal) (size := S1x1x1x1x8x128.size) (hoff_0_12 i) _ _ rfl) (congrArg₂ List.cons (piece_eq (s := HsS) (e := .f32) (Val := Elt Ideal) (size := S1x1x1x1x8x128.size) (hoff_0_11 i) _ _ rfl) (congrArg₂ List.cons (piece_eq (s := HsS) (e := .f32) (Val := Elt Ideal) (size := S1x1x1x1x8x128.size) (hoff_0_10 i) _ _ rfl) (congrArg₂ List.cons (piece_eq (s := HsS) (e := .f32) (Val := Elt Ideal) (size := S1x1x1x1x8x128.size) (hoff_0_9 i) _ _ rfl) (congrArg₂ List.cons (piece_eq (s := HsS) (e := .f32) (Val := Elt Ideal) (size := S1x1x1x1x8x128.size) (hoff_0_8 i) _ _ rfl) (congrArg₂ List.cons (piece_eq (s := HsS) (e := .f32) (Val := Elt Ideal) (size := S1x1x1x1x8x128.size) (hoff_0_7 i) _ _ rfl) (congrArg₂ List.cons (piece_eq (s := HsS) (e := .f32) (Val := Elt Ideal) (size := S1x1x1x1x8x128.size) (hoff_0_6 i) _ _ rfl) (congrArg₂ List.cons (piece_eq (s := HsS) (e := .f32) (Val := Elt Ideal) (size := S1x1x1x1x8x128.size) (hoff_0_5 i) _ _ rfl) (congrArg₂ List.cons (piece_eq (s := HsS) (e := .f32) (Val := Elt Ideal) (size := S1x1x1x1x8x128.size) (hoff_0_4 i) _ _ rfl) (congrArg₂ List.cons (piece_eq (s := HsS) (e := .f32) (Val := Elt Ideal) (size := S1x1x1x1x8x128.size) (hoff_0_3 i) _ _ rfl) (congrArg₂ List.cons (piece_eq (s := HsS) (e := .f32) (Val := Elt Ideal) (size := S1x1x1x1x8x128.size) (hoff_0_2 i) _ _ rfl) (congrArg₂ List.cons (piece_eq (s := HsS) (e := .f32) (Val := Elt Ideal) (size := S1x1x1x1x8x128.size) (hoff_0_1 i) _ _ rfl) (congrArg₂ List.cons (piece_eq (s := HsS) (e := .f32) (Val := Elt Ideal) (size := S1x1x1x1x8x128.size) (hoff_0_0 i) _ _ rfl) rfl))))))))))))))))))))))))))))))))
    · refine (hPcs_read arg16.view _ (i 2).val (i 2).isLt _ 32 _ k p n g l).trans ?_
      by_cases h : k.val = (i 2).val
      · rw [if_pos ⟨h, by omega⟩, if_pos h]
        refine (congrFun (pick (![lst acc0, lst acc1] : Fin 2 → Fin 16 → VV) p n _ _) (ix2 g l)).trans ?_
        match p with
        | 0 => rfl
        | 1 => rfl
      · rw [if_neg fun h' => h h'.1, if_neg h]
end Cert.KernelIdeal.Value
-- ==== Proof.Value.Run.lean ====
module

public import proofs.«01_k».proof.Proof.Value.Body
public import proofs.«01_k».proof.Proof.Value.Spec
public import proofs.«01_k».proof.Proof.Gen.KernelIdeal.Frame
@[expose] public section
set_option maxRecDepth 16384
noncomputable section
/-! The whole grid: what each result's blocks and the carried arrays hold before and after every point, and the run. -/
namespace Cert.KernelIdeal.Value
open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.Rounds
open Idealize.SL.BI.BIBase Idealize.SL.BI.Laws Idealize.SL.ProofMode Idealize.SL.Sem
open Cert.Scan
local notation "𝕄" => MT nD τ sig Unit (Elt Ideal) ℕ (UR sig nD τ) ℕ
variable (m : (ℓ : Loc nD τ sig) → Buf (Elt Ideal) ℓ) (ρ : Dev nD → PrngReg)

/-- The outputs' block of point `t`. -/
def yBlk (c : Dev nD) (t : ℕ) : BlS.Idx → EReal := fun ix => (ins m c).yv (t / 256) (2048 * (t % 4) + (ix 2).val) (256 * (t / 4 % 64) + (ix 1).val)
/-- The states' block before (`e = 0`) or after (`e = 1`) point `t`. -/
def hBlk (c : Dev nD) (t e : ℕ) : HsS.Idx → EReal := fun ix => stAt (ins m c) t e (ix 1).val (ix 2).val (ix 3).val (ix 4).val (ix 5).val

theorem yBlk_of {c : Dev nD} {t : ℕ} {Y : BlS.Idx → EReal} (h : ∀ (p : Fin 2) (g : Fin 8) (l : Fin 128) (s : ℕ), s < 256 →
    rd Y ![0, s, 128 * (2 * g + p) + l] = (ins m c).yv (t / 256) (2048 * (t % 4) + 128 * (2 * g + p) + l) (256 * (t / 4 % 64) + s)) : Y = yBlk m c t := by
  funext ix
  have b0 : (ix 0).val < 1 := (ix 0).isLt
  have b1 : (ix 1).val < 256 := (ix 1).isLt
  have b2 : (ix 2).val < 2048 := (ix 2).isLt
  have e := h ⟨(ix 2).val / 128 % 2, by omega⟩ ⟨(ix 2).val / 256, by omega⟩ ⟨(ix 2).val % 128, by omega⟩ (ix 1).val b1
  have e2 : 128 * (2 * ((ix 2).val / 256) + (ix 2).val / 128 % 2) + (ix 2).val % 128 = (ix 2).val := by omega
  refine (eq_rd Y ix ![0, (ix 1).val, (ix 2).val] fun a => ?_).trans ?_
  · match a with
    | ⟨0, _⟩ => exact Nat.lt_one_iff.mp b0
    | ⟨1, _⟩ => rfl
    | ⟨2, _⟩ => rfl
  · dsimp only at e
    rw [Nat.add_assoc, e2] at e
    exact e
theorem hBlk_of {c : Dev nD} {t e : ℕ} {H : HsS.Idx → EReal} (h : ∀ (k : Fin 4) (p : Fin 2) (n : Fin 16) (g : Fin 8) (l : Fin 128), rd H ![0, k, p, n, g, l] = stAt (ins m c) t e k p n g l) :
    H = hBlk m c t e := by
  funext ix
  have b0 : (ix 0).val < 1 := (ix 0).isLt
  refine (eq_rd H ix ![0, (ix 1).val, (ix 2).val, (ix 3).val, (ix 4).val, (ix 5).val] fun a => ?_).trans (h (ix 1) (ix 2) (ix 3) (ix 4) (ix 5))
  match a with
  | ⟨0, _⟩ => exact Nat.lt_one_iff.mp b0
  | ⟨1, _⟩ => rfl
  | ⟨2, _⟩ => rfl
  | ⟨3, _⟩ => rfl
  | ⟨4, _⟩ => rfl
  | ⟨5, _⟩ => rfl
theorem rd_hBlk (c : Dev nD) (t e : ℕ) (k : Fin 4) (p : Fin 2) (n : Fin 16) (g : Fin 8) (l : Fin 128) : rd (hBlk m c t e) ![0, k, p, n, g, l] = stAt (ins m c) t e k p n g l := by
  unfold rd hBlk
  rw [tot_val (s := HsS) ![0, k, p, n, g, l] 1 k.isLt, tot_val (s := HsS) ![0, k, p, n, g, l] 2 p.isLt, tot_val (s := HsS) ![0, k, p, n, g, l] 3 n.isLt,
    tot_val (s := HsS) ![0, k, p, n, g, l] 4 g.isLt, tot_val (s := HsS) ![0, k, p, n, g, l] 5 l.isLt]
  rfl
/-- The block that a point leaves is the one that the next point of its batch finds. -/
theorem hBlk_next (c : Dev nD) (t : ℕ) (h : t % 256 ≠ 0) : hBlk m c (t - 1) 1 = hBlk m c t 0 := by
  funext ix
  have b1 : (ix 1).val < 4 := (ix 1).isLt
  unfold hBlk stAt
  rw [show (t - 1) / 256 = t / 256 by omega]
  have key : (t - 1) / 4 % 64 + (if (ix 1).val < (t - 1) % 4 + 1 then 1 else 0) = t / 4 % 64 + if (ix 1).val < t % 4 + 0 then 1 else 0 := by
    split <;> split <;> omega
  rw [key]

/-- What the three carried arrays hold before point `j`. -/
def Carry (c : Dev nD) (j : ℕ) (A : AsS.Idx → EReal) (B C : SplatS.Idx → EReal) : Prop :=
  (j % 256 ≠ 0 → ∀ (k : Fin 4) (p : Fin 2) (n : Fin 16) (g : Fin 8) (l : Fin 128), rd A ![k, p, n, g, l] = aE (rd (ins m c).Al ![2048 * k + 128 * (2 * g + p) + l, n]))
  ∧ (j % 4 ≠ 0 → ∀ (n : Fin 16) (s : ℕ) (l : Fin 128), s < 256 → rd B ![n, s, l] = (ins m c).bq (j / 256) n (256 * (j / 4 % 64) + s))
  ∧ (j % 4 ≠ 0 → ∀ (n : Fin 16) (s : ℕ) (l : Fin 128), s < 256 → rd C ![n, s, l] = (ins m c).cq (j / 256) n (256 * (j / 4 % 64) + s))

/-- The carried arrays, and the other scratch arrays at any contents. -/
def Held (c : Dev nD) (j : ℕ) : sProp 𝕄 :=
  iprop((∃ (f0 : Buf (Elt Ideal) ((c : Thread nD τ).loc cc0_scratch0)) (f1 : Buf (Elt Ideal) ((c : Thread nD τ).loc cc0_scratch1)) (f2 : Buf (Elt Ideal) ((c : Thread nD τ).loc cc0_scratch2)),
      ⌜Carry m c j f0 f1 f2⌝ ∗ (((c : Thread nD τ).loc cc0_scratch0) ↦{fullShare} f0) ∗ (((c : Thread nD τ).loc cc0_scratch1) ↦{fullShare} f1) ∗ (((c : Thread nD τ).loc cc0_scratch2) ↦{fullShare} f2))
    ∗ (∃ f : Buf (Elt Ideal) ((c : Thread nD τ).loc cc0_scratch3), ((c : Thread nD τ).loc cc0_scratch3) ↦{fullShare} f)
    ∗ (∃ f : Buf (Elt Ideal) ((c : Thread nD τ).loc cc0_scratch4), ((c : Thread nD τ).loc cc0_scratch4) ↦{fullShare} f)
    ∗ (∃ f : Buf (Elt Ideal) ((c : Thread nD τ).loc cc0_scratch5), ((c : Thread nD τ).loc cc0_scratch5) ↦{fullShare} f)
    ∗ ∃ r, prngReg c r)

/-- The proof data of the region. -/
def dats (p : Fin 1) (c : Dev nD) : Dat τ (Elt Ideal) Unit ℕ (UR sig nD τ) ℕ (cfgs p) c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => yBlk m c t.val
    | 13 => hBlk m c t.val 1
  Φ j := Held m c j.val
  q _ := fullShare
  owed _ := 0
theorem A_eq (c : Dev nD) (w : Fin cfg0.W) : (dats m 0 c).A w = V m c (Pipeline.arrRef spec0 w) := by
  dsimp only [dats]
theorem after0_12 (c : Dev nD) (t : Fin cfg0.N) : (dats m 0 c).after 12 t = yBlk m c t.val := by dsimp only [dats]
theorem after0_13 (c : Dev nD) (t : Fin cfg0.N) : (dats m 0 c).after 13 t = hBlk m c t.val 1 := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
/-- The states' block as a point that does not begin a batch finds it. -/
theorem before0_13 (c : Dev nD) (t : Fin cfg0.N) (h : t.val % 256 ≠ 0) (d) : (dats m 0 c).before 13 t d = hBlk m c t.val 0 := by
  have hf : ¬ (cfg0.win 13).flush ⟨t.val - 1, Nat.lt_of_le_of_lt (Nat.sub_le _ _) t.isLt⟩ = true := fun e => by
    have := (flush0_13 _).mp e
    dsimp only at this
    omega
  refine ((dats m 0 c).before_of_pos 13 t (by omega) rfl d).trans ?_
  rw [if_neg hf]
  exact (after0_13 m c _).trans (hBlk_next m c t.val h)
/-- What the library hands the body at point `t`. -/
def bodyPre (c : Dev nD) (t : Fin cfg0.N) : sProp 𝕄 :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))
/-- What the body hands back. -/
def bodyPost (c : Dev nD) (t : Fin cfg0.N) : sProp 𝕄 :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t))

theorem first_iff : ∀ t : Fin cfg0.N, First (grid0.coords t) ↔ t.val % 256 = 0 := fun t => by
  have h1 := (gc t).2.1
  have h2 := (gc t).2.2
  unfold First
  rw [h1, h2]
  omega

/-- One point of the body from the carried arrays to the carried arrays. -/
theorem carry_step (c : Dev nD) (t : Fin cfg0.N) (k : Fin 4) (hk : k.val = t.val % 4) (first : Prop) [Decidable first] (hf : first ↔ t.val % 256 = 0)
    {X16 : HsS.Idx → EReal} {X17 : AsS.Idx → EReal} {X18 X19 : SplatS.Idx → EReal}
    {Y : BlS.Idx → EReal} {H : HsS.Idx → EReal} {A : AsS.Idx → EReal} {B C : SplatS.Idx → EReal}
    (P : PointFact k first (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      X16 X17 X18 X19 Y H A B C) (d) (h16 : X16 = (dats m 0 c).before 13 t d) (hc : Carry m c t.val X17 X18 X19) :
    Y = yBlk m c t.val ∧ H = hBlk m c t.val 1 ∧ Carry m c (t.val + 1) A B C := by
  obtain ⟨c1, c2, c3⟩ := hc
  obtain ⟨hA, hB, hC, hH, hY⟩ := point_step m c t k hk first hf P (fun h k p n g l => by rw [h16, before0_13 m c t h]; exact rd_hBlk m c t.val 0 k p n g l) c1 c2 c3
  refine ⟨yBlk_of m hY, hBlk_of m hH, fun _ => hA, fun h n s l hs => ?_, fun h n s l hs => ?_⟩
  · rw [hB n s l hs, show (t.val + 1) / 256 = t.val / 256 by omega, show (t.val + 1) / 4 = t.val / 4 by omega]
  · rw [hC n s l hs, show (t.val + 1) / 256 = t.val / 256 by omega, show (t.val + 1) / 4 = t.val / 4 by omega]

set_option maxHeartbeats 1600000 in
/-- The body at point `t`, from what the library hands it to what it hands back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = Held m c (t.val + 1) from rfl]
  rw [show (dats m 0 c).Φ t.castSucc = Held m c t.val from rfl]
  unfold Held Dat.owesAt Pipeline.owesWithin
  rw [show (dats m 0 c).owed t.castSucc = 0 from rfl, show (dats m 0 c).owed t.succ = 0 from rfl]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, after0_12, after0_13]
  unfold owns
  iintro ⟨⟨⟨%s0, %s1, %s2, %hcar, HS0, HS1, HS2⟩, ⟨%s3, HS3⟩, ⟨%s4, HS4⟩, ⟨%s5, HS5⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩⟩
  iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 f11 f12 f13 s0 s1 s2 s3 s4 s5 _)
  simp only [Memref.view_whole, View.set_whole]
  isplitl [H0 H1 H2 H3 H4 H5 H6 H7 H8 H9 H10 H11 H12 H13 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    iexact HS5
  iintro ⟨%g15, %g16, %g17, %g18, %g19, %g20, %g21, %g22, H0, H1, H2, H3, H4, H5, H6, H7, H8, H9, H10, H11, H12, H13, HS0, HS1, HS2, HS3, HS4, HS5, %hP⟩
  have hst := carry_step m c t (grid0.coords t 2) (gc t).2.2 (First (grid0.coords t)) ((first_iff t)) (by
    rw [e0, e1, e2, e3, e4, e5, e6, e7, e8, e9, e10, e11] at hP
    exact hP) d13 e13 hcar
  isplitl [Hg HS0 HS1 HS2 HS3 HS4 HS5]
  · isplitl [HS0 HS1 HS2]
    · iexists _; iexists _; iexists _
      isplitr; · ipureintro; exact hst.2.2
      isplitl [HS0]; · iexact HS0
      isplitl [HS1]; · iexact HS1
      iexact HS2
    isplitl [HS3]; · iexists _; iexact HS3
    isplitl [HS4]; · iexists _; iexact HS4
    isplitl [HS5]; · iexists _; iexact HS5
    iexact Hg
  isplitl [HW]; · iexact HW
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  isplitl [H10]; · iexists _; isplitr; swap; (· iexact H10); ipureintro; exact e10
  isplitl [H11]; · iexists _; isplitr; swap; (· iexact H11); ipureintro; exact e11
  isplitl [H12]; · iexists _; isplitr; swap; (· iexact H12); ipureintro; exact hst.1
  iexists _; isplitr; swap; (· iexact H13); ipureintro; exact hst.2.1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]
/-- The library's body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The scratch arrays at any contents hold what is asked before the first point. -/
theorem held_in (c : Dev nD) : Pipeline.ΦA spec0 c ⊢ Held m c 0 := by
  unfold Pipeline.ΦA Held
  rw [scopedRest0_eq]
  iintro ⟨⟨⟨%s0, HS0⟩, ⟨%s1, HS1⟩, ⟨%s2, HS2⟩, H3, H4, H5⟩, Hg⟩
  isplitl [HS0 HS1 HS2]
  · iexists s0; iexists s1; iexists s2
    isplitr; · ipureintro; exact ⟨fun h => absurd rfl h, fun h => absurd rfl h, fun h => absurd rfl h⟩
    isplitl [HS0]; · iexact HS0
    isplitl [HS1]; · iexact HS1
    iexact HS2
  isplitl [H3]; · iexact H3
  isplitl [H4]; · iexact H4
  isplitl [H5]; · iexact H5
  iexact Hg
theorem held_out (c : Dev nD) (j : ℕ) : Held m c j ⊢ Pipeline.ΦA spec0 c := by
  unfold Pipeline.ΦA Held
  rw [scopedRest0_eq]
  iintro ⟨⟨%s0, %s1, %s2, -, HS0, HS1, HS2⟩, H3, H4, H5, Hg⟩
  isplitr [Hg]
  · isplitl [HS0]; · iexists _; iexact HS0
    isplitl [HS1]; · iexists _; iexact HS1
    isplitl [HS2]; · iexists _; iexact HS2
    isplitl [H3]; · iexact H3
    isplitl [H4]; · iexact H4
    iexact H5
  iexact Hg

set_option backward.isDefEq.respectTransparency.types false in
/-- The run of the whole program. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := held_in m) (hout := fun c => held_out m c _)
end Cert.KernelIdeal.Value
-- ==== Proof.Value.Out.lean ====
module

public import proofs.«01_k».proof.Proof.Value.Run
public import Idealize.ShloMosaic.Lib.Pipeline.Covers
@[expose] public section
set_option maxRecDepth 16384
noncomputable section
/-! The kernel's two results after the run. -/
namespace Cert.KernelIdeal.Value
open Cert.KernelIdeal.Gen
open Idealize.ShloMosaic Idealize.ShloMosaic.TcCoe Idealize.ShloMosaic.Tactic
open Cert.Scan
variable (m : (ℓ : Loc nD τ sig) → Buf (Elt Ideal) ℓ) (ρ : Dev nD → PrngReg) (c : Dev nD)

/-- The outputs. -/
def yArr : Buf (Elt Ideal) ((c.tc : Thread nD τ).loc main_v6_0) := fun ix => (ins m c).yv (ix 0).val (ix 2).val (ix 1).val
/-- The last states as the grid leaves them. -/
def hArr : Buf (Elt Ideal) ((c.tc : Thread nD τ).loc main_v6_1) := fun ix =>
  (ins m c).st (ix 0).val (2048 * (ix 1).val + 128 * (2 * (ix 4).val + (ix 2).val) + (ix 5).val) (ix 3).val 16384
/-- The last states. -/
def hRes : Buf (Elt Ideal) ((c.tc : Thread nD τ).loc main_v8) := fun ix => (ins m c).st (ix 0).val (ix 1).val (ix 2).val 16384

theorem covers12 : (cfg0.win 12).Covers :=
  (by decide +kernel)
theorem covers13 : (cfg0.win 13).Covers :=
  (by decide +kernel)

theorem arr12 : (dats m 0 c).arrAt 12 cfg0.N = yArr m c := by
  refine (dats m 0 c).arrAt_eq_of_covers 12 _ covers12 fun t hf y => ?_
  rw [after0_12]
  refine Eq.trans (b := yBlk m c t.val y) rfl ?_
  have b0 : (y 0).val < 1 := (y 0).isLt
  have e0 : (((cfg0.win 12).blk t).view.emb y 0).val = t.val / 256 := by
    blk_simp [x12]
  have e1 : (((cfg0.win 12).blk t).view.emb y 1).val = 256 * (t.val / 4 % 64) + (y 1).val := by
    blk_simp [x12]
    omega
  have e2 : (((cfg0.win 12).blk t).view.emb y 2).val = 2048 * (t.val % 4) + (y 2).val := by
    blk_simp [x12]
    omega
  show (ins m c).yv _ _ _ = (ins m c).yv (((cfg0.win 12).blk t).view.emb y 0).val (((cfg0.win 12).blk t).view.emb y 2).val (((cfg0.win 12).blk t).view.emb y 1).val
  rw [e0, e1, e2]

theorem arr13 : (dats m 0 c).arrAt 13 cfg0.N = hArr m c := by
  refine (dats m 0 c).arrAt_eq_of_covers 13 _ covers13 fun t hf y => ?_
  have h255 : t.val % 256 = 255 := (flush0_13 t).mp hf
  rw [after0_13]
  refine Eq.trans (b := hBlk m c t.val 1 y) rfl ?_
  have b0 : (y 0).val < 1 := (y 0).isLt
  have b1 : (y 1).val < 4 := (y 1).isLt
  have e0 : (((cfg0.win 13).blk t).view.emb y 0).val = t.val / 256 := by
    blk_simp [x13]
  have e1 : (((cfg0.win 13).blk t).view.emb y 1).val = (y 1).val := by blk_simp [x13]
  have e2 : (((cfg0.win 13).blk t).view.emb y 2).val = (y 2).val := by blk_simp [x13]
  have e3 : (((cfg0.win 13).blk t).view.emb y 3).val = (y 3).val := by blk_simp [x13]
  have e4 : (((cfg0.win 13).blk t).view.emb y 4).val = (y 4).val := by blk_simp [x13]
  have e5 : (((cfg0.win 13).blk t).view.emb y 5).val = (y 5).val := by blk_simp [x13]
  show stAt _ _ _ _ _ _ _ _ = (ins m c).st (((cfg0.win 13).blk t).view.emb y 0).val (2048 * (((cfg0.win 13).blk t).view.emb y 1).val + 128 * (2 * (((cfg0.win 13).blk t).view.emb y 4).val + (((cfg0.win 13).blk t).view.emb y 2).val) + (((cfg0.win 13).blk t).view.emb y 5).val) (((cfg0.win 13).blk t).view.emb y 3).val 16384
  rw [e0, e1, e2, e3, e4, e5]
  unfold stAt
  rw [if_pos (by omega), show 256 * (t.val / 4 % 64 + 1) = 16384 by omega]

theorem tail_v8 : Pipeline.afterTail₀ cfgs (dats m) 0 (V0 m) [hostOps1] c main_v8 = hRes m c := by
  have e : Pipeline.withArrays (cfgs 0).spec c (V0 m c) (fun w => (dats m 0 c).arrAt w (cfgs 0).N) (Proc.devRef .tc main_v6_1) = hArr m c :=
    (Pipeline.withArrays_arr (cfgs 0).spec (by decide) c (V0 m c) (fun w => (dats m 0 c).arrAt w (cfgs 0).N) 13).trans (arr13 m c)
  unfold Pipeline.afterTail₀
  simp only [hostOps1, List.flatten_cons, List.flatten_nil, List.append_nil]
  entry_read
  rw [e]
  funext ix
  obtain ⟨b, d, n, rfl⟩ : ∃ (b : Fin 2) (d : Fin 8192) (n : Fin 16), ix = ix3 b d n := ⟨_, _, _, eq_ix3 ix⟩
  pointwise
  show (ins m c).st b.val (2048 * (d.val / 2048) + 128 * (2 * (d.val / 256 % 8) + d.val / 128 % 2) + d.val % 128) n.val 16384 = (ins m c).st b.val d.val n.val 16384
  rw [show 2048 * (d.val / 2048) + 128 * (2 * (d.val / 256 % 8) + d.val / 128 % 2) + d.val % 128 = d.val by omega]
end Cert.KernelIdeal.Value
-- ==== Proof.Value.RefOut.lean ====
module

public import proofs.«01_k».proof.Proof.Value.RefRun
@[expose] public section
set_option maxRecDepth 16384
noncomputable section
/-! The reference's two results after its run, in the launch's arguments. -/
namespace Cert.ReferenceIdeal.Value
open Cert.ReferenceIdeal.Gen
open Idealize.ShloMosaic Idealize.ShloMosaic.TcCoe Idealize.ShloMosaic.Tactic
open Cert.Scan
variable (m : (ℓ : Loc nD τ sig) → Buf (Elt Ideal) ℓ) (ρ : Dev nD → PrngReg) (c : Dev nD) (t : Fin cfg0.N)
/-- An argument of the launch. -/
abbrev arg (b : Ref sig .tc) : Buf (Elt Ideal) ((c.tc : Thread nD τ).loc b) := m ((c.tc : Thread nD τ).loc b)
theorem x0 : ∀ t : Fin cfg0.N, win0_0.index t = ![0, 0, 0] := (by decide +kernel : ∀ t : Fin grid0.N, _)
theorem x1 : ∀ t : Fin cfg0.N, win0_1.index t = ![0, 0, 0] := (by decide +kernel : ∀ t : Fin grid0.N, _)
theorem x2 : ∀ t : Fin cfg0.N, win0_2.index t = ![0, 0, 0] := (by decide +kernel : ∀ t : Fin grid0.N, _)
theorem x3 : ∀ t : Fin cfg0.N, win0_3.index t = ![0, 0, 0] := (by decide +kernel : ∀ t : Fin grid0.N, _)
theorem x4 : ∀ t : Fin cfg0.N, win0_4.index t = ![0, 0, 0] := (by decide +kernel : ∀ t : Fin grid0.N, _)
theorem x5 : ∀ t : Fin cfg0.N, win0_5.index t = ![0, 0] := (by decide +kernel : ∀ t : Fin grid0.N, _)
theorem x6 : ∀ t : Fin cfg0.N, win0_6.index t = ![0, 0, 0] := (by decide +kernel : ∀ t : Fin grid0.N, _)
theorem x7 : ∀ t : Fin cfg0.N, win0_7.index t = ![0, 0] := (by decide +kernel : ∀ t : Fin grid0.N, _)
theorem x8 : ∀ t : Fin cfg0.N, win0_8.index t = ![0, 0, 0] := (by decide +kernel : ∀ t : Fin grid0.N, _)
theorem x9 : ∀ t : Fin cfg0.N, win0_9.index t = ![0, 0] := (by decide +kernel : ∀ t : Fin grid0.N, _)
theorem x10 : ∀ t : Fin cfg0.N, win0_10.index t = ![0] := (by decide +kernel : ∀ t : Fin grid0.N, _)
theorem x11 : ∀ t : Fin cfg0.N, win0_11.index t = ![0] := (by decide +kernel : ∀ t : Fin grid0.N, _)
theorem x12 : ∀ t : Fin cfg0.N, win0_12.index t = ![0, 0, 0] := (by decide +kernel : ∀ t : Fin grid0.N, _)
theorem x13 : ∀ t : Fin cfg0.N, win0_13.index t = ![0, 0, 0] := (by decide +kernel : ∀ t : Fin grid0.N, _)
theorem in0 : (iblk m c 0 t : S2x16384x8192.Idx → EReal) = arg m c main_arg0 := by
  funext y
  refine (congrFun (V_main_arg0 m c) ((win0_0.blk t).view.emb y)).trans (congrArg (arg m c main_arg0) (funext fun a => Fin.ext ?_))
  match a with
  | ⟨0, _⟩ => blk_simp [x0]
  | ⟨1, _⟩ => blk_simp [x0]
  | ⟨2, _⟩ => blk_simp [x0]
theorem in1 : (iblk m c 1 t : S2x16384x64.Idx → EReal) = arg m c main_arg1 := by
  funext y
  refine (congrFun (V_main_arg1 m c) ((win0_1.blk t).view.emb y)).trans (congrArg (arg m c main_arg1) (funext fun a => Fin.ext ?_))
  match a with
  | ⟨0, _⟩ => blk_simp [x1]
  | ⟨1, _⟩ => blk_simp [x1]
  | ⟨2, _⟩ => blk_simp [x1]
theorem in2 : (iblk m c 2 t : S2x16384x8192.Idx → EReal) = arg m c main_arg2 := by
  funext y
  refine (congrFun (V_main_arg2 m c) ((win0_2.blk t).view.emb y)).trans (congrArg (arg m c main_arg2) (funext fun a => Fin.ext ?_))
  match a with
  | ⟨0, _⟩ => blk_simp [x2]
  | ⟨1, _⟩ => blk_simp [x2]
  | ⟨2, _⟩ => blk_simp [x2]
theorem in3 : (iblk m c 3 t : S2x16384x64.Idx → EReal) = arg m c main_arg3 := by
  funext y
  refine (congrFun (V_main_arg3 m c) ((win0_3.blk t).view.emb y)).trans (congrArg (arg m c main_arg3) (funext fun a => Fin.ext ?_))
  match a with
  | ⟨0, _⟩ => blk_simp [x3]
  | ⟨1, _⟩ => blk_simp [x3]
  | ⟨2, _⟩ => blk_simp [x3]
theorem in4 : (iblk m c 4 t : S2x16384x16.Idx → EReal) = arg m c main_arg4 := by
  funext y
  refine (congrFun (V_main_arg4 m c) ((win0_4.blk t).view.emb y)).trans (congrArg (arg m c main_arg4) (funext fun a => Fin.ext ?_))
  match a with
  | ⟨0, _⟩ => blk_simp [x4]
  | ⟨1, _⟩ => blk_simp [x4]
  | ⟨2, _⟩ => blk_simp [x4]
theorem in5 : (iblk m c 5 t : S2x16384.Idx → EReal) = arg m c main_arg5 := by
  funext y
  refine (congrFun (V_main_arg5 m c) ((win0_5.blk t).view.emb y)).trans (congrArg (arg m c main_arg5) (funext fun a => Fin.ext ?_))
  match a with
  | ⟨0, _⟩ => blk_simp [x5]
  | ⟨1, _⟩ => blk_simp [x5]
theorem in6 : (iblk m c 6 t : S2x16384x16.Idx → EReal) = arg m c main_arg6 := by
  funext y
  refine (congrFun (V_main_arg6 m c) ((win0_6.blk t).view.emb y)).trans (congrArg (arg m c main_arg6) (funext fun a => Fin.ext ?_))
  match a with
  | ⟨0, _⟩ => blk_simp [x6]
  | ⟨1, _⟩ => blk_simp [x6]
  | ⟨2, _⟩ => blk_simp [x6]
theorem in7 : (iblk m c 7 t : S2x16384.Idx → EReal) = arg m c main_arg7 := by
  funext y
  refine (congrFun (V_main_arg7 m c) ((win0_7.blk t).view.emb y)).trans (congrArg (arg m c main_arg7) (funext fun a => Fin.ext ?_))
  match a with
  | ⟨0, _⟩ => blk_simp [x7]
  | ⟨1, _⟩ => blk_simp [x7]
theorem in8 : (iblk m c 8 t : S2x16384x8192.Idx → EReal) = arg m c main_arg8 := by
  funext y
  refine (congrFun (V_main_arg8 m c) ((win0_8.blk t).view.emb y)).trans (congrArg (arg m c main_arg8) (funext fun a => Fin.ext ?_))
  match a with
  | ⟨0, _⟩ => blk_simp [x8]
  | ⟨1, _⟩ => blk_simp [x8]
  | ⟨2, _⟩ => blk_simp [x8]
theorem in9 : (iblk m c 9 t : S8192x16.Idx → EReal) = arg m c main_arg9 := by
  funext y
  refine (congrFun (V_main_arg9 m c) ((win0_9.blk t).view.emb y)).trans (congrArg (arg m c main_arg9) (funext fun a => Fin.ext ?_))
  match a with
  | ⟨0, _⟩ => blk_simp [x9]
  | ⟨1, _⟩ => blk_simp [x9]
theorem in10 : (iblk m c 10 t : S8192.Idx → EReal) = arg m c main_arg10 := by
  funext y
  refine (congrFun (V_main_arg10 m c) ((win0_10.blk t).view.emb y)).trans (congrArg (arg m c main_arg10) (funext fun a => Fin.ext ?_))
  match a with
  | ⟨0, _⟩ => blk_simp [x10]
theorem in11 : (iblk m c 11 t : S8192.Idx → EReal) = arg m c main_arg11 := by
  funext y
  refine (congrFun (V_main_arg11 m c) ((win0_11.blk t).view.emb y)).trans (congrArg (arg m c main_arg11) (funext fun a => Fin.ext ?_))
  match a with
  | ⟨0, _⟩ => blk_simp [x11]
/-- The outputs. -/
def yArr : Buf (Elt Ideal) ((c.tc : Thread nD τ).loc main_v0_0) := refY (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11)
/-- The last states. -/
def hArr : Buf (Elt Ideal) ((c.tc : Thread nD τ).loc main_v0_1) := refH (arg m c main_arg0) (arg m c main_arg1) (arg m c main_arg2) (arg m c main_arg3) (arg m c main_arg4) (arg m c main_arg5) (arg m c main_arg9) (arg m c main_arg11)
theorem arr12 : (dats m 0 c).arrAt 12 cfg0.N = yArr m c := by
  refine (dats m 0 c).arrAt_eq_of_covers 12 _ (by decide +kernel) fun t hf y => ?_
  rw [after0_12]
  have e : ((cfg0.win 12).blk t).view.emb y = y := funext fun a => Fin.ext (by
    match a with
    | ⟨0, _⟩ => blk_simp [x12]
    | ⟨1, _⟩ => blk_simp [x12]
    | ⟨2, _⟩ => blk_simp [x12])
  rw [in0, in1, in2, in3, in4, in5, in6, in7, in8, in9, in10, in11]
  exact congrArg (yArr m c) e.symm
theorem arr13 : (dats m 0 c).arrAt 13 cfg0.N = hArr m c := by
  refine (dats m 0 c).arrAt_eq_of_covers 13 _ (by decide +kernel) fun t hf y => ?_
  rw [after0_13]
  have e : ((cfg0.win 13).blk t).view.emb y = y := funext fun a => Fin.ext (by
    match a with
    | ⟨0, _⟩ => blk_simp [x13]
    | ⟨1, _⟩ => blk_simp [x13]
    | ⟨2, _⟩ => blk_simp [x13])
  rw [in0, in1, in2, in3, in4, in5, in9, in11]
  exact congrArg (hArr m c) e.symm
end Cert.ReferenceIdeal.Value
-- ==== Proof.Value.Algebra.lean ====
module

public import proofs.«01_k».proof.Proof.Value.Link
public import proofs.«01_k».proof.Proof.Value.Out
public import proofs.«01_k».proof.Proof.Value.RefOut
@[expose] public section
set_option maxRecDepth 16384
noncomputable section
/-! Both programs' runs with their results, and the results' equality. -/
namespace Cert.Link
open Idealize.ShloMosaic Idealize.ShloMosaic.TcCoe Idealize.ShloMosaic.Tactic
open Cert.Scan
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (g' : Dev Cert.ReferenceIdeal.nD → PrngReg)

set_option maxHeartbeats 1600000 in
/-- The kernel's run. -/
theorem kernel_run : θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v6_0) = Cert.KernelIdeal.Value.yArr m c
      ∧ r.2.mem ((c.tc : Thread Cert.KernelIdeal.nD Cert.KernelIdeal.τ).loc Cert.KernelIdeal.main_v8) = Cert.KernelIdeal.Value.hRes m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun _ h c => ⟨((h c).1 12).trans (Cert.KernelIdeal.Value.arr12 m c),
    ((h c).2 Cert.KernelIdeal.main_v8 (Pipeline.mem_restRefs_of Cert.KernelIdeal.main_v8 (by decide) (by decide))).trans (Cert.KernelIdeal.Value.tail_v8 m c),
    ((h c).1 0).trans (((Cert.KernelIdeal.Value.dats m 0 c).arrAt_in 0 rfl _).trans ((Cert.KernelIdeal.Value.A_eq m c 0).trans (Cert.KernelIdeal.Gen.V_main_arg0 m c))),
    ((h c).1 1).trans (((Cert.KernelIdeal.Value.dats m 0 c).arrAt_in 1 rfl _).trans ((Cert.KernelIdeal.Value.A_eq m c 1).trans (Cert.KernelIdeal.Gen.V_main_arg1 m c))),
    ((h c).1 2).trans (((Cert.KernelIdeal.Value.dats m 0 c).arrAt_in 2 rfl _).trans ((Cert.KernelIdeal.Value.A_eq m c 2).trans (Cert.KernelIdeal.Gen.V_main_arg2 m c))),
    ((h c).1 3).trans (((Cert.KernelIdeal.Value.dats m 0 c).arrAt_in 3 rfl _).trans ((Cert.KernelIdeal.Value.A_eq m c 3).trans (Cert.KernelIdeal.Gen.V_main_arg3 m c))),
    ((h c).1 4).trans (((Cert.KernelIdeal.Value.dats m 0 c).arrAt_in 4 rfl _).trans ((Cert.KernelIdeal.Value.A_eq m c 4).trans (Cert.KernelIdeal.Gen.V_main_arg4 m c))),
    (((h c).2 Cert.KernelIdeal.main_arg5 (Pipeline.mem_restRefs_of Cert.KernelIdeal.main_arg5 (by decide) (by decide))).trans (Cert.KernelIdeal.Gen.W_main_arg5 m (Cert.KernelIdeal.Value.dats m) c)),
    ((h c).1 6).trans (((Cert.KernelIdeal.Value.dats m 0 c).arrAt_in 6 rfl _).trans ((Cert.KernelIdeal.Value.A_eq m c 6).trans (Cert.KernelIdeal.Gen.V_main_arg6 m c))),
    (((h c).2 Cert.KernelIdeal.main_arg7 (Pipeline.mem_restRefs_of Cert.KernelIdeal.main_arg7 (by decide) (by decide))).trans (Cert.KernelIdeal.Gen.W_main_arg7 m (Cert.KernelIdeal.Value.dats m) c)),
    ((h c).1 8).trans (((Cert.KernelIdeal.Value.dats m 0 c).arrAt_in 8 rfl _).trans ((Cert.KernelIdeal.Value.A_eq m c 8).trans (Cert.KernelIdeal.Gen.V_main_arg8 m c))),
    (((h c).2 Cert.KernelIdeal.main_arg9 (Pipeline.mem_restRefs_of Cert.KernelIdeal.main_arg9 (by decide) (by decide))).trans (Cert.KernelIdeal.Gen.W_main_arg9 m (Cert.KernelIdeal.Value.dats m) c)),
    (((h c).2 Cert.KernelIdeal.main_arg10 (Pipeline.mem_restRefs_of Cert.KernelIdeal.main_arg10 (by decide) (by decide))).trans (Cert.KernelIdeal.Gen.W_main_arg10 m (Cert.KernelIdeal.Value.dats m) c)),
    (((h c).2 Cert.KernelIdeal.main_arg11 (Pipeline.mem_restRefs_of Cert.KernelIdeal.main_arg11 (by decide) (by decide))).trans (Cert.KernelIdeal.Gen.W_main_arg11 m (Cert.KernelIdeal.Value.dats m) c))⟩) (Cert.KernelIdeal.Value.run_main m g)

set_option maxHeartbeats 1600000 in
/-- The reference's run. -/
theorem reference_run : θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v0_0) = Cert.ReferenceIdeal.Value.yArr m' c
      ∧ r.2.mem ((c.tc : Thread Cert.ReferenceIdeal.nD Cert.ReferenceIdeal.τ).loc Cert.ReferenceIdeal.main_v0_1) = Cert.ReferenceIdeal.Value.hArr m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run Cert.ReferenceIdeal.defs _ _).mono (fun _ h c => ⟨((h c).1 12).trans (Cert.ReferenceIdeal.Value.arr12 m' c),
    ((h c).1 13).trans (Cert.ReferenceIdeal.Value.arr13 m' c),
    ((h c).1 0).trans (((Cert.ReferenceIdeal.Value.dats m' 0 c).arrAt_in 0 rfl _).trans ((Cert.ReferenceIdeal.Value.A_eq m' c 0).trans (Cert.ReferenceIdeal.Gen.V_main_arg0 m' c))),
    ((h c).1 1).trans (((Cert.ReferenceIdeal.Value.dats m' 0 c).arrAt_in 1 rfl _).trans ((Cert.ReferenceIdeal.Value.A_eq m' c 1).trans (Cert.ReferenceIdeal.Gen.V_main_arg1 m' c))),
    ((h c).1 2).trans (((Cert.ReferenceIdeal.Value.dats m' 0 c).arrAt_in 2 rfl _).trans ((Cert.ReferenceIdeal.Value.A_eq m' c 2).trans (Cert.ReferenceIdeal.Gen.V_main_arg2 m' c))),
    ((h c).1 3).trans (((Cert.ReferenceIdeal.Value.dats m' 0 c).arrAt_in 3 rfl _).trans ((Cert.ReferenceIdeal.Value.A_eq m' c 3).trans (Cert.ReferenceIdeal.Gen.V_main_arg3 m' c))),
    ((h c).1 4).trans (((Cert.ReferenceIdeal.Value.dats m' 0 c).arrAt_in 4 rfl _).trans ((Cert.ReferenceIdeal.Value.A_eq m' c 4).trans (Cert.ReferenceIdeal.Gen.V_main_arg4 m' c))),
    ((h c).1 5).trans (((Cert.ReferenceIdeal.Value.dats m' 0 c).arrAt_in 5 rfl _).trans ((Cert.ReferenceIdeal.Value.A_eq m' c 5).trans (Cert.ReferenceIdeal.Gen.V_main_arg5 m' c))),
    ((h c).1 6).trans (((Cert.ReferenceIdeal.Value.dats m' 0 c).arrAt_in 6 rfl _).trans ((Cert.ReferenceIdeal.Value.A_eq m' c 6).trans (Cert.ReferenceIdeal.Gen.V_main_arg6 m' c))),
    ((h c).1 7).trans (((Cert.ReferenceIdeal.Value.dats m' 0 c).arrAt_in 7 rfl _).trans ((Cert.ReferenceIdeal.Value.A_eq m' c 7).trans (Cert.ReferenceIdeal.Gen.V_main_arg7 m' c))),
    ((h c).1 8).trans (((Cert.ReferenceIdeal.Value.dats m' 0 c).arrAt_in 8 rfl _).trans ((Cert.ReferenceIdeal.Value.A_eq m' c 8).trans (Cert.ReferenceIdeal.Gen.V_main_arg8 m' c))),
    ((h c).1 9).trans (((Cert.ReferenceIdeal.Value.dats m' 0 c).arrAt_in 9 rfl _).trans ((Cert.ReferenceIdeal.Value.A_eq m' c 9).trans (Cert.ReferenceIdeal.Gen.V_main_arg9 m' c))),
    ((h c).1 10).trans (((Cert.ReferenceIdeal.Value.dats m' 0 c).arrAt_in 10 rfl _).trans ((Cert.ReferenceIdeal.Value.A_eq m' c 10).trans (Cert.ReferenceIdeal.Gen.V_main_arg10 m' c))),
    ((h c).1 11).trans (((Cert.ReferenceIdeal.Value.dats m' 0 c).arrAt_in 11 rfl _).trans ((Cert.ReferenceIdeal.Value.A_eq m' c 11).trans (Cert.ReferenceIdeal.Gen.V_main_arg11 m' c)))⟩) (Cert.ReferenceIdeal.Value.run_main m' g')

/-- The two programs are launched on the same arguments. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- The outputs are equal. -/
theorem y_eq (c : Dev Cert.KernelIdeal.nD) (h : Agree m m' c) : Cert.ReferenceIdeal.Value.yArr m' c = Cert.KernelIdeal.Value.yArr m c := by
  obtain ⟨a0, a1, a2, a3, a4, a5, a6, a7, a8, a9, a10, a11⟩ := h
  funext ix
  obtain ⟨b, T, d, rfl⟩ : ∃ (b : Fin 2) (T : Fin 16384) (d : Fin 8192), ix = ix3 b T d := ⟨_, _, _, eq_ix3 ix⟩
  refine Eq.trans ?_ (yv_eq (Cert.KernelIdeal.Value.ins m c) b d T).symm
  unfold Cert.ReferenceIdeal.Value.yArr Cert.ReferenceIdeal.Value.arg
  rw [a0, a1, a2, a3, a4, a5, a6, a7, a8, a9, a10, a11]
  rfl
/-- The last states are equal. -/
theorem h_eq (c : Dev Cert.KernelIdeal.nD) (h : Agree m m' c) : Cert.ReferenceIdeal.Value.hArr m' c = Cert.KernelIdeal.Value.hRes m c := by
  obtain ⟨a0, a1, a2, a3, a4, a5, a6, a7, a8, a9, a10, a11⟩ := h
  funext ix
  obtain ⟨b, d, n, rfl⟩ : ∃ (b : Fin 2) (d : Fin 8192) (n : Fin 16), ix = ix3 b d n := ⟨_, _, _, eq_ix3 ix⟩
  refine Eq.trans ?_ (st_eq (Cert.KernelIdeal.Value.ins m c) b d n 16384 (le_refl _)).symm
  unfold Cert.ReferenceIdeal.Value.hArr Cert.ReferenceIdeal.Value.arg
  rw [a0, a1, a2, a3, a4, a5, a9, a11]
  rfl
end Cert.Link
-- ==== Proof.lean ====
module

public import proofs.«01_k».proof.Defs
public import proofs.«01_k».proof.Proof.Kernel.FrameRun
public import proofs.«01_k».proof.Proof.KernelIdeal.FrameRun
public import proofs.«01_k».proof.Proof.ReferenceIdeal.FrameRun
public import proofs.«01_k».proof.Proof.Value.Algebra

@[expose] public section
noncomputable section
namespace Cert.Proof
open Idealize.ShloMosaic

/-- The kernel's frame, at the machine's floats. -/
theorem quiescent_Kernel : Cert.quiescent_Kernel (hKernel := Cert.Kernel.Gen.facts) :=
  fun m g _ => Cert.Kernel.Frame.frame m g
/-- The idealized kernel's frame. -/
theorem quiescent_KernelIdeal : Cert.quiescent_KernelIdeal (hKernelIdeal := Cert.KernelIdeal.Gen.facts) :=
  fun m g _ => Cert.KernelIdeal.Frame.frame m g
/-- The reference's frame. -/
theorem quiescent_ReferenceIdeal : Cert.quiescent_ReferenceIdeal (hReferenceIdeal := Cert.ReferenceIdeal.Gen.facts) :=
  fun m g _ => Cert.ReferenceIdeal.Frame.frame m g
/-- Every named constant of the idealized kernel rounds to the word the kernel has in its place. -/
theorem preserves : Cert.preserves_Kernel_KernelIdeal :=
  ⟨IdealRules.named_const.statement Cert.KernelIdeal.κ "log2_e" .f32 0x3FB8AA3B#32 (((Real.log 2)⁻¹ : ℝ) : EReal) rfl,
   IdealRules.named_const.statement Cert.KernelIdeal.κ "neg_log2_e" .f32 0xBFB8AA3B#32 ((-((Real.log 2)⁻¹) : ℝ) : EReal) rfl,
   IdealRules.named_const.statement Cert.KernelIdeal.κ "ln_2" .f32 0x3F317218#32 ((Real.log 2 : ℝ) : EReal) rfl⟩

/-- The idealized kernel and the reference end with equal results. -/
theorem algebraic : Cert.algebraic_KernelIdeal_ReferenceIdeal (hKernelIdeal := Cert.KernelIdeal.Gen.facts) (hReferenceIdeal := Cert.ReferenceIdeal.Gen.facts) :=
  fun m g m' g' _ h => ⟨fun c => Cert.KernelIdeal.Value.yArr m c, fun c => Cert.KernelIdeal.Value.hRes m c, Cert.Link.kernel_run m g,
    (θ_run Cert.ReferenceIdeal.defs _ _).mono (fun _ e c => ⟨(e c).1.trans (Cert.Link.y_eq m m' c (h c)), (e c).2.1.trans (Cert.Link.h_eq m m' c (h c)), (e c).2.2⟩) (Cert.Link.reference_run m' g')⟩

theorem claim : Cert.Claim := ⟨Cert.Kernel.Gen.facts, Cert.KernelIdeal.Gen.facts, Cert.ReferenceIdeal.Gen.facts,
  quiescent_Kernel, quiescent_KernelIdeal, quiescent_ReferenceIdeal, preserves, algebraic⟩
end Cert.Proof
